-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positive_scale [hPre_positive_scale : Cert.Pre_positive_scale.Facts] (m : (ℓ : Loc Cert.KernelIdeal.nD Cert.KernelIdeal.τ Cert.KernelIdeal.sig) → Buf (Elt Ideal) ℓ) : Prop :=
  ∀ c : Dev Cert.KernelIdeal.nD,
    (Cert.Pre_positive_scale.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive_scale [hPre_positive_scale : Cert.Pre_positive_scale.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive_scale.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_positive_scale [hKernelIdeal : Cert.KernelIdeal.Facts] [hPre_positive_scale : Cert.Pre_positive_scale.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive_scale m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_positive_scale [hReferenceIdeal : Cert.ReferenceIdeal.Facts] [hPre_positive_scale : Cert.Pre_positive_scale.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive_scale m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_positive_scale [hKernelIdeal : Cert.KernelIdeal.Facts] [hReferenceIdeal : Cert.ReferenceIdeal.Facts] [hPre_positive_scale : Cert.Pre_positive_scale.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive_scale m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24_0) = v0 c
          ∧ r.2.mem ((c.tc : Thread Cert.ReferenceIdeal.nD Cert.ReferenceIdeal.τ).loc Cert.ReferenceIdeal.main_v24_1) = v1 c
          ∧ r.2.mem ((c.tc : Thread Cert.ReferenceIdeal.nD Cert.ReferenceIdeal.τ).loc Cert.ReferenceIdeal.main_v24_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_positive_scale : Cert.Pre_positive_scale.Facts),
    quiescent_Kernel (hKernel := hKernel)
    ∧ quiescent_KernelIdeal (hKernelIdeal := hKernelIdeal)
    ∧ quiescent_KernelIdeal_pre_positive_scale (hKernelIdeal := hKernelIdeal) (hPre_positive_scale := hPre_positive_scale)
    ∧ quiescent_ReferenceIdeal (hReferenceIdeal := hReferenceIdeal)
    ∧ quiescent_ReferenceIdeal_pre_positive_scale (hReferenceIdeal := hReferenceIdeal) (hPre_positive_scale := hPre_positive_scale)
    ∧ preserves_Kernel_KernelIdeal
    ∧ algebraic_KernelIdeal_ReferenceIdeal_pre_positive_scale (hKernelIdeal := hKernelIdeal) (hReferenceIdeal := hReferenceIdeal) (hPre_positive_scale := hPre_positive_scale)
-- ==== Pre_positive_scale.lean ====
abbrev S16 : Shape := ⟨1, ![16]⟩
abbrev S2 : Shape := ⟨1, ![2]⟩
abbrev S2880x1152 : Shape := ⟨2, ![2880, 1152]⟩
abbrev S3x384x5760 : Shape := ⟨3, ![3, 384, 5760]⟩
abbrev S72x5760 : Shape := ⟨2, ![72, 5760]⟩
abbrev S1 : Shape := ⟨1, ![1]⟩
abbrev S_ : Shape := ⟨0, ![]⟩

class Facts : Prop where
  slices_S2_S1_1 : S2.Slices ![1] S1
  shapeCasts_S1_S_ : S1.ShapeCasts S_

variable [Facts]

def fn {F : FTy → Type} [FloatOps F] (main_arg0 : FVec F S16 .f32) (main_arg1 : FVec F S2 .f32) (main_arg2 : FVec F S2880x1152 .bf16) (main_arg3 : FVec F S3x384x5760 .bf16) (main_arg4 : IVec S3x384x5760 8) (main_arg5 : FVec F S72x5760 .f32) : IVec S_ 1 :=
  let main_v0 : FVec F S1 .f32 := (extractStridedSlice S1 ![1] · slices_S2_S1_1) main_arg1
  let main_v1 : FVec F S_ .f32 := shapeCast S_ main_v0 shapeCasts_S1_S_
  let main_cst : FVec F S_ .f32 := constant S_ .f32 0x00000000#32
  let main_v2 : IVec S_ 1 := cmpf .ogt main_v1 main_cst
  main_v2
-- ==== Kernel.lean ====
abbrev S16 : Shape := ⟨1, ![16]⟩
abbrev S2 : Shape := ⟨1, ![2]⟩
abbrev S2880x1152 : Shape := ⟨2, ![2880, 1152]⟩
abbrev S3x384x5760 : Shape := ⟨3, ![3, 384, 5760]⟩
abbrev S72x5760 : Shape := ⟨2, ![72, 5760]⟩
abbrev S2880x5760 : Shape := ⟨2, ![2880, 5760]⟩
abbrev S3x192x5760 : Shape := ⟨3, ![3, 192, 5760]⟩
abbrev S3x24x5760 : Shape := ⟨3, ![3, 24, 5760]⟩
abbrev S3x384x512 : Shape := ⟨3, ![3, 384, 512]⟩
abbrev S72x512 : Shape := ⟨2, ![72, 512]⟩
abbrev S2880x512 : Shape := ⟨2, ![2880, 512]⟩
abbrev S3x192x512 : Shape := ⟨3, ![3, 192, 512]⟩
abbrev S3x24x512 : Shape := ⟨3, ![3, 24, 512]⟩
abbrev S1152x512 : Shape := ⟨2, ![1152, 512]⟩
abbrev S288x128 : Shape := ⟨2, ![288, 128]⟩
abbrev S144x128 : Shape := ⟨2, ![144, 128]⟩
abbrev S128x128 : Shape := ⟨2, ![128, 128]⟩
abbrev S1 : Shape := ⟨1, ![1]⟩
abbrev S1x128x128 : Shape := ⟨3, ![1, 128, 128]⟩
abbrev S8x128 : Shape := ⟨2, ![8, 128]⟩
abbrev S1x8x128 : Shape := ⟨3, ![1, 8, 128]⟩
abbrev S32x128 : Shape := ⟨2, ![32, 128]⟩
abbrev S1x32x128 : Shape := ⟨3, ![1, 32, 128]⟩
abbrev S32x1x128 : Shape := ⟨3, ![32, 1, 128]⟩
abbrev S32x2x128 : Shape := ⟨3, ![32, 2, 128]⟩
abbrev S64x128 : Shape := ⟨2, ![64, 128]⟩
abbrev S1x128 : Shape := ⟨2, ![1, 128]⟩
abbrev S16x128 : Shape := ⟨2, ![16, 128]⟩
abbrev S320x1152 : Shape := ⟨2, ![320, 1152]⟩
abbrev S320x512 : Shape := ⟨2, ![320, 512]⟩

abbrev nBuf : Space → Nat
  | .hbm => 9
  | .vmem => 17
  | .smem => 2
  | _ => 0

abbrev bufTy : (tb : Table) → Fin (tcTables nBuf tb) → BufTy
  | .hbm, ⟨0, _⟩ => ⟨S16, .f32⟩
  | .hbm, ⟨1, _⟩ => ⟨S2, .f32⟩
  | .hbm, ⟨2, _⟩ => ⟨S2880x1152, .bf16⟩
  | .hbm, ⟨3, _⟩ => ⟨S3x384x5760, .bf16⟩
  | .hbm, ⟨4, _⟩ => ⟨S3x384x5760, .i8⟩
  | .hbm, ⟨5, _⟩ => ⟨S72x5760, .f32⟩
  | .hbm, ⟨6, _⟩ => ⟨S2880x5760, .f32⟩
  | .hbm, ⟨7, _⟩ => ⟨S3x192x5760, .i8⟩
  | .hbm, ⟨8, _⟩ => ⟨S3x24x5760, .fp8e4m3⟩
  | .local _ .vmem, ⟨0, _⟩ => ⟨S2880x1152, .bf16⟩
  | .local _ .vmem, ⟨1, _⟩ => ⟨S3x384x512, .bf16⟩
  | .local _ .vmem, ⟨2, _⟩ => ⟨S3x384x512, .bf16⟩
  | .local _ .vmem, ⟨3, _⟩ => ⟨S3x384x512, .i8⟩
  | .local _ .vmem, ⟨4, _⟩ => ⟨S3x384x512, .i8⟩
  | .local _ .vmem, ⟨5, _⟩ => ⟨S72x512, .f32⟩
  | .local _ .vmem, ⟨6, _⟩ => ⟨S72x512, .f32⟩
  | .local _ .vmem, ⟨7, _⟩ => ⟨S2880x512, .f32⟩
  | .local _ .vmem, ⟨8, _⟩ => ⟨S2880x512, .f32⟩
  | .local _ .vmem, ⟨9, _⟩ => ⟨S3x192x512, .i8⟩
  | .local _ .vmem, ⟨10, _⟩ => ⟨S3x192x512, .i8⟩
  | .local _ .vmem, ⟨11, _⟩ => ⟨S3x24x512, .fp8e4m3⟩
  | .local _ .vmem, ⟨12, _⟩ => ⟨S3x24x512, .fp8e4m3⟩
  | .local _ .vmem, ⟨13, _⟩ => ⟨S1152x512, .bf16⟩
  | .local _ .vmem, ⟨14, _⟩ => ⟨S72x512, .f32⟩
  | .local _ .vmem, ⟨15, _⟩ => ⟨S288x128, .i32⟩
  | .local _ .vmem, ⟨16, _⟩ => ⟨S144x128, .i32⟩
  | .local _ .smem, ⟨0, _⟩ => ⟨S16, .f32⟩
  | .local _ .smem, ⟨1, _⟩ => ⟨S2, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![12], ![false]⟩

@[reducible] def k0_t1_loop : Scf.Loop 32 :=
  let c0_i32_31 : BitVec 32 := 0#32
  let c4_i32_32 : BitVec 32 := 4#32
  let v181 : BitVec 32 := Scalar.addi c0_i32_31 c4_i32_32
  let c1_i32_33 : BitVec 32 := 1#32
  ⟨c0_i32_31, v181, c1_i32_33⟩
@[reducible] def k0_t2_loop : Scf.Loop 32 :=
  let c0_i32_93 : BitVec 32 := 0#32
  let c3_i32_94 : BitVec 32 := 3#32
  let v240 : BitVec 32 := Scalar.addi c0_i32_93 c3_i32_94
  let c1_i32_95 : BitVec 32 := 1#32
  ⟨c0_i32_93, v240, c1_i32_95⟩
@[reducible] def k0_t3_loop : Scf.Loop 32 :=
  let c0_i32_99 : BitVec 32 := 0#32
  let c3_i32_100 : BitVec 32 := 3#32
  let v243 : BitVec 32 := Scalar.addi c0_i32_99 c3_i32_100
  let c1_i32_101 : BitVec 32 := 1#32
  ⟨c0_i32_99, v243, c1_i32_101⟩
def k0_mult1 (k0_t1 : Fin k0_t1_loop.trips) : BitVec 32 :=
  let c0_i32_92 : BitVec 32 := 0#32
  let c0_i32_31 : BitVec 32 := 0#32
  let c1_i32_33 : BitVec 32 := 1#32
  let arg14 : BitVec 32 := Scf.iv c0_i32_31 c1_i32_33 k0_t1
  let c1_i32_91 : BitVec 32 := 1#32
  let v238 : BitVec 32 := Scalar.muli arg14 c1_i32_91
  let v239 : BitVec 32 := Scalar.addi c0_i32_92 v238
  let c128_i32 : BitVec 32 := 128#32
  let v246 : BitVec 32 := Scalar.muli v239 c128_i32
  v246
def k0_off1 (k0_t1 : Fin k0_t1_loop.trips) (k0_t2 : Fin k0_t2_loop.trips) (k0_t3 : Fin k0_t3_loop.trips) : Fin 3 → Nat :=
  let c0_i32_98 : BitVec 32 := 0#32
  let c0_i32_93 : BitVec 32 := 0#32
  let c1_i32_95 : BitVec 32 := 1#32
  let arg15 : BitVec 32 := Scf.iv c0_i32_93 c1_i32_95 k0_t2
  let c1_i32_97 : BitVec 32 := 1#32
  let v241 : BitVec 32 := Scalar.muli arg15 c1_i32_97
  let v242 : BitVec 32 := Scalar.addi c0_i32_98 v241
  let v251 : Index := Scalar.indexCast v242
  let c0_i32_104 : BitVec 32 := 0#32
  let c0_i32_99 : BitVec 32 := 0#32
  let c1_i32_101 : BitVec 32 := 1#32
  let arg16 : BitVec 32 := Scf.iv c0_i32_99 c1_i32_101 k0_t3
  let c1_i32_103 : BitVec 32 := 1#32
  let v244 : BitVec 32 := Scalar.muli arg16 c1_i32_103
  let v245 : BitVec 32 := Scalar.addi c0_i32_104 v244
  let c128_i32_106 : BitVec 32 := 128#32
  let v250 : BitVec 32 := Scalar.muli v245 c128_i32_106
  let v252 : Index := Scalar.indexCast v250
  let c0_i32_92 : BitVec 32 := 0#32
  let c0_i32_31 : BitVec 32 := 0#32
  let c1_i32_33 : BitVec 32 := 1#32
  let arg14 : BitVec 32 := Scf.iv c0_i32_31 c1_i32_33 k0_t1
  let c1_i32_91 : BitVec 32 := 1#32
  let v238 : BitVec 32 := Scalar.muli arg14 c1_i32_91
  let v239 : BitVec 32 := Scalar.addi c0_i32_92 v238
  let c128_i32 : BitVec 32 := 128#32
  let v246 : BitVec 32 := Scalar.muli v239 c128_i32
  let v247 : BitVec 32 := v246
  let v253 : Index := Scalar.indexCast v247
  ![v251.toNat, v252.toNat, v253.toNat]
def k0_off2 (k0_t1 : Fin k0_t1_loop.trips) (k0_t2 : Fin k0_t2_loop.trips) (k0_t3 : Fin k0_t3_loop.trips) : Fin 2 → Nat :=
  let c0_i32_98 : BitVec 32 := 0#32
  let c0_i32_93 : BitVec 32 := 0#32
  let c1_i32_95 : BitVec 32 := 1#32
  let arg15 : BitVec 32 := Scf.iv c0_i32_93 c1_i32_95 k0_t2
  let c1_i32_97 : BitVec 32 := 1#32
  let v241 : BitVec 32 := Scalar.muli arg15 c1_i32_97
  let v242 : BitVec 32 := Scalar.addi c0_i32_98 v241
  let c3_i32_105 : BitVec 32 := 3#32
  let v248 : BitVec 32 := Scalar.muli v242 c3_i32_105
  let c0_i32_104 : BitVec 32 := 0#32
  let c0_i32_99 : BitVec 32 := 0#32
  let c1_i32_101 : BitVec 32 := 1#32
  let arg16 : BitVec 32 := Scf.iv c0_i32_99 c1_i32_101 k0_t3
  let c1_i32_103 : BitVec 32 := 1#32
  let v244 : BitVec 32 := Scalar.muli arg16 c1_i32_103
  let v245 : BitVec 32 := Scalar.addi c0_i32_104 v244
  let v249 : BitVec 32 := Scalar.addi v248 v245
  let c8_i32_108 : BitVec 32 := 8#32
  let v257 : BitVec 32 := Scalar.muli v249 c8_i32_108
  let v258 : Index := Scalar.indexCast v257
  let c0_i32_92 : BitVec 32 := 0#32
  let c0_i32_31 : BitVec 32 := 0#32
  let c1_i32_33 : BitVec 32 := 1#32
  let arg14 : BitVec 32 := Scf.iv c0_i32_31 c1_i32_33 k0_t1
  let c1_i32_91 : BitVec 32 := 1#32
  let v238 : BitVec 32 := Scalar.muli arg14 c1_i32_91
  let v239 : BitVec 32 := Scalar.addi c0_i32_92 v238
  let c128_i32 : BitVec 32 := 128#32
  let v246 : BitVec 32 := Scalar.muli v239 c128_i32
  let v247 : BitVec 32 := v246
  let v259 : Index := Scalar.indexCast v247
  ![v258.toNat, v259.toNat]
def k0_off3 (k0_t1 : Fin k0_t1_loop.trips) (k0_t2 : Fin k0_t2_loop.trips) (k0_t3 : Fin k0_t3_loop.trips) : Fin 3 → Nat :=
  let c0_i32_98 : BitVec 32 := 0#32
  let c0_i32_93 : BitVec 32 := 0#32
  let c1_i32_95 : BitVec 32 := 1#32
  let arg15 : BitVec 32 := Scf.iv c0_i32_93 c1_i32_95 k0_t2
  let c1_i32_97 : BitVec 32 := 1#32
  let v241 : BitVec 32 := Scalar.muli arg15 c1_i32_97
  let v242 : BitVec 32 := Scalar.addi c0_i32_98 v241
  let v283 : Index := Scalar.indexCast v242
  let c0_i32_104 : BitVec 32 := 0#32
  let c0_i32_99 : BitVec 32 := 0#32
  let c1_i32_101 : BitVec 32 := 1#32
  let arg16 : BitVec 32 := Scf.iv c0_i32_99 c1_i32_101 k0_t3
  let c1_i32_103 : BitVec 32 := 1#32
  let v244 : BitVec 32 := Scalar.muli arg16 c1_i32_103
  let v245 : BitVec 32 := Scalar.addi c0_i32_104 v244
  let c8_i32_117 : BitVec 32 := 8#32
  let v282 : BitVec 32 := Scalar.muli v245 c8_i32_117
  let v284 : Index := Scalar.indexCast v282
  let c0_i32_92 : BitVec 32 := 0#32
  let c0_i32_31 : BitVec 32 := 0#32
  let c1_i32_33 : BitVec 32 := 1#32
  let arg14 : BitVec 32 := Scf.iv c0_i32_31 c1_i32_33 k0_t1
  let c1_i32_91 : BitVec 32 := 1#32
  let v238 : BitVec 32 := Scalar.muli arg14 c1_i32_91
  let v239 : BitVec 32 := Scalar.addi c0_i32_92 v238
  let c128_i32 : BitVec 32 := 128#32
  let v246 : BitVec 32 := Scalar.muli v239 c128_i32
  let v247 : BitVec 32 := v246
  let v285 : Index := Scalar.indexCast v247
  ![v283.toNat, v284.toNat, v285.toNat]
def k0_off4 (k0_t2 : Fin k0_t2_loop.trips) (k0_t3 : Fin k0_t3_loop.trips) : Fin 2 → Nat :=
  let c0_i32_98 : BitVec 32 := 0#32
  let c0_i32_93 : BitVec 32 := 0#32
  let c1_i32_95 : BitVec 32 := 1#32
  let arg15 : BitVec 32 := Scf.iv c0_i32_93 c1_i32_95 k0_t2
  let c1_i32_97 : BitVec 32 := 1#32
  let v241 : BitVec 32 := Scalar.muli arg15 c1_i32_97
  let v242 : BitVec 32 := Scalar.addi c0_i32_98 v241
  let c3_i32_105 : BitVec 32 := 3#32
  let v248 : BitVec 32 := Scalar.muli v242 c3_i32_105
  let c0_i32_104 : BitVec 32 := 0#32
  let c0_i32_99 : BitVec 32 := 0#32
  let c1_i32_101 : BitVec 32 := 1#32
  let arg16 : BitVec 32 := Scf.iv c0_i32_99 c1_i32_101 k0_t3
  let c1_i32_103 : BitVec 32 := 1#32
  let v244 : BitVec 32 := Scalar.muli arg16 c1_i32_103
  let v245 : BitVec 32 := Scalar.addi c0_i32_104 v244
  let v249 : BitVec 32 := Scalar.addi v248 v245
  let c32_i32 : BitVec 32 := 32#32
  let v305 : BitVec 32 := Scalar.muli v249 c32_i32
  let v306 : Index := Scalar.indexCast v305
  let c0_122 : Index := 0#32
  ![v306.toNat, 0]
def k0_off5 (k0_t2 : Fin k0_t2_loop.trips) (k0_t3 : Fin k0_t3_loop.trips) (c0_i32_124 : BitVec 32) : Fin 2 → Nat :=
  let c0_i32_98 : BitVec 32 := 0#32
  let c0_i32_93 : BitVec 32 := 0#32
  let c1_i32_95 : BitVec 32 := 1#32
  let arg15 : BitVec 32 := Scf.iv c0_i32_93 c1_i32_95 k0_t2
  let c1_i32_97 : BitVec 32 := 1#32
  let v241 : BitVec 32 := Scalar.muli arg15 c1_i32_97
  let v242 : BitVec 32 := Scalar.addi c0_i32_98 v241
  let c3_i32_105 : BitVec 32 := 3#32
  let v248 : BitVec 32 := Scalar.muli v242 c3_i32_105
  let c0_i32_104 : BitVec 32 := 0#32
  let c0_i32_99 : BitVec 32 := 0#32
  let c1_i32_101 : BitVec 32 := 1#32
  let arg16 : BitVec 32 := Scf.iv c0_i32_99 c1_i32_101 k0_t3
  let c1_i32_103 : BitVec 32 := 1#32
  let v244 : BitVec 32 := Scalar.muli arg16 c1_i32_103
  let v245 : BitVec 32 := Scalar.addi c0_i32_104 v244
  let v249 : BitVec 32 := Scalar.addi v248 v245
  let c32_i32_123 : BitVec 32 := 32#32
  let v310 : BitVec 32 := Scalar.muli v249 c32_i32_123
  let v311 : BitVec 32 := Scalar.addi v310 c0_i32_124
  let v312 : Index := Scalar.indexCast v311
  let c0_125 : Index := 0#32
  ![v312.toNat, 0]
def k0_off6 (k0_t2 : Fin k0_t2_loop.trips) (k0_t3 : Fin k0_t3_loop.trips) (c0_i32_503 : BitVec 32) : Fin 2 → Nat :=
  let c0_i32_98 : BitVec 32 := 0#32
  let c0_i32_93 : BitVec 32 := 0#32
  let c1_i32_95 : BitVec 32 := 1#32
  let arg15 : BitVec 32 := Scf.iv c0_i32_93 c1_i32_95 k0_t2
  let c1_i32_97 : BitVec 32 := 1#32
  let v241 : BitVec 32 := Scalar.muli arg15 c1_i32_97
  let v242 : BitVec 32 := Scalar.addi c0_i32_98 v241
  let c3_i32_105 : BitVec 32 := 3#32
  let v248 : BitVec 32 := Scalar.muli v242 c3_i32_105
  let c0_i32_104 : BitVec 32 := 0#32
  let c0_i32_99 : BitVec 32 := 0#32
  let c1_i32_101 : BitVec 32 := 1#32
  let arg16 : BitVec 32 := Scf.iv c0_i32_99 c1_i32_101 k0_t3
  let c1_i32_103 : BitVec 32 := 1#32
  let v244 : BitVec 32 := Scalar.muli arg16 c1_i32_103
  let v245 : BitVec 32 := Scalar.addi c0_i32_104 v244
  let v249 : BitVec 32 := Scalar.addi v248 v245
  let c16_i32_502 : BitVec 32 := 16#32
  let v1218 : BitVec 32 := Scalar.muli v249 c16_i32_502
  let v1219 : BitVec 32 := Scalar.addi v1218 c0_i32_503
  let v1220 : Index := Scalar.indexCast v1219
  let c0_504 : Index := 0#32
  ![v1220.toNat, 0]
def k0_off7 (k0_t2 : Fin k0_t2_loop.trips) (k0_t3 : Fin k0_t3_loop.trips) (c0_i32_519 : BitVec 32) : Fin 2 → Nat :=
  let c0_i32_98 : BitVec 32 := 0#32
  let c0_i32_93 : BitVec 32 := 0#32
  let c1_i32_95 : BitVec 32 := 1#32
  let arg15 : BitVec 32 := Scf.iv c0_i32_93 c1_i32_95 k0_t2
  let c1_i32_97 : BitVec 32 := 1#32
  let v241 : BitVec 32 := Scalar.muli arg15 c1_i32_97
  let v242 : BitVec 32 := Scalar.addi c0_i32_98 v241
  let c3_i32_105 : BitVec 32 := 3#32
  let v248 : BitVec 32 := Scalar.muli v242 c3_i32_105
  let c0_i32_104 : BitVec 32 := 0#32
  let c0_i32_99 : BitVec 32 := 0#32
  let c1_i32_101 : BitVec 32 := 1#32
  let arg16 : BitVec 32 := Scf.iv c0_i32_99 c1_i32_101 k0_t3
  let c1_i32_103 : BitVec 32 := 1#32
  let v244 : BitVec 32 := Scalar.muli arg16 c1_i32_103
  let v245 : BitVec 32 := Scalar.addi c0_i32_104 v244
  let v249 : BitVec 32 := Scalar.addi v248 v245
  let c16_i32_518 : BitVec 32 := 16#32
  let v1258 : BitVec 32 := Scalar.muli v249 c16_i32_518
  let v1259 : BitVec 32 := Scalar.addi v1258 c0_i32_519
  let v1260 : Index := Scalar.indexCast v1259
  let c0_520 : Index := 0#32
  ![v1260.toNat, 0]
def k0_off8 (k0_t1 : Fin k0_t1_loop.trips) (k0_t2 : Fin k0_t2_loop.trips) (k0_t3 : Fin k0_t3_loop.trips) (c0_i32_522 : BitVec 32) : Fin 3 → Nat :=
  let c0_i32_98 : BitVec 32 := 0#32
  let c0_i32_93 : BitVec 32 := 0#32
  let c1_i32_95 : BitVec 32 := 1#32
  let arg15 : BitVec 32 := Scf.iv c0_i32_93 c1_i32_95 k0_t2
  let c1_i32_97 : BitVec 32 := 1#32
  let v241 : BitVec 32 := Scalar.muli arg15 c1_i32_97
  let v242 : BitVec 32 := Scalar.addi c0_i32_98 v241
  let v1266 : Index := Scalar.indexCast v242
  let c0_i32_104 : BitVec 32 := 0#32
  let c0_i32_99 : BitVec 32 := 0#32
  let c1_i32_101 : BitVec 32 := 1#32
  let arg16 : BitVec 32 := Scf.iv c0_i32_99 c1_i32_101 k0_t3
  let c1_i32_103 : BitVec 32 := 1#32
  let v244 : BitVec 32 := Scalar.muli arg16 c1_i32_103
  let v245 : BitVec 32 := Scalar.addi c0_i32_104 v244
  let c16_i32_521 : BitVec 32 := 16#32
  let v1263 : BitVec 32 := Scalar.muli v245 c16_i32_521
  let v1264 : BitVec 32 := Scalar.addi v1263 c0_i32_522
  let c4_i32_523 : BitVec 32 := 4#32
  let v1265 : BitVec 32 := Scalar.muli v1264 c4_i32_523
  let v1267 : Index := Scalar.indexCast v1265
  let c0_i32_92 : BitVec 32 := 0#32
  let c0_i32_31 : BitVec 32 := 0#32
  let c1_i32_33 : BitVec 32 := 1#32
  let arg14 : BitVec 32 := Scf.iv c0_i32_31 c1_i32_33 k0_t1
  let c1_i32_91 : BitVec 32 := 1#32
  let v238 : BitVec 32 := Scalar.muli arg14 c1_i32_91
  let v239 : BitVec 32 := Scalar.addi c0_i32_92 v238
  let c128_i32 : BitVec 32 := 128#32
  let v246 : BitVec 32 := Scalar.muli v239 c128_i32
  let v247 : BitVec 32 := v246
  let v1268 : Index := Scalar.indexCast v247
  ![v1266.toNat, v1267.toNat, v1268.toNat]
def k0_off9 (k0_t1 : Fin k0_t1_loop.trips) (k0_t2 : Fin k0_t2_loop.trips) (k0_t3 : Fin k0_t3_loop.trips) (c0_i32_525 : BitVec 32) (c0_i32_537 : BitVec 32) : Fin 2 → Nat :=
  let c0_i32_98 : BitVec 32 := 0#32
  let c0_i32_93 : BitVec 32 := 0#32
  let c1_i32_95 : BitVec 32 := 1#32
  let arg15 : BitVec 32 := Scf.iv c0_i32_93 c1_i32_95 k0_t2
  let c1_i32_97 : BitVec 32 := 1#32
  let v241 : BitVec 32 := Scalar.muli arg15 c1_i32_97
  let v242 : BitVec 32 := Scalar.addi c0_i32_98 v241
  let c3_i32_105 : BitVec 32 := 3#32
  let v248 : BitVec 32 := Scalar.muli v242 c3_i32_105
  let c0_i32_104 : BitVec 32 := 0#32
  let c0_i32_99 : BitVec 32 := 0#32
  let c1_i32_101 : BitVec 32 := 1#32
  let arg16 : BitVec 32 := Scf.iv c0_i32_99 c1_i32_101 k0_t3
  let c1_i32_103 : BitVec 32 := 1#32
  let v244 : BitVec 32 := Scalar.muli arg16 c1_i32_103
  let v245 : BitVec 32 := Scalar.addi c0_i32_104 v244
  let v249 : BitVec 32 := Scalar.addi v248 v245
  let c8_i32_524 : BitVec 32 := 8#32
  let v1272 : BitVec 32 := Scalar.muli v249 c8_i32_524
  let v1273 : BitVec 32 := Scalar.addi v1272 c0_i32_525
  let v1308 : BitVec 32 := Scalar.addi v1273 c0_i32_537
  let v1309 : Index := Scalar.indexCast v1308
  let c0_i32_92 : BitVec 32 := 0#32
  let c0_i32_31 : BitVec 32 := 0#32
  let c1_i32_33 : BitVec 32 := 1#32
  let arg14 : BitVec 32 := Scf.iv c0_i32_31 c1_i32_33 k0_t1
  let c1_i32_91 : BitVec 32 := 1#32
  let v238 : BitVec 32 := Scalar.muli arg14 c1_i32_91
  let v239 : BitVec 32 := Scalar.addi c0_i32_92 v238
  let c128_i32 : BitVec 32 := 128#32
  let v246 : BitVec 32 := Scalar.muli v239 c128_i32
  let v247 : BitVec 32 := v246
  let v1310 : Index := Scalar.indexCast v247
  ![v1309.toNat, v1310.toNat]
def k0_off10 (k0_t1 : Fin k0_t1_loop.trips) (k0_t2 : Fin k0_t2_loop.trips) (k0_t3 : Fin k0_t3_loop.trips) : Fin 2 → Nat :=
  let c0_i32_98 : BitVec 32 := 0#32
  let c0_i32_93 : BitVec 32 := 0#32
  let c1_i32_95 : BitVec 32 := 1#32
  let arg15 : BitVec 32 := Scf.iv c0_i32_93 c1_i32_95 k0_t2
  let c1_i32_97 : BitVec 32 := 1#32
  let v241 : BitVec 32 := Scalar.muli arg15 c1_i32_97
  let v242 : BitVec 32 := Scalar.addi c0_i32_98 v241
  let c3_i32_105 : BitVec 32 := 3#32
  let v248 : BitVec 32 := Scalar.muli v242 c3_i32_105
  let c0_i32_104 : BitVec 32 := 0#32
  let c0_i32_99 : BitVec 32 := 0#32
  let c1_i32_101 : BitVec 32 := 1#32
  let arg16 : BitVec 32 := Scf.iv c0_i32_99 c1_i32_101 k0_t3
  let c1_i32_103 : BitVec 32 := 1#32
  let v244 : BitVec 32 := Scalar.muli arg16 c1_i32_103
  let v245 : BitVec 32 := Scalar.addi c0_i32_104 v244
  let v249 : BitVec 32 := Scalar.addi v248 v245
  let c128_i32_564 : BitVec 32 := 128#32
  let v1431 : BitVec 32 := Scalar.muli v249 c128_i32_564
  let v1432 : Index := Scalar.indexCast v1431
  let c0_i32_92 : BitVec 32 := 0#32
  let c0_i32_31 : BitVec 32 := 0#32
  let c1_i32_33 : BitVec 32 := 1#32
  let arg14 : BitVec 32 := Scf.iv c0_i32_31 c1_i32_33 k0_t1
  let c1_i32_91 : BitVec 32 := 1#32
  let v238 : BitVec 32 := Scalar.muli arg14 c1_i32_91
  let v239 : BitVec 32 := Scalar.addi c0_i32_92 v238
  let c128_i32 : BitVec 32 := 128#32
  let v246 : BitVec 32 := Scalar.muli v239 c128_i32
  let v247 : BitVec 32 := v246
  let v1433 : Index := Scalar.indexCast v247
  ![v1432.toNat, v1433.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2880x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3x384x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x384x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S72x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2880x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x192x512 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x24x512 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16 : Shape := ⟨1, ![16]⟩
abbrev S2 : Shape := ⟨1, ![2]⟩
abbrev S2880x1152 : Shape := ⟨2, ![2880, 1152]⟩
abbrev S3x384x5760 : Shape := ⟨3, ![3, 384, 5760]⟩
abbrev S72x5760 : Shape := ⟨2, ![72, 5760]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S72x16x5760 : Shape := ⟨3, ![72, 16, 5760]⟩
abbrev S72x5760x16 : Shape := ⟨3, ![72, 5760, 16]⟩
abbrev S2880x5760 : Shape := ⟨2, ![2880, 5760]⟩
abbrev S3x192x5760 : Shape := ⟨3, ![3, 192, 5760]⟩
abbrev S3x24x5760 : Shape := ⟨3, ![3, 24, 5760]⟩
abbrev S1 : Shape := ⟨1, ![1]⟩
abbrev S72x1x5760 : Shape := ⟨3, ![72, 1, 5760]⟩
abbrev S72x8x2x5760 : Shape := ⟨4, ![72, 8, 2, 5760]⟩
abbrev S72x8x1x5760 : Shape := ⟨4, ![72, 8, 1, 5760]⟩
abbrev S72x8x5760 : Shape := ⟨3, ![72, 8, 5760]⟩
abbrev S1152x5760 : Shape := ⟨2, ![1152, 5760]⟩

abbrev nBuf : Space → Nat
  | .hbm => 37
  | .vmem => 7
  | .smem => 1
  | _ => 0

abbrev bufTy : (tb : Table) → Fin (tcTables nBuf tb) → BufTy
  | .hbm, ⟨0, _⟩ => ⟨S16, .f32⟩
  | .hbm, ⟨1, _⟩ => ⟨S2, .f32⟩
  | .hbm, ⟨2, _⟩ => ⟨S2880x1152, .bf16⟩
  | .hbm, ⟨3, _⟩ => ⟨S3x384x5760, .bf16⟩
  | .hbm, ⟨4, _⟩ => ⟨S3x384x5760, .i8⟩
  | .hbm, ⟨5, _⟩ => ⟨S72x5760, .f32⟩
  | .hbm, ⟨6, _⟩ => ⟨S16, .i32⟩
  | .hbm, ⟨7, _⟩ => ⟨S16x1, .i32⟩
  | .hbm, ⟨8, _⟩ => ⟨S1x16, .i32⟩
  | .hbm, ⟨9, _⟩ => ⟨S16x16, .i32⟩
  | .hbm, ⟨10, _⟩ => ⟨S16x16, .i32⟩
  | .hbm, ⟨11, _⟩ => ⟨S16x16, .i32⟩
  | .hbm, ⟨12, _⟩ => ⟨S16x16, .i32⟩
  | .hbm, ⟨13, _⟩ => ⟨S_, .i32⟩
  | .hbm, ⟨14, _⟩ => ⟨S16x16, .i32⟩
  | .hbm, ⟨15, _⟩ => ⟨S16x16, .i32⟩
  | .hbm, ⟨16, _⟩ => ⟨S_, .i32⟩
  | .hbm, ⟨17, _⟩ => ⟨S16x16, .i32⟩
  | .hbm, ⟨18, _⟩ => ⟨S16x16, .i32⟩
  | .hbm, ⟨19, _⟩ => ⟨S_, .i32⟩
  | .hbm, ⟨20, _⟩ => ⟨S16x16, .i32⟩
  | .hbm, ⟨21, _⟩ => ⟨S16x16, .i32⟩
  | .hbm, ⟨22, _⟩ => ⟨S16x16, .f32⟩
  | .hbm, ⟨23, _⟩ => ⟨S1x16, .f32⟩
  | .hbm, ⟨24, _⟩ => ⟨S16x16, .f32⟩
  | .hbm, ⟨25, _⟩ => ⟨S16x16, .f32⟩
  | .hbm, ⟨26, _⟩ => ⟨S_, .f32⟩
  | .hbm, ⟨27, _⟩ => ⟨S16x16, .f32⟩
  | .hbm, ⟨28, _⟩ => ⟨S16x16, .f32⟩
  | .hbm, ⟨29, _⟩ => ⟨S3x384x5760, .f32⟩
  | .hbm, ⟨30, _⟩ => ⟨S72x16x5760, .f32⟩
  | .hbm, ⟨31, _⟩ => ⟨S72x5760x16, .f32⟩
  | .hbm, ⟨32, _⟩ => ⟨S72x16x5760, .f32⟩
  | .hbm, ⟨33, _⟩ => ⟨S72x16x5760, .i8⟩
  | .hbm, ⟨34, _⟩ => ⟨S2880x5760, .f32⟩
  | .hbm, ⟨35, _⟩ => ⟨S3x192x5760, .i8⟩
  | .hbm, ⟨36, _⟩ => ⟨S3x24x5760, .fp8e4m3⟩
  | .local _ .vmem, ⟨0, _⟩ => ⟨S72x16x5760, .f32⟩
  | .local _ .vmem, ⟨1, _⟩ => ⟨S72x16x5760, .i8⟩
  | .local _ .vmem, ⟨2, _⟩ => ⟨S72x5760, .f32⟩
  | .local _ .vmem, ⟨3, _⟩ => ⟨S2880x1152, .bf16⟩
  | .local _ .vmem, ⟨4, _⟩ => ⟨S2880x5760, .f32⟩
  | .local _ .vmem, ⟨5, _⟩ => ⟨S3x192x5760, .i8⟩
  | .local _ .vmem, ⟨6, _⟩ => ⟨S3x24x5760, .fp8e4m3⟩
  | .local _ .smem, ⟨0, _⟩ => ⟨S2, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev main_v24_2 : Ref sig .tc := ⟨.hbm, 36, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S72x16x5760 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S72x16x5760 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S72x5760 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2880x1152 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2880x5760 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x192x5760 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x24x5760 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KUnit.lean ====
module

public import proofs.«01_k».proof.Proof.Gen.Kernel.Frame
public import proofs.«01_k».proof.Proof.Gen.Kernel.Skeleton
public import Idealize.ShloMosaic.Lib.Pipeline.Frame
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A memref's buffer on core `c` held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

theorem unitRun (c : Dev nD) (i : grid0.Coords) (arg1 : Memref sig .tc .smem S16 .f32) (harg1 : arg1.IsWhole) (arg2 : Memref sig .tc .smem S2 .f32) (harg2 : arg2.IsWhole) (arg3 : Memref sig .tc .vmem S2880x1152 .bf16) (harg3 : arg3.IsWhole) (arg4 : Memref sig .tc .vmem S3x384x512 .bf16) (harg4 : arg4.IsWhole) (arg5 : Memref sig .tc .vmem S3x384x512 .i8) (harg5 : arg5.IsWhole) (arg6 : Memref sig .tc .vmem S72x512 .f32) (harg6 : arg6.IsWhole) (arg7 : Memref sig .tc .vmem S2880x512 .f32) (harg7 : arg7.IsWhole) (arg8 : Memref sig .tc .vmem S3x192x512 .i8) (harg8 : arg8.IsWhole) (arg9 : Memref sig .tc .vmem S3x24x512 .fp8e4m3) (harg9 : arg9.IsWhole) (arg10 : Memref sig .tc .vmem S1152x512 .bf16) (harg10 : arg10.IsWhole) (arg11 : Memref sig .tc .vmem S72x512 .f32) (harg11 : arg11.IsWhole) (arg12 : Memref sig .tc .vmem S288x128 .i32) (harg12 : arg12.IsWhole) (arg13 : Memref sig .tc .vmem S144x128 .i32) (harg13 : arg13.IsWhole)
    (v173 : IVec S128x128 1) (v174 : FVec F S128x128 .f32) (v175 : FVec F S128x128 .f32) (v180 : Elt F .f32) (k0_t1 : Fin k0_t1_loop.trips) (v239 : BitVec 32) (k0_t2 : Fin k0_t2_loop.trips) (v242 : BitVec 32) (k0_t3 : Fin k0_t3_loop.trips)
    (f4 : Buf (Elt F) (arg4.view.loc (c : Thread nD τ))) (f5 : Buf (Elt F) (arg5.view.loc (c : Thread nD τ))) (f6 : Buf (Elt F) (arg6.view.loc (c : Thread nD τ)))
    (f8 : Buf (Elt F) (arg8.view.loc (c : Thread nD τ))) (f9 : Buf (Elt F) (arg9.view.loc (c : Thread nD τ))) (f10 : Buf (Elt F) (arg10.view.loc (c : Thread nD τ)))
    (f11 : Buf (Elt F) (arg11.view.loc (c : Thread nD τ))) (f12 : Buf (Elt F) (arg12.view.loc (c : Thread nD τ))) (f13 : Buf (Elt F) (arg13.view.loc (c : Thread nD τ))) :
    (iprop(pt c arg4 f4 ∗ pt c arg5 f5 ∗ pt c arg6 f6 ∗ pt c arg8 f8 ∗ pt c arg9 f9 ∗ pt c arg10 f10 ∗ pt c arg11 f11 ∗ pt c arg12 f12 ∗ pt c arg13 f13) : sProp 𝕄)
      ⊢ wp frame (wpE (defs₀ (F := F)) Variants.none c none) Set.univ
          (k0_t3_body i arg1 harg1 arg2 harg2 arg3 harg3 arg4 harg4 arg5 harg5 arg6 harg6 arg7 harg7 arg8 harg8 arg9 harg9 arg10 harg10 arg11 harg11 arg12 harg12 arg13 harg13 v173 v174 v175 v180 k0_t1 v239 k0_t2 v242 k0_t3 ())
          fun _ => iprop(pt c arg4 f4 ∗ pt c arg5 f5 ∗ pt c arg6 f6 ∗ (∃ f, pt c arg8 f) ∗ (∃ f, pt c arg9 f) ∗ (∃ f, pt c arg10 f) ∗ (∃ f, pt c arg11 f) ∗ (∃ f, pt c arg12 f) ∗ (∃ f, pt c arg13 f)) := by
  unfold k0_t3_body
  iintro ⟨H4, H5, H6, H8, H9, H10, H11, H12, H13⟩
  sl_exec_parts
  sl_step
  sl_close

/-- What the three nested loops keep: the three inputs they read at their contents, everything they write at some contents. -/
abbrev kept (c : Dev nD) (arg4 : Memref sig .tc .vmem S3x384x512 .bf16) (arg5 : Memref sig .tc .vmem S3x384x512 .i8) (arg6 : Memref sig .tc .vmem S72x512 .f32) (arg8 : Memref sig .tc .vmem S3x192x512 .i8) (arg9 : Memref sig .tc .vmem S3x24x512 .fp8e4m3) (arg10 : Memref sig .tc .vmem S1152x512 .bf16) (arg11 : Memref sig .tc .vmem S72x512 .f32) (arg12 : Memref sig .tc .vmem S288x128 .i32) (arg13 : Memref sig .tc .vmem S144x128 .i32)
    (f4 : Buf (Elt F) (arg4.view.loc (c : Thread nD τ))) (f5 : Buf (Elt F) (arg5.view.loc (c : Thread nD τ))) (f6 : Buf (Elt F) (arg6.view.loc (c : Thread nD τ))) : sProp 𝕄 :=
  iprop(pt c arg4 f4 ∗ pt c arg5 f5 ∗ pt c arg6 f6 ∗ (∃ f, pt c arg8 f) ∗ (∃ f, pt c arg9 f) ∗ (∃ f, pt c arg10 f) ∗ (∃ f, pt c arg11 f) ∗ (∃ f, pt c arg12 f) ∗ (∃ f, pt c arg13 f))

theorem kernelRun (c : Dev nD) (i : grid0.Coords) (arg1 : Memref sig .tc .smem S16 .f32) (harg1 : arg1.IsWhole) (arg2 : Memref sig .tc .smem S2 .f32) (harg2 : arg2.IsWhole) (arg3 : Memref sig .tc .vmem S2880x1152 .bf16) (harg3 : arg3.IsWhole) (arg4 : Memref sig .tc .vmem S3x384x512 .bf16) (harg4 : arg4.IsWhole) (arg5 : Memref sig .tc .vmem S3x384x512 .i8) (harg5 : arg5.IsWhole) (arg6 : Memref sig .tc .vmem S72x512 .f32) (harg6 : arg6.IsWhole) (arg7 : Memref sig .tc .vmem S2880x512 .f32) (harg7 : arg7.IsWhole) (arg8 : Memref sig .tc .vmem S3x192x512 .i8) (harg8 : arg8.IsWhole) (arg9 : Memref sig .tc .vmem S3x24x512 .fp8e4m3) (harg9 : arg9.IsWhole) (arg10 : Memref sig .tc .vmem S1152x512 .bf16) (harg10 : arg10.IsWhole) (arg11 : Memref sig .tc .vmem S72x512 .f32) (harg11 : arg11.IsWhole) (arg12 : Memref sig .tc .vmem S288x128 .i32) (harg12 : arg12.IsWhole) (arg13 : Memref sig .tc .vmem S144x128 .i32) (harg13 : arg13.IsWhole)
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) :
    (iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13) : sProp 𝕄)
      ⊢ wp frame (wpE (defs₀ (F := F)) Variants.none c none) Set.univ (cc0_nvfp4_main i arg1 harg1 arg2 harg2 arg3 harg3 arg4 harg4 arg5 harg5 arg6 harg6 arg7 harg7 arg8 harg8 arg9 harg9 arg10 harg10 arg11 harg11 arg12 harg12 arg13 harg13)
          fun _ => iprop(pt c arg1 f1 ∗ pt c arg2 f2 ∗ pt c arg3 f3 ∗ pt c arg4 f4 ∗ pt c arg5 f5 ∗ pt c arg6 f6 ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f)) := by
  unfold cc0_nvfp4_main
  rw [k0_part33_eq_skeleton]; unfold k0_part33_skel
  iintro ⟨H1, H2, H3, H4, H5, H6, H7, H8, H9, H10, H11, H12, H13⟩
  sl_exec_parts
  sl_for (fun _ _ => kept c arg4 arg5 arg6 arg8 arg9 arg10 arg11 arg12 arg13 f4 f5 f6) $$ [H4 H5 H6 H8 H9 H10 H11 H12 H13]
  case region =>
    intro t1 _
    iintro HI
    sl_exec
    sl_for (fun _ _ => kept c arg4 arg5 arg6 arg8 arg9 arg10 arg11 arg12 arg13 f4 f5 f6) $$ [HI]
    case region =>
      intro t2 _
      iintro HI
      sl_exec
      sl_for (fun _ _ => kept c arg4 arg5 arg6 arg8 arg9 arg10 arg11 arg12 arg13 f4 f5 f6) $$ [HI]
      case region =>
        intro t3 _
        iintro ⟨H4, H5, H6, ⟨%g8, H8⟩, ⟨%g9, H9⟩, ⟨%g10, H10⟩, ⟨%g11, H11⟩, ⟨%g12, H12⟩, ⟨%g13, H13⟩⟩
        iapply (unitRun c i arg1 harg1 arg2 harg2 arg3 harg3 arg4 harg4 arg5 harg5 arg6 harg6 arg7 harg7 arg8 harg8 arg9 harg9 arg10 harg10 arg11 harg11 arg12 harg12 arg13 harg13 _ _ _ _ t1 _ t2 _ t3 f4 f5 f6 g8 g9 g10 g11 g12 g13)
        sl_close
      · iexact HI
      iintro %_ HI
      sl_exec
      sl_step
      iexact HI
    · iexact HI
    iintro %_ HI
    sl_exec
    sl_step
    iexact HI
  · sl_close
  iintro %_ ⟨H4, H5, H6, ⟨%g8, H8⟩, ⟨%g9, H9⟩, ⟨%g10, H10⟩, ⟨%g11, H11⟩, ⟨%g12, H12⟩, ⟨%g13, H13⟩⟩
  sl_exec_parts
  sl_step
  sl_close

/-- A whole memref owned at contents `X` is its buffer held at an `f` that reads `X`. -/
theorem owns_pt {c : Dev nD} {sp : Space} {S : Shape} {e : EltTy} {M : Memref sig .tc sp S e} (h : M.IsWhole) (X : S.Idx → Elt F e) :
    (owns (c : Thread nD τ) M fullShare X : sProp 𝕄) = iprop(∃ f, ⌜M.view.read (Elt F) f = X⌝ ∗ pt c M f) := by
  unfold owns pt; rw [h.set_eq_univ]

/-- `kernelRun` with every memref owned at some contents, before and after. -/
theorem kernelOwns (c : Dev nD) (i : grid0.Coords) (arg1 : Memref sig .tc .smem S16 .f32) (harg1 : arg1.IsWhole) (arg2 : Memref sig .tc .smem S2 .f32) (harg2 : arg2.IsWhole) (arg3 : Memref sig .tc .vmem S2880x1152 .bf16) (harg3 : arg3.IsWhole) (arg4 : Memref sig .tc .vmem S3x384x512 .bf16) (harg4 : arg4.IsWhole) (arg5 : Memref sig .tc .vmem S3x384x512 .i8) (harg5 : arg5.IsWhole) (arg6 : Memref sig .tc .vmem S72x512 .f32) (harg6 : arg6.IsWhole) (arg7 : Memref sig .tc .vmem S2880x512 .f32) (harg7 : arg7.IsWhole) (arg8 : Memref sig .tc .vmem S3x192x512 .i8) (harg8 : arg8.IsWhole) (arg9 : Memref sig .tc .vmem S3x24x512 .fp8e4m3) (harg9 : arg9.IsWhole) (arg10 : Memref sig .tc .vmem S1152x512 .bf16) (harg10 : arg10.IsWhole) (arg11 : Memref sig .tc .vmem S72x512 .f32) (harg11 : arg11.IsWhole) (arg12 : Memref sig .tc .vmem S288x128 .i32) (harg12 : arg12.IsWhole) (arg13 : Memref sig .tc .vmem S144x128 .i32) (harg13 : arg13.IsWhole)
:
    (iprop((∃ d, owns (c : Thread nD τ) arg1 fullShare d)
        ∗ (∃ d, owns (c : Thread nD τ) arg2 fullShare d)
        ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)) : sProp 𝕄)
      ⊢ wp frame (wpE (defs₀ (F := F)) Variants.none c none) Set.univ (cc0_nvfp4_main i arg1 harg1 arg2 harg2 arg3 harg3 arg4 harg4 arg5 harg5 arg6 harg6 arg7 harg7 arg8 harg8 arg9 harg9 arg10 harg10 arg11 harg11 arg12 harg12 arg13 harg13)
          fun _ => iprop((∃ d, owns (c : Thread nD τ) arg1 fullShare d)
        ∗ (∃ d, owns (c : Thread nD τ) arg2 fullShare d)
        ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)) := by
  simp only [owns_pt harg1, owns_pt harg2, owns_pt harg3, owns_pt harg4, owns_pt harg5, owns_pt harg6, owns_pt harg7, owns_pt harg8, owns_pt harg9, owns_pt harg10, owns_pt harg11, owns_pt harg12, owns_pt harg13]
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩⟩
  iapply (wp_wand_r)
  isplitl [H1 H2 H3 H4 H5 H6 H7 H8 H9 H10 H11 H12 H13]
  · iapply (kernelRun c i arg1 harg1 arg2 harg2 arg3 harg3 arg4 harg4 arg5 harg5 arg6 harg6 arg7 harg7 arg8 harg8 arg9 harg9 arg10 harg10 arg11 harg11 arg12 harg12 arg13 harg13 f1 f2 f3 f4 f5 f6 f7 f8 f9 f10 f11 f12 f13)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %_ ⟨H1, H2, H3, H4, H5, H6, ⟨%g7, H7⟩, ⟨%g8, H8⟩, ⟨%g9, H9⟩, ⟨%g10, H10⟩, ⟨%g11, H11⟩, ⟨%g12, H12⟩, ⟨%g13, H13⟩⟩
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

end Cert.Kernel.Hand
-- ==== Proof.KFrame.lean ====
module

public import proofs.«01_k».proof.Proof.KUnit

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The operands the body is handed at a point -/

abbrev ms0_0 (t : Fin cfg0.N) : Memref sig .tc .smem S16 .f32 := win0_0.stage (cfg0.slots t 0)
abbrev ms0_1 (t : Fin cfg0.N) : Memref sig .tc .smem S2 .f32 := win0_1.stage (cfg0.slots t 1)
abbrev ms0_2 (t : Fin cfg0.N) : Memref sig .tc .vmem S2880x1152 .bf16 := win0_2.stage (cfg0.slots t 2)
abbrev ms0_3 (t : Fin cfg0.N) : Memref sig .tc .vmem S3x384x512 .bf16 := win0_3.stage (cfg0.slots t 3)
abbrev ms0_4 (t : Fin cfg0.N) : Memref sig .tc .vmem S3x384x512 .i8 := win0_4.stage (cfg0.slots t 4)
abbrev ms0_5 (t : Fin cfg0.N) : Memref sig .tc .vmem S72x512 .f32 := win0_5.stage (cfg0.slots t 5)
abbrev ms0_6 (t : Fin cfg0.N) : Memref sig .tc .vmem S2880x512 .f32 := win0_6.stage (cfg0.slots t 6)
abbrev ms0_7 (t : Fin cfg0.N) : Memref sig .tc .vmem S3x192x512 .i8 := win0_7.stage (cfg0.slots t 7)
abbrev ms0_8 (t : Fin cfg0.N) : Memref sig .tc .vmem S3x24x512 .fp8e4m3 := win0_8.stage (cfg0.slots t 8)

/-- For the frame nothing is said of what the staging buffers hold. -/
def forgets0 : Fin 9 → Bool := fun _ => true

/-- The frame's proof data: the arrays as the region finds them, the staging contents unnamed, the scratch buffers at
    some contents between the points. -/
def fdats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem fA_eq (c : Dev nD) (w : Fin cfg0.W) : (fdats m 0 c).A w = V m c (Pipeline.arrRef spec0 w) := by dsimp only [fdats]

def bodyPre (c : Dev nD) (t : Fin cfg0.N) : sProp 𝕄 :=
  iprop((fdats m 0 c).Φ t.castSucc ∗ (fdats m 0 c).owesAt () t.castSucc
    ∗ (∃ d, owns (c : Thread nD τ) (ms0_0 t) fullShare d) ∗ (∃ d, owns (c : Thread nD τ) (ms0_1 t) fullShare d) ∗ (∃ d, owns (c : Thread nD τ) (ms0_2 t) fullShare d) ∗ (∃ d, owns (c : Thread nD τ) (ms0_3 t) fullShare d) ∗ (∃ d, owns (c : Thread nD τ) (ms0_4 t) fullShare d) ∗ (∃ d, owns (c : Thread nD τ) (ms0_5 t) fullShare d) ∗ (∃ d, owns (c : Thread nD τ) (ms0_6 t) fullShare d) ∗ (∃ d, owns (c : Thread nD τ) (ms0_7 t) fullShare d) ∗ (∃ d, owns (c : Thread nD τ) (ms0_8 t) fullShare d))
def bodyPost (c : Dev nD) (t : Fin cfg0.N) : sProp 𝕄 :=
  iprop((fdats m 0 c).Φ t.succ ∗ (fdats m 0 c).owesAt () t.succ
    ∗ (∃ d, owns (c : Thread nD τ) (ms0_0 t) fullShare d) ∗ (∃ d, owns (c : Thread nD τ) (ms0_1 t) fullShare d) ∗ (∃ d, owns (c : Thread nD τ) (ms0_2 t) fullShare d) ∗ (∃ d, owns (c : Thread nD τ) (ms0_3 t) fullShare d) ∗ (∃ d, owns (c : Thread nD τ) (ms0_4 t) fullShare d) ∗ (∃ d, owns (c : Thread nD τ) (ms0_5 t) fullShare d) ∗ (∃ d, owns (c : Thread nD τ) (ms0_6 t) fullShare d) ∗ (∃ d, owns (c : Thread nD τ) (ms0_7 t) fullShare d) ∗ (∃ d, owns (c : Thread nD τ) (ms0_8 t) fullShare d))

/-- Between the points the scratch buffers are owned at some contents. -/
theorem scratch_eq (c : Dev nD) : (Pipeline.ΦA (Val := Elt F) spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (fdats m 0 c).Φ t.succ = Pipeline.ΦA spec0 c from rfl,
    show (fdats m 0 c).owesAt () t.succ = (fdats m 0 c).owesAt () t.castSucc from rfl,
    show (fdats m 0 c).Φ t.castSucc = Pipeline.ΦA spec0 c from rfl, scratch_eq]
  iintro ⟨⟨⟨H10, H11, H12, H13⟩, Hg⟩, HO, H1, H2, H3, H4, H5, H6, H7, H8, H9⟩
  iapply (wp_wand_r)
  isplitl [H1 H2 H3 H4 H5 H6 H7 H8 H9 H10 H11 H12 H13]
  · iapply (kernelOwns c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) (ms0_7 t) (hstage0_7 ((cfg0.slots t 7).cast nbuf0_7)) (ms0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %_ ⟨H1, H2, H3, H4, H5, H6, H7, H8, H9, H10, H11, H12, H13⟩
  isplitl [H10 H11 H12 H13 Hg]
  · isplitl [H10 H11 H12 H13]
    · isplitl [H10]; · iexact H10
      isplitl [H11]; · iexact H11
      isplitl [H12]; · iexact H12
      iexact H13
    iexact Hg
  isplitl [HO]; · iexact HO
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem fbody_obligation (c : Dev nD) :
    BodyObligation (fdats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- Every run ends, the arguments as they were and every semaphore counter at zero. -/
theorem frame_run :
    θ_run defs (onTc (τ := τ) (main (F := F))) (s₀ m ρ)
      (fun r => Pipeline.RDat.FramePost (cfgs 0) (fun c => (fdats m 0 c).toRForget forgets0) (V m) r ∧ r.2.sem = fun _ => 0) :=
  Pipeline.θ_run_frame_forget cfgs (fdats m) (0 : Fin 1) launch0 defs₀ Variants.none forgets0 m ρ main
    (hbody := fun c => (fbody_obligation m c).loose) (hshare := fun c => (fdats m 0 c).share_full fun _ => rfl)
    (howed := fun _ _ => rfl) (V := V m) (hmain := hmain m Variants.none) (hA := fA_eq m) (hΦ := fun _ _ => rfl)
    (Q' := _) (hQ' := fun _ h => h)

/-- The frame claim, with the counters at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1.arr_in c 0 rfl), (h.1.arr_in c 1 rfl), (h.1.arr_in c 2 rfl), (h.1.arr_in c 3 rfl), (h.1.arr_in c 4 rfl), (h.1.arr_in c 5 rfl)⟩, h.2⟩) (frame_run m ρ)

end Cert.Kernel.Hand
-- ==== Proof.Unit.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A memref's buffer on core `c` held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

theorem unitRun (c : Dev nD) (i : grid0.Coords) (arg1 : Memref sig .tc .smem S16 .f32) (harg1 : arg1.IsWhole) (arg2 : Memref sig .tc .smem S2 .f32) (harg2 : arg2.IsWhole) (arg3 : Memref sig .tc .vmem S2880x1152 .bf16) (harg3 : arg3.IsWhole) (arg4 : Memref sig .tc .vmem S3x384x512 .bf16) (harg4 : arg4.IsWhole) (arg5 : Memref sig .tc .vmem S3x384x512 .i8) (harg5 : arg5.IsWhole) (arg6 : Memref sig .tc .vmem S72x512 .f32) (harg6 : arg6.IsWhole) (arg7 : Memref sig .tc .vmem S2880x512 .f32) (harg7 : arg7.IsWhole) (arg8 : Memref sig .tc .vmem S3x192x512 .i8) (harg8 : arg8.IsWhole) (arg9 : Memref sig .tc .vmem S3x24x512 .fp8e4m3) (harg9 : arg9.IsWhole) (arg10 : Memref sig .tc .vmem S1152x512 .bf16) (harg10 : arg10.IsWhole) (arg11 : Memref sig .tc .vmem S72x512 .f32) (harg11 : arg11.IsWhole) (arg12 : Memref sig .tc .vmem S288x128 .i32) (harg12 : arg12.IsWhole) (arg13 : Memref sig .tc .vmem S144x128 .i32) (harg13 : arg13.IsWhole)
    (v173 : IVec S128x128 1) (v174 : FVec F S128x128 .f32) (v175 : FVec F S128x128 .f32) (v180 : Elt F .f32) (k0_t1 : Fin k0_t1_loop.trips) (v239 : BitVec 32) (k0_t2 : Fin k0_t2_loop.trips) (v242 : BitVec 32) (k0_t3 : Fin k0_t3_loop.trips)
    (f4 : Buf (Elt F) (arg4.view.loc (c : Thread nD τ))) (f5 : Buf (Elt F) (arg5.view.loc (c : Thread nD τ))) (f6 : Buf (Elt F) (arg6.view.loc (c : Thread nD τ)))
    (f8 : Buf (Elt F) (arg8.view.loc (c : Thread nD τ))) (f9 : Buf (Elt F) (arg9.view.loc (c : Thread nD τ))) (f10 : Buf (Elt F) (arg10.view.loc (c : Thread nD τ)))
    (f11 : Buf (Elt F) (arg11.view.loc (c : Thread nD τ))) (f12 : Buf (Elt F) (arg12.view.loc (c : Thread nD τ))) (f13 : Buf (Elt F) (arg13.view.loc (c : Thread nD τ))) :
    (iprop(pt c arg4 f4 ∗ pt c arg5 f5 ∗ pt c arg6 f6 ∗ pt c arg8 f8 ∗ pt c arg9 f9 ∗ pt c arg10 f10 ∗ pt c arg11 f11 ∗ pt c arg12 f12 ∗ pt c arg13 f13) : sProp 𝕄)
      ⊢ wp frame (wpE (defs₀ (F := F)) Variants.none c none) Set.univ
          (k0_t3_body i arg1 harg1 arg2 harg2 arg3 harg3 arg4 harg4 arg5 harg5 arg6 harg6 arg7 harg7 arg8 harg8 arg9 harg9 arg10 harg10 arg11 harg11 arg12 harg12 arg13 harg13 v173 v174 v175 v180 k0_t1 v239 k0_t2 v242 k0_t3 ())
          fun _ => iprop(pt c arg4 f4 ∗ pt c arg5 f5 ∗ pt c arg6 f6 ∗ (∃ f, pt c arg8 f) ∗ (∃ f, pt c arg9 f) ∗ (∃ f, pt c arg10 f) ∗ (∃ f, pt c arg11 f) ∗ (∃ f, pt c arg12 f) ∗ (∃ f, pt c arg13 f)) := by
  unfold k0_t3_body
  iintro ⟨H4, H5, H6, H8, H9, H10, H11, H12, H13⟩
  sl_exec_parts
  sl_step
  sl_close

/-- What the three nested loops keep: the three inputs they read at their contents, everything they write at some contents. -/
abbrev kept (c : Dev nD) (arg4 : Memref sig .tc .vmem S3x384x512 .bf16) (arg5 : Memref sig .tc .vmem S3x384x512 .i8) (arg6 : Memref sig .tc .vmem S72x512 .f32) (arg8 : Memref sig .tc .vmem S3x192x512 .i8) (arg9 : Memref sig .tc .vmem S3x24x512 .fp8e4m3) (arg10 : Memref sig .tc .vmem S1152x512 .bf16) (arg11 : Memref sig .tc .vmem S72x512 .f32) (arg12 : Memref sig .tc .vmem S288x128 .i32) (arg13 : Memref sig .tc .vmem S144x128 .i32)
    (f4 : Buf (Elt F) (arg4.view.loc (c : Thread nD τ))) (f5 : Buf (Elt F) (arg5.view.loc (c : Thread nD τ))) (f6 : Buf (Elt F) (arg6.view.loc (c : Thread nD τ))) : sProp 𝕄 :=
  iprop(pt c arg4 f4 ∗ pt c arg5 f5 ∗ pt c arg6 f6 ∗ (∃ f, pt c arg8 f) ∗ (∃ f, pt c arg9 f) ∗ (∃ f, pt c arg10 f) ∗ (∃ f, pt c arg11 f) ∗ (∃ f, pt c arg12 f) ∗ (∃ f, pt c arg13 f))

theorem kernelRun (c : Dev nD) (i : grid0.Coords) (arg1 : Memref sig .tc .smem S16 .f32) (harg1 : arg1.IsWhole) (arg2 : Memref sig .tc .smem S2 .f32) (harg2 : arg2.IsWhole) (arg3 : Memref sig .tc .vmem S2880x1152 .bf16) (harg3 : arg3.IsWhole) (arg4 : Memref sig .tc .vmem S3x384x512 .bf16) (harg4 : arg4.IsWhole) (arg5 : Memref sig .tc .vmem S3x384x512 .i8) (harg5 : arg5.IsWhole) (arg6 : Memref sig .tc .vmem S72x512 .f32) (harg6 : arg6.IsWhole) (arg7 : Memref sig .tc .vmem S2880x512 .f32) (harg7 : arg7.IsWhole) (arg8 : Memref sig .tc .vmem S3x192x512 .i8) (harg8 : arg8.IsWhole) (arg9 : Memref sig .tc .vmem S3x24x512 .fp8e4m3) (harg9 : arg9.IsWhole) (arg10 : Memref sig .tc .vmem S1152x512 .bf16) (harg10 : arg10.IsWhole) (arg11 : Memref sig .tc .vmem S72x512 .f32) (harg11 : arg11.IsWhole) (arg12 : Memref sig .tc .vmem S288x128 .i32) (harg12 : arg12.IsWhole) (arg13 : Memref sig .tc .vmem S144x128 .i32) (harg13 : arg13.IsWhole)
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) :
    (iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13) : sProp 𝕄)
      ⊢ wp frame (wpE (defs₀ (F := F)) Variants.none c none) Set.univ (cc0_nvfp4_main i arg1 harg1 arg2 harg2 arg3 harg3 arg4 harg4 arg5 harg5 arg6 harg6 arg7 harg7 arg8 harg8 arg9 harg9 arg10 harg10 arg11 harg11 arg12 harg12 arg13 harg13)
          fun _ => iprop(pt c arg1 f1 ∗ pt c arg2 f2 ∗ pt c arg3 f3 ∗ pt c arg4 f4 ∗ pt c arg5 f5 ∗ pt c arg6 f6 ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f)) := by
  unfold cc0_nvfp4_main
  rw [k0_part33_eq_skeleton]; unfold k0_part33_skel
  iintro ⟨H1, H2, H3, H4, H5, H6, H7, H8, H9, H10, H11, H12, H13⟩
  sl_exec_parts
  sl_for (fun _ _ => kept c arg4 arg5 arg6 arg8 arg9 arg10 arg11 arg12 arg13 f4 f5 f6) $$ [H4 H5 H6 H8 H9 H10 H11 H12 H13]
  case region =>
    intro t1 _
    iintro HI
    sl_exec
    sl_for (fun _ _ => kept c arg4 arg5 arg6 arg8 arg9 arg10 arg11 arg12 arg13 f4 f5 f6) $$ [HI]
    case region =>
      intro t2 _
      iintro HI
      sl_exec
      sl_for (fun _ _ => kept c arg4 arg5 arg6 arg8 arg9 arg10 arg11 arg12 arg13 f4 f5 f6) $$ [HI]
      case region =>
        intro t3 _
        iintro ⟨H4, H5, H6, ⟨%g8, H8⟩, ⟨%g9, H9⟩, ⟨%g10, H10⟩, ⟨%g11, H11⟩, ⟨%g12, H12⟩, ⟨%g13, H13⟩⟩
        iapply (unitRun c i arg1 harg1 arg2 harg2 arg3 harg3 arg4 harg4 arg5 harg5 arg6 harg6 arg7 harg7 arg8 harg8 arg9 harg9 arg10 harg10 arg11 harg11 arg12 harg12 arg13 harg13 _ _ _ _ t1 _ t2 _ t3 f4 f5 f6 g8 g9 g10 g11 g12 g13)
        sl_close
      · iexact HI
      iintro %_ HI
      sl_exec
      sl_step
      iexact HI
    · iexact HI
    iintro %_ HI
    sl_exec
    sl_step
    iexact HI
  · sl_close
  iintro %_ ⟨H4, H5, H6, ⟨%g8, H8⟩, ⟨%g9, H9⟩, ⟨%g10, H10⟩, ⟨%g11, H11⟩, ⟨%g12, H12⟩, ⟨%g13, H13⟩⟩
  sl_exec_parts
  sl_step
  sl_close

/-- A whole memref owned at contents `X` is its buffer held at an `f` that reads `X`. -/
theorem owns_pt {c : Dev nD} {sp : Space} {S : Shape} {e : EltTy} {M : Memref sig .tc sp S e} (h : M.IsWhole) (X : S.Idx → Elt F e) :
    (owns (c : Thread nD τ) M fullShare X : sProp 𝕄) = iprop(∃ f, ⌜M.view.read (Elt F) f = X⌝ ∗ pt c M f) := by
  unfold owns pt; rw [h.set_eq_univ]

/-- `kernelRun` with every memref owned at some contents, before and after. -/
theorem kernelOwns (c : Dev nD) (i : grid0.Coords) (arg1 : Memref sig .tc .smem S16 .f32) (harg1 : arg1.IsWhole) (arg2 : Memref sig .tc .smem S2 .f32) (harg2 : arg2.IsWhole) (arg3 : Memref sig .tc .vmem S2880x1152 .bf16) (harg3 : arg3.IsWhole) (arg4 : Memref sig .tc .vmem S3x384x512 .bf16) (harg4 : arg4.IsWhole) (arg5 : Memref sig .tc .vmem S3x384x512 .i8) (harg5 : arg5.IsWhole) (arg6 : Memref sig .tc .vmem S72x512 .f32) (harg6 : arg6.IsWhole) (arg7 : Memref sig .tc .vmem S2880x512 .f32) (harg7 : arg7.IsWhole) (arg8 : Memref sig .tc .vmem S3x192x512 .i8) (harg8 : arg8.IsWhole) (arg9 : Memref sig .tc .vmem S3x24x512 .fp8e4m3) (harg9 : arg9.IsWhole) (arg10 : Memref sig .tc .vmem S1152x512 .bf16) (harg10 : arg10.IsWhole) (arg11 : Memref sig .tc .vmem S72x512 .f32) (harg11 : arg11.IsWhole) (arg12 : Memref sig .tc .vmem S288x128 .i32) (harg12 : arg12.IsWhole) (arg13 : Memref sig .tc .vmem S144x128 .i32) (harg13 : arg13.IsWhole)
:
    (iprop((∃ d, owns (c : Thread nD τ) arg1 fullShare d)
        ∗ (∃ d, owns (c : Thread nD τ) arg2 fullShare d)
        ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)) : sProp 𝕄)
      ⊢ wp frame (wpE (defs₀ (F := F)) Variants.none c none) Set.univ (cc0_nvfp4_main i arg1 harg1 arg2 harg2 arg3 harg3 arg4 harg4 arg5 harg5 arg6 harg6 arg7 harg7 arg8 harg8 arg9 harg9 arg10 harg10 arg11 harg11 arg12 harg12 arg13 harg13)
          fun _ => iprop((∃ d, owns (c : Thread nD τ) arg1 fullShare d)
        ∗ (∃ d, owns (c : Thread nD τ) arg2 fullShare d)
        ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)) := by
  simp only [owns_pt harg1, owns_pt harg2, owns_pt harg3, owns_pt harg4, owns_pt harg5, owns_pt harg6, owns_pt harg7, owns_pt harg8, owns_pt harg9, owns_pt harg10, owns_pt harg11, owns_pt harg12, owns_pt harg13]
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩⟩
  iapply (wp_wand_r)
  isplitl [H1 H2 H3 H4 H5 H6 H7 H8 H9 H10 H11 H12 H13]
  · iapply (kernelRun c i arg1 harg1 arg2 harg2 arg3 harg3 arg4 harg4 arg5 harg5 arg6 harg6 arg7 harg7 arg8 harg8 arg9 harg9 arg10 harg10 arg11 harg11 arg12 harg12 arg13 harg13 f1 f2 f3 f4 f5 f6 f7 f8 f9 f10 f11 f12 f13)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %_ ⟨H1, H2, H3, H4, H5, H6, ⟨%g7, H7⟩, ⟨%g8, H8⟩, ⟨%g9, H9⟩, ⟨%g10, H10⟩, ⟨%g11, H11⟩, ⟨%g12, H12⟩, ⟨%g13, H13⟩⟩
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

end Cert.KernelIdeal.Hand
-- ==== Proof.IFrame.lean ====
module

public import proofs.«01_k».proof.Proof.Unit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The operands the body is handed at a point -/

abbrev ms0_0 (t : Fin cfg0.N) : Memref sig .tc .smem S16 .f32 := win0_0.stage (cfg0.slots t 0)
abbrev ms0_1 (t : Fin cfg0.N) : Memref sig .tc .smem S2 .f32 := win0_1.stage (cfg0.slots t 1)
abbrev ms0_2 (t : Fin cfg0.N) : Memref sig .tc .vmem S2880x1152 .bf16 := win0_2.stage (cfg0.slots t 2)
abbrev ms0_3 (t : Fin cfg0.N) : Memref sig .tc .vmem S3x384x512 .bf16 := win0_3.stage (cfg0.slots t 3)
abbrev ms0_4 (t : Fin cfg0.N) : Memref sig .tc .vmem S3x384x512 .i8 := win0_4.stage (cfg0.slots t 4)
abbrev ms0_5 (t : Fin cfg0.N) : Memref sig .tc .vmem S72x512 .f32 := win0_5.stage (cfg0.slots t 5)
abbrev ms0_6 (t : Fin cfg0.N) : Memref sig .tc .vmem S2880x512 .f32 := win0_6.stage (cfg0.slots t 6)
abbrev ms0_7 (t : Fin cfg0.N) : Memref sig .tc .vmem S3x192x512 .i8 := win0_7.stage (cfg0.slots t 7)
abbrev ms0_8 (t : Fin cfg0.N) : Memref sig .tc .vmem S3x24x512 .fp8e4m3 := win0_8.stage (cfg0.slots t 8)

/-- For the frame nothing is said of what the staging buffers hold. -/
def forgets0 : Fin 9 → Bool := fun _ => true

/-- The frame's proof data: the arrays as the region finds them, the staging contents unnamed, the scratch buffers at
    some contents between the points. -/
def fdats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem fA_eq (c : Dev nD) (w : Fin cfg0.W) : (fdats m 0 c).A w = V m c (Pipeline.arrRef spec0 w) := by dsimp only [fdats]

def bodyPre (c : Dev nD) (t : Fin cfg0.N) : sProp 𝕄 :=
  iprop((fdats m 0 c).Φ t.castSucc ∗ (fdats m 0 c).owesAt () t.castSucc
    ∗ (∃ d, owns (c : Thread nD τ) (ms0_0 t) fullShare d) ∗ (∃ d, owns (c : Thread nD τ) (ms0_1 t) fullShare d) ∗ (∃ d, owns (c : Thread nD τ) (ms0_2 t) fullShare d) ∗ (∃ d, owns (c : Thread nD τ) (ms0_3 t) fullShare d) ∗ (∃ d, owns (c : Thread nD τ) (ms0_4 t) fullShare d) ∗ (∃ d, owns (c : Thread nD τ) (ms0_5 t) fullShare d) ∗ (∃ d, owns (c : Thread nD τ) (ms0_6 t) fullShare d) ∗ (∃ d, owns (c : Thread nD τ) (ms0_7 t) fullShare d) ∗ (∃ d, owns (c : Thread nD τ) (ms0_8 t) fullShare d))
def bodyPost (c : Dev nD) (t : Fin cfg0.N) : sProp 𝕄 :=
  iprop((fdats m 0 c).Φ t.succ ∗ (fdats m 0 c).owesAt () t.succ
    ∗ (∃ d, owns (c : Thread nD τ) (ms0_0 t) fullShare d) ∗ (∃ d, owns (c : Thread nD τ) (ms0_1 t) fullShare d) ∗ (∃ d, owns (c : Thread nD τ) (ms0_2 t) fullShare d) ∗ (∃ d, owns (c : Thread nD τ) (ms0_3 t) fullShare d) ∗ (∃ d, owns (c : Thread nD τ) (ms0_4 t) fullShare d) ∗ (∃ d, owns (c : Thread nD τ) (ms0_5 t) fullShare d) ∗ (∃ d, owns (c : Thread nD τ) (ms0_6 t) fullShare d) ∗ (∃ d, owns (c : Thread nD τ) (ms0_7 t) fullShare d) ∗ (∃ d, owns (c : Thread nD τ) (ms0_8 t) fullShare d))

/-- Between the points the scratch buffers are owned at some contents. -/
theorem scratch_eq (c : Dev nD) : (Pipeline.ΦA (Val := Elt F) spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (fdats m 0 c).Φ t.succ = Pipeline.ΦA spec0 c from rfl,
    show (fdats m 0 c).owesAt () t.succ = (fdats m 0 c).owesAt () t.castSucc from rfl,
    show (fdats m 0 c).Φ t.castSucc = Pipeline.ΦA spec0 c from rfl, scratch_eq]
  iintro ⟨⟨⟨H10, H11, H12, H13⟩, Hg⟩, HO, H1, H2, H3, H4, H5, H6, H7, H8, H9⟩
  iapply (wp_wand_r)
  isplitl [H1 H2 H3 H4 H5 H6 H7 H8 H9 H10 H11 H12 H13]
  · iapply (kernelOwns c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) (ms0_7 t) (hstage0_7 ((cfg0.slots t 7).cast nbuf0_7)) (ms0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %_ ⟨H1, H2, H3, H4, H5, H6, H7, H8, H9, H10, H11, H12, H13⟩
  isplitl [H10 H11 H12 H13 Hg]
  · isplitl [H10 H11 H12 H13]
    · isplitl [H10]; · iexact H10
      isplitl [H11]; · iexact H11
      isplitl [H12]; · iexact H12
      iexact H13
    iexact Hg
  isplitl [HO]; · iexact HO
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem fbody_obligation (c : Dev nD) :
    BodyObligation (fdats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- Every run ends, the arguments as they were and every semaphore counter at zero. -/
theorem frame_run :
    θ_run defs (onTc (τ := τ) (main (F := F))) (s₀ m ρ)
      (fun r => Pipeline.RDat.FramePost (cfgs 0) (fun c => (fdats m 0 c).toRForget forgets0) (V m) r ∧ r.2.sem = fun _ => 0) :=
  Pipeline.θ_run_frame_forget cfgs (fdats m) (0 : Fin 1) launch0 defs₀ Variants.none forgets0 m ρ main
    (hbody := fun c => (fbody_obligation m c).loose) (hshare := fun c => (fdats m 0 c).share_full fun _ => rfl)
    (howed := fun _ _ => rfl) (V := V m) (hmain := hmain m Variants.none) (hA := fA_eq m) (hΦ := fun _ _ => rfl)
    (Q' := _) (hQ' := fun _ h => h)

/-- The frame claim, with the counters at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1.arr_in c 0 rfl), (h.1.arr_in c 1 rfl), (h.1.arr_in c 2 rfl), (h.1.arr_in c 3 rfl), (h.1.arr_in c 4 rfl), (h.1.arr_in c 5 rfl)⟩, h.2⟩) (frame_run m ρ)

end Cert.KernelIdeal.Hand
-- ==== Proof.UnitFun.lean ====
module

public import proofs.«01_k».proof.Proof.Gen.KernelIdeal.Skeleton
public import Idealize.ShloMosaic.Lib.Pipeline.Frame

@[expose] public section

set_option maxRecDepth 65536

noncomputable section

/-! What one unit of the kernel computes, as functions of the vectors it loads: the sixteen code vectors of a
tile, the two vectors of packed words, and the decoded tile. -/

namespace Cert.KernelIdeal.Hand

open Cert.KernelIdeal Cert.KernelIdeal.Gen
open Idealize.ShloMosaic Idealize.ShloMosaic.TcCoe

variable {F : FTy → Type} [FloatOps F]

/-- The rotated magnitude, scaled, on the doubled code scale. -/
def clipV (h r : FVec F S8x128 .f32) : FVec F S8x128 .f32 :=
  minimumf (maximumf (addf (mulf (absf h) r) (broadcast S8x128 (Scalar.ofBits .f32 0x40000000#32))) (addf (mulf (absf h) r) (mulf (absf h) r))) (broadcast S8x128 (Scalar.ofBits .f32 0x41C00000#32))

/-- Eight rows of codes from eight rows of rotated values `h`, their reciprocal scales `r` and their rounding words `rr`. -/
def nibV (h r : FVec F S8x128 .f32) (rr : IVec S8x128 32) : IVec S8x128 32 :=
  k0_pay14 h (clipV h r) rr (Scalar.ofBits .f32 0x40800000#32)

/-- The rounding words from byte 0, 1, 2 or 3 of the words of complemented random bytes. -/
def rrV0 (w : IVec S8x128 32) : IVec S8x128 32 := ori (andi (shli w (broadcast S8x128 14#32)) (broadcast S8x128 4177920#32)) (broadcast S8x128 8191#32)
@[inherit_doc rrV0] def rrV1 (w : IVec S8x128 32) : IVec S8x128 32 := ori (andi (shli w (broadcast S8x128 6#32)) (broadcast S8x128 4177920#32)) (broadcast S8x128 8191#32)
@[inherit_doc rrV0] def rrV2 (w : IVec S8x128 32) : IVec S8x128 32 := ori (andi (shrui w (broadcast S8x128 2#32)) (broadcast S8x128 4177920#32)) (broadcast S8x128 8191#32)
@[inherit_doc rrV0] def rrV3 (w : IVec S8x128 32) : IVec S8x128 32 := ori (andi (shrui w (broadcast S8x128 10#32)) (broadcast S8x128 4177920#32)) (broadcast S8x128 8191#32)

/-- The codes of row 0 of each of the tile's eight blocks, as the unit computes them. -/
def nib0 (v256 : FVec F S128x128 .f32) (v281 : FVec F S8x128 .f32) (w : Vec F S8x128 .i32) : IVec S8x128 32 :=
  (k0_pay14 (k0_pay11 v256) (k0_pay12 v256 v281) (k0_pay13 w) ((Scalar.ofBits .f32 0x40800000#32)))

theorem nib0_eq (v256 : FVec F S128x128 .f32) (v281 : FVec F S8x128 .f32) (w : Vec F S8x128 .i32) :
    nib0 v256 v281 w = nibV (extractStridedSlice S8x128 ![0, 0] v256 slices_S128x128_o0_0_S8x128) (k0_pay9 v281) (rrV0 w) := rfl

/-- The codes of row 1 of each of the tile's eight blocks, as the unit computes them. -/
def nib1 (v256 : FVec F S128x128 .f32) (v281 : FVec F S8x128 .f32) (w : Vec F S8x128 .i32) : IVec S8x128 32 :=
  (k0_pay19 (k0_pay15 v256) (k0_pay17 w (k0_pay16 v256 (k0_pay9 v281)) ((Scalar.ofBits .f32 0x40000000#32))) (k0_pay18 (F := F)))

theorem nib1_eq (v256 : FVec F S128x128 .f32) (v281 : FVec F S8x128 .f32) (w : Vec F S8x128 .i32) :
    nib1 v256 v281 w = nibV (extractStridedSlice S8x128 ![8, 0] v256 slices_S128x128_o8_0_S8x128) (k0_pay9 v281) (rrV1 w) := rfl

/-- The codes of row 2 of each of the tile's eight blocks, as the unit computes them. -/
def nib2 (v256 : FVec F S128x128 .f32) (v281 : FVec F S8x128 .f32) (w : Vec F S8x128 .i32) : IVec S8x128 32 :=
  (k0_pay29 (k0_pay20 v256) (k0_pay21 v256 (k0_pay9 v281)) (k0_pay22 w) (k0_pay23 v256 (k0_pay9 v281)) (k0_pay24 v256 (k0_pay9 v281)) (k0_pay26 v256 (k0_pay9 v281)) (k0_pay27 v256 (k0_pay9 v281)) (k0_pay28 (F := F)))

theorem nib2_eq (v256 : FVec F S128x128 .f32) (v281 : FVec F S8x128 .f32) (w : Vec F S8x128 .i32) :
    nib2 v256 v281 w = nibV (extractStridedSlice S8x128 ![16, 0] v256 slices_S128x128_o16_0_S8x128) (k0_pay9 v281) (rrV2 w) := rfl

/-- The codes of row 3 of each of the tile's eight blocks, as the unit computes them. -/
def nib3 (v256 : FVec F S128x128 .f32) (v281 : FVec F S8x128 .f32) (w : Vec F S8x128 .i32) : IVec S8x128 32 :=
  (k0_pay36 (k0_pay30 v256) (k0_pay31 v256 (k0_pay9 v281)) (k0_pay32 w) (k0_pay33 v256 (k0_pay9 v281)) (k0_pay34 v256 (k0_pay9 v281)) (k0_pay35 v256 (k0_pay9 v281)) (1090519040#32))

theorem nib3_eq (v256 : FVec F S128x128 .f32) (v281 : FVec F S8x128 .f32) (w : Vec F S8x128 .i32) :
    nib3 v256 v281 w = nibV (extractStridedSlice S8x128 ![24, 0] v256 slices_S128x128_o24_0_S8x128) (k0_pay9 v281) (rrV3 w) := rfl

/-- The codes of row 4 of each of the tile's eight blocks, as the unit computes them. -/
def nib4 (v256 : FVec F S128x128 .f32) (v281 : FVec F S8x128 .f32) (w : Vec F S8x128 .i32) : IVec S8x128 32 :=
  (k0_pay42 (k0_pay40 w (k0_pay38 v256 (k0_pay9 v281)) (k0_pay39 v256 (k0_pay9 v281))) (k0_pay41 (k0_pay37 v256)) (8#32))

theorem nib4_eq (v256 : FVec F S128x128 .f32) (v281 : FVec F S8x128 .f32) (w : Vec F S8x128 .i32) :
    nib4 v256 v281 w = nibV (extractStridedSlice S8x128 ![32, 0] v256 slices_S128x128_o32_0_S8x128) (k0_pay9 v281) (rrV0 w) := rfl

/-- The codes of row 5 of each of the tile's eight blocks, as the unit computes them. -/
def nib5 (v256 : FVec F S128x128 .f32) (v281 : FVec F S8x128 .f32) (w : Vec F S8x128 .i32) : IVec S8x128 32 :=
  (k0_pay51 (k0_pay43 v256) (k0_pay44 v256 (k0_pay9 v281)) (k0_pay45 w) (k0_pay46 v256 (k0_pay9 v281)) (k0_pay49 v256 (k0_pay9 v281)) (k0_pay50 v256 (k0_pay9 v281)) ((Scalar.ofBits .f32 0x3F000000#32)))

theorem nib5_eq (v256 : FVec F S128x128 .f32) (v281 : FVec F S8x128 .f32) (w : Vec F S8x128 .i32) :
    nib5 v256 v281 w = nibV (extractStridedSlice S8x128 ![40, 0] v256 slices_S128x128_o40_0_S8x128) (k0_pay9 v281) (rrV1 w) := rfl

/-- The codes of row 6 of each of the tile's eight blocks, as the unit computes them. -/
def nib6 (v256 : FVec F S128x128 .f32) (v281 : FVec F S8x128 .f32) (w : Vec F S8x128 .i32) : IVec S8x128 32 :=
  (k0_pay59 (k0_pay52 v256) (k0_pay53 v256 (k0_pay9 v281)) (k0_pay54 w) (k0_pay55 v256 (k0_pay9 v281)) (k0_pay56 v256 (k0_pay9 v281)) (k0_pay57 v256 (k0_pay9 v281)) (1098907648#32) (k0_pay58))

theorem nib6_eq (v256 : FVec F S128x128 .f32) (v281 : FVec F S8x128 .f32) (w : Vec F S8x128 .i32) :
    nib6 v256 v281 w = nibV (extractStridedSlice S8x128 ![48, 0] v256 slices_S128x128_o48_0_S8x128) (k0_pay9 v281) (rrV2 w) := rfl

/-- The codes of row 7 of each of the tile's eight blocks, as the unit computes them. -/
def nib7 (v256 : FVec F S128x128 .f32) (v281 : FVec F S8x128 .f32) (w : Vec F S8x128 .i32) : IVec S8x128 32 :=
  (k0_pay66 (k0_pay63 (k0_pay60 v256)) (k0_pay64 (k0_pay61 v256 (k0_pay9 v281)) (k0_pay62 w) (4177920#32)) (k0_pay65))

theorem nib7_eq (v256 : FVec F S128x128 .f32) (v281 : FVec F S8x128 .f32) (w : Vec F S8x128 .i32) :
    nib7 v256 v281 w = nibV (extractStridedSlice S8x128 ![56, 0] v256 slices_S128x128_o56_0_S8x128) (k0_pay9 v281) (rrV3 w) := rfl

/-- The codes of row 8 of each of the tile's eight blocks, as the unit computes them. -/
def nib8 (v256 : FVec F S128x128 .f32) (v281 : FVec F S8x128 .f32) (w : Vec F S8x128 .i32) : IVec S8x128 32 :=
  (k0_pay75 (k0_pay67 v256) (k0_pay68 v256 (k0_pay9 v281)) (k0_pay69 w) (k0_pay73 v256 (k0_pay9 v281)) (k0_pay74 v256 (k0_pay9 v281)))

theorem nib8_eq (v256 : FVec F S128x128 .f32) (v281 : FVec F S8x128 .f32) (w : Vec F S8x128 .i32) :
    nib8 v256 v281 w = nibV (extractStridedSlice S8x128 ![64, 0] v256 slices_S128x128_o64_0_S8x128) (k0_pay9 v281) (rrV0 w) := rfl

/-- The codes of row 9 of each of the tile's eight blocks, as the unit computes them. -/
def nib9 (v256 : FVec F S128x128 .f32) (v281 : FVec F S8x128 .f32) (w : Vec F S8x128 .i32) : IVec S8x128 32 :=
  (k0_pay83 (k0_pay76 v256) (k0_pay77 v256 (k0_pay9 v281)) (k0_pay78 w) (k0_pay79 v256 (k0_pay9 v281)) (k0_pay80 v256 (k0_pay9 v281)) (k0_pay81 v256 (k0_pay9 v281)) (k0_pay82 v256 (k0_pay9 v281)))

theorem nib9_eq (v256 : FVec F S128x128 .f32) (v281 : FVec F S8x128 .f32) (w : Vec F S8x128 .i32) :
    nib9 v256 v281 w = nibV (extractStridedSlice S8x128 ![72, 0] v256 slices_S128x128_o72_0_S8x128) (k0_pay9 v281) (rrV1 w) := rfl

/-- The codes of row 10 of each of the tile's eight blocks, as the unit computes them. -/
def nib10 (v256 : FVec F S128x128 .f32) (v281 : FVec F S8x128 .f32) (w : Vec F S8x128 .i32) : IVec S8x128 32 :=
  ((k0_pay87 (k0_pay84 v256) (k0_pay85 v256 (k0_pay9 v281)) (k0_pay86 w)))

theorem nib10_eq (v256 : FVec F S128x128 .f32) (v281 : FVec F S8x128 .f32) (w : Vec F S8x128 .i32) :
    nib10 v256 v281 w = nibV (extractStridedSlice S8x128 ![80, 0] v256 slices_S128x128_o80_0_S8x128) (k0_pay9 v281) (rrV2 w) := rfl

/-- The codes of row 11 of each of the tile's eight blocks, as the unit computes them. -/
def nib11 (v256 : FVec F S128x128 .f32) (v281 : FVec F S8x128 .f32) (w : Vec F S8x128 .i32) : IVec S8x128 32 :=
  (k0_pay96 (k0_pay88 v256) (k0_pay90 w) (k0_pay94 v256 (k0_pay9 v281)) (k0_pay95 v256 (k0_pay9 v281)))

theorem nib11_eq (v256 : FVec F S128x128 .f32) (v281 : FVec F S8x128 .f32) (w : Vec F S8x128 .i32) :
    nib11 v256 v281 w = nibV (extractStridedSlice S8x128 ![88, 0] v256 slices_S128x128_o88_0_S8x128) (k0_pay9 v281) (rrV3 w) := rfl

/-- The codes of row 12 of each of the tile's eight blocks, as the unit computes them. -/
def nib12 (v256 : FVec F S128x128 .f32) (v281 : FVec F S8x128 .f32) (w : Vec F S8x128 .i32) : IVec S8x128 32 :=
  (k0_pay105 (k0_pay97 v256) (k0_pay98 v256 (k0_pay9 v281)) (k0_pay99 w) (k0_pay100 v256 (k0_pay9 v281)) (k0_pay101 v256 (k0_pay9 v281)) (k0_pay102 v256 (k0_pay9 v281)) (k0_pay103 v256 (k0_pay9 v281)) (k0_pay104))

theorem nib12_eq (v256 : FVec F S128x128 .f32) (v281 : FVec F S8x128 .f32) (w : Vec F S8x128 .i32) :
    nib12 v256 v281 w = nibV (extractStridedSlice S8x128 ![96, 0] v256 slices_S128x128_o96_0_S8x128) (k0_pay9 v281) (rrV0 w) := rfl

/-- The codes of row 13 of each of the tile's eight blocks, as the unit computes them. -/
def nib13 (v256 : FVec F S128x128 .f32) (v281 : FVec F S8x128 .f32) (w : Vec F S8x128 .i32) : IVec S8x128 32 :=
  (k0_pay110 (k0_pay106 v256) (k0_pay107 v256 (k0_pay9 v281)) (k0_pay108 w) (k0_pay109))

theorem nib13_eq (v256 : FVec F S128x128 .f32) (v281 : FVec F S8x128 .f32) (w : Vec F S8x128 .i32) :
    nib13 v256 v281 w = nibV (extractStridedSlice S8x128 ![104, 0] v256 slices_S128x128_o104_0_S8x128) (k0_pay9 v281) (rrV1 w) := rfl

/-- The codes of row 14 of each of the tile's eight blocks, as the unit computes them. -/
def nib14 (v256 : FVec F S128x128 .f32) (v281 : FVec F S8x128 .f32) (w : Vec F S8x128 .i32) : IVec S8x128 32 :=
  (k0_pay114 (k0_pay111 v256) ((k0_pay113 (k0_pay9 v281) w (k0_pay112 v256))))

theorem nib14_eq (v256 : FVec F S128x128 .f32) (v281 : FVec F S8x128 .f32) (w : Vec F S8x128 .i32) :
    nib14 v256 v281 w = nibV (extractStridedSlice S8x128 ![112, 0] v256 slices_S128x128_o112_0_S8x128) (k0_pay9 v281) (rrV2 w) := rfl

/-- The codes of row 15 of each of the tile's eight blocks, as the unit computes them. -/
def nib15 (v256 : FVec F S128x128 .f32) (v281 : FVec F S8x128 .f32) (w : Vec F S8x128 .i32) : IVec S8x128 32 :=
  (k0_pay123 (k0_pay115 v256) (k0_pay116 v256 (k0_pay9 v281)) (k0_pay117 w) (k0_pay118 v256 (k0_pay9 v281)) (k0_pay119 v256 (k0_pay9 v281)) (k0_pay121 v256 (k0_pay9 v281)) (k0_pay122 v256 (k0_pay9 v281)))

theorem nib15_eq (v256 : FVec F S128x128 .f32) (v281 : FVec F S8x128 .f32) (w : Vec F S8x128 .i32) :
    nib15 v256 v281 w = nibV (extractStridedSlice S8x128 ![120, 0] v256 slices_S128x128_o120_0_S8x128) (k0_pay9 v281) (rrV3 w) := rfl

/-- The packed words of rows 0 to 7, and of rows 8 to 15. -/
def wordLo (v256 : FVec F S128x128 .f32) (v281 : FVec F S8x128 .f32) (w0 w1 : Vec F S8x128 .i32) : Vec F S8x128 .i32 :=
  k0_pay125 (k0_pay124 (nib0 v256 v281 w0) (nib1 v256 v281 w0) (nib2 v256 v281 w0) (nib3 v256 v281 w0) (nib4 v256 v281 w1) (nib5 v256 v281 w1) (nib6 v256 v281 w1) (nib7 v256 v281 w1))

@[inherit_doc wordLo] def wordHi (v256 : FVec F S128x128 .f32) (v281 : FVec F S8x128 .f32) (w2 w3 : Vec F S8x128 .i32) : Vec F S8x128 .i32 :=
  k0_pay127 (k0_pay126 (nib8 v256 v281 w2) (nib9 v256 v281 w2) (nib10 v256 v281 w2) (nib11 v256 v281 w2) (nib12 v256 v281 w3) (nib13 v256 v281 w3) (nib14 v256 v281 w3) (nib15 v256 v281 w3))

/-- The decoded tile, from the two halves of the packed words and the eight rows of scales. -/
def tileDec (wA wB : Vec F S8x128 .i32) (s0 s1 s2 s3 s4 s5 s6 s7 : Vec F S1x128 .f32) : Vec F S128x128 .bf16 :=
  k0_pay159 (k0_pay136 (k0_pay129 wA) (k0_pay130 wA) (k0_pay131 wA) (k0_pay132 wA) (k0_pay133 wA) (k0_pay134) s0) (k0_pay137 (k0_pay129 wA) (k0_pay130 wA) (k0_pay131 wA) (k0_pay132 wA) (k0_pay133 wA) (k0_pay134) s1) (k0_pay138 (k0_pay129 wA) (k0_pay130 wA) (k0_pay131 wA) (k0_pay132 wA) (k0_pay133 wA) (k0_pay134) s2) (k0_pay139 (k0_pay129 wA) (k0_pay130 wA) (k0_pay131 wA) (k0_pay132 wA) (k0_pay133 wA) (k0_pay134) s3) (k0_pay143 (k0_pay141 wB) (k0_pay142 wB)) (k0_pay144 (k0_pay141 wB) (k0_pay142 wB) s4) (k0_pay145 (k0_pay141 wB) (k0_pay142 wB) s5) s6 s7

end Cert.KernelIdeal.Hand
-- ==== Proof.UnitVal.lean ====
module

public import proofs.«01_k».proof.Proof.Unit
public import proofs.«01_k».proof.Proof.UnitFun
public import Idealize.ShloMosaic.Lib.ValueIdx
public import Idealize.ShloMosaic.Lib.IdealHost
public import Idealize.ShloMosaic.Lib.Pointwise

@[expose] public section

set_option maxRecDepth 65536

noncomputable section

/-! One unit of the kernel, with what it leaves in the three arrays it writes for good. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Every fourth row of the unit's thirty-two rows of byte words, from row `q`. -/
def wq (v301 : Vec F S1x128x128 .i8) (q : Fin 4) : Vec F S8x128 .i32 :=
  fun x => k0_pay10 v301 (ix2 (n1 := 128) ⟨4 * (x 0).val + q.val, by have := (x 0).isLt; have := q.isLt; simp at *; omega⟩ (x 1))

/-- One of the unit's eight rows of scales. -/
def sRow (v180 : Elt F .f32) (v260 : Vec F S8x128 .f32) (r : Fin 8) : Vec F S1x128 .f32 :=
  fun x => k0_pay8 (k0_pay5 v180 v260) (ix2 r (x 1))

/-- The unit's packed words: those of the first eight codes of a block, and those of the last eight. -/
def uLo (v173 : IVec S128x128 1) (v174 v175 : FVec F S128x128 .f32) (v180 : Elt F .f32) (v254 : Vec F S1x128x128 .bf16) (v260 : Vec F S8x128 .f32) (v301 : Vec F S1x128x128 .i8) : Vec F S8x128 .i32 :=
  wordLo (k0_pay3 (k0_pay158 v173 v174 v175) v254) (k0_pay6 v180 v260) (wq v301 0) (wq v301 1)
@[inherit_doc uLo] def uHi (v173 : IVec S128x128 1) (v174 v175 : FVec F S128x128 .f32) (v180 : Elt F .f32) (v254 : Vec F S1x128x128 .bf16) (v260 : Vec F S8x128 .f32) (v301 : Vec F S1x128x128 .i8) : Vec F S8x128 .i32 :=
  wordHi (k0_pay3 (k0_pay158 v173 v174 v175) v254) (k0_pay6 v180 v260) (wq v301 2) (wq v301 3)

/-- Eight of the sixteen rows that interleave two vectors of words. -/
def rowsOf (lo hi : Vec F S8x128 .i32) (half : Fin 2) : Vec F S8x128 .i32 :=
  fun x => (if (x 0).val % 2 = 0 then lo else hi) (ix2 (n1 := 128) ⟨4 * half.val + (x 0).val / 2, by have := (x 0).isLt; have := half.isLt; simp at *; omega⟩ (x 1))

/-- A buffer has changed from `f` to `g` on the set `P` only, and reads `T` there. -/
def Upd {κ : Kind} {sp : Space} {s : Shape} {e : EltTy} (v : View sig κ sp s e) (f g : BufTy.Contents (Elt F) v.ty) (P : s.Idx → Prop) (T : s.Idx → Elt F e) : Prop :=
  (∀ y, P y → v.read (Elt F) g y = T y) ∧ ∀ y, ¬ P y → v.read (Elt F) g y = v.read (Elt F) f y

theorem upd_of_pieces {κ : Kind} {sp : Space} {s : Shape} {e : EltTy} (v : View sig κ sp s e) (f : BufTy.Contents (Elt F) v.ty) (P : s.Idx → Prop) (T : s.Idx → Elt F e)
    (L : List (View.Piece (Elt F) s e)) (hG : ∀ p ∈ L, ∀ x, p.2 x = T (p.1.emb x)) (hP : ∀ y, P y ↔ ∃ p ∈ L, y ∈ p.1.set) :
    Upd v f (v.writes (Elt F) f L) P T :=
  ⟨fun y hy => View.read_writes_apply_of_pieces v f T L hG y ((hP y).mp hy),
    fun y hy => View.read_writes_apply_of_forall_not_mem v f y L fun p hp hm => hy ((hP y).mpr ⟨p, hp, hm⟩)⟩

/-- A strided load of the unit's byte words. -/
theorem load_wq (v : View sig .tc .vmem S288x128 .i32) (t2 : Fin k0_t2_loop.trips) (t3 : Fin k0_t3_loop.trips) (q : Fin 4) (w : BitVec 32) (hw : w = BitVec.ofNat 32 q.val)
    (v301 : Vec F S1x128x128 .i8) (h1 h2) :
    v.readCov (Val := Elt F) [⟨Rect.unit (s := S288x128) (k0_off4 t2 t3) S32x128.size h1, k0_pay10 v301⟩] ⟨k0_off5 t2 t3 w, S8x128.size, ![4, 1], h2⟩ = wq v301 q := by
  subst hw
  funext x
  have hx : (x 0).val < 8 := (x 0).isLt
  have hlt : 4 * (x 0).val + q.val < 32 := by have := q.isLt; omega
  refine View.read_writes_cons_hit_of_coords (Val := Elt F) v _ (Rect.unit (s := S288x128) (k0_off4 t2 t3) S32x128.size h1) (k0_pay10 v301) [] (ix2 (n1 := 128) ⟨4 * (x 0).val + q.val, hlt⟩ (x 1)) _ ?_
  intro a
  have e4 := congrFun (k0_off4_eq t2 t3) a
  have e5 := congrFun (k0_off5_eq t2 t3 q) a
  change k0_off5 t2 t3 (BitVec.ofNat 32 ↑q) a + (![4, 1] : Fin 2 → ℕ) a * (x a).val = k0_off4 t2 t3 a + 1 * _
  rw [e4, e5]
  fin_cases a
  · change 96 * t2.val + 32 * t3.val + q.val + 4 * (x 0).val = 96 * t2.val + 32 * t3.val + 1 * (4 * (x 0).val + q.val)
    omega
  · change 0 + 1 * (x 1).val = 0 + 1 * (x 1).val
    rfl

/-- A load of one row of the unit's scales. -/
theorem load_sRow (v : View sig .tc .vmem S72x512 .f32) (t1 : Fin k0_t1_loop.trips) (t2 : Fin k0_t2_loop.trips) (t3 : Fin k0_t3_loop.trips) (a : Fin 2) (b : Fin 4) (r : Fin 8) (w w' : BitVec 32)
    (hw : w = BitVec.ofNat 32 (4 * a.val)) (hw' : w' = BitVec.ofNat 32 b.val) (hr : r.val = 4 * a.val + b.val) (v180 : Elt F .f32) (v260 : Vec F S8x128 .f32) (h1 h2) :
    v.readCov (Val := Elt F) [⟨Rect.unit (s := S72x512) (k0_off2 t1 t2 t3) S8x128.size h1, k0_pay8 (k0_pay5 v180 v260)⟩] (Rect.unit (s := S72x512) (k0_off9 t1 t2 t3 w w') S1x128.size h2).toLoadRect = sRow v180 v260 r := by
  subst hw hw'
  funext x
  refine View.read_writes_cons_hit_of_coords (Val := Elt F) v _ (Rect.unit (s := S72x512) (k0_off2 t1 t2 t3) S8x128.size h1) (k0_pay8 (k0_pay5 v180 v260)) [] (ix2 (n1 := 128) r (x 1)) _ ?_
  intro d
  have e2 := congrFun (k0_off2_eq t1 t2 t3) d
  have e9 := congrFun (k0_off9_eq t1 t2 t3 a b) d
  change k0_off9 t1 t2 t3 (BitVec.ofNat 32 (4 * a.val)) (BitVec.ofNat 32 b.val) d + 1 * (x d).val = k0_off2 t1 t2 t3 d + 1 * _
  rw [e2, e9]
  fin_cases d
  · have h0 : (x 0).val = 0 := by have : (x 0).val < 1 := (x 0).isLt; omega
    change 24 * t2.val + 8 * t3.val + 4 * a.val + b.val + 1 * (x 0).val = 24 * t2.val + 8 * t3.val + 1 * r.val
    omega
  · change 128 * t1.val + 1 * (x 1).val = 128 * t1.val + 1 * (x 1).val
    rfl

/-- A load of eight rows of the unit's packed words, stored as two interleaved halves. -/
theorem load_rows (v : View sig .tc .vmem S144x128 .i32) (f : BufTy.Contents (Elt F) v.ty) (t2 : Fin k0_t2_loop.trips) (t3 : Fin k0_t3_loop.trips) (half : Fin 2) (w : BitVec 32) (hw : w = BitVec.ofNat 32 (8 * half.val))
    (lo hi : Vec F S8x128 .i32) (h0 h1 h2) :
    v.readAt (Elt F) (Rect.unit (s := S144x128) (k0_off7 t2 t3 w) S8x128.size h2).toLoadRect
      (v.writes (Elt F) f [⟨⟨(⟨k0_off6 t2 t3 1#32, S8x128.size, ![2, 1], h1⟩ : LoadRect S144x128), spos_2_1⟩, hi⟩, ⟨⟨(⟨k0_off6 t2 t3 0#32, S8x128.size, ![2, 1], h0⟩ : LoadRect S144x128), spos_2_1⟩, lo⟩])
      = rowsOf lo hi half := by
  subst hw
  funext x
  have hx : (x 0).val < 8 := (x 0).isLt
  have hh := half.isLt
  rw [View.readAt_apply]
  unfold rowsOf
  have e7 := k0_off7_eq t2 t3 half
  by_cases hp : (x 0).val % 2 = 0
  · rw [if_pos hp]
    rw [View.read_writes_cons_miss]
    · refine View.read_writes_cons_hit_of_coords (Val := Elt F) v _ ⟨(⟨k0_off6 t2 t3 0#32, S8x128.size, ![2, 1], h0⟩ : LoadRect S144x128), spos_2_1⟩ lo [] _ _ ?_
      intro a
      have e := congrFun (k0_off6_eq t2 t3 0) a
      have e' := congrFun e7 a
      change k0_off7 t2 t3 (BitVec.ofNat 32 (8 * half.val)) a + 1 * (x a).val = k0_off6 t2 t3 (BitVec.ofNat 32 (0 : Fin 2).val) a + (![2, 1] : Fin 2 → ℕ) a * _
      rw [e, e']
      fin_cases a
      · change 48 * t2.val + 16 * t3.val + 8 * half.val + 1 * (x 0).val = 48 * t2.val + 16 * t3.val + 0 + 2 * (4 * half.val + (x 0).val / 2)
        omega
      · change 0 + 1 * (x 1).val = 0 + 1 * (x 1).val
        rfl
    · rw [LoadRect.mem_set]
      intro hm
      obtain ⟨j, hj, e⟩ := hm 0
      have e6 := congrFun (k0_off6_eq t2 t3 1) 0
      have e' := congrFun e7 0
      change k0_off7 t2 t3 (BitVec.ofNat 32 (8 * half.val)) 0 + 1 * (x 0).val = k0_off6 t2 t3 (BitVec.ofNat 32 (1 : Fin 2).val) 0 + 2 * j at e
      rw [e6, e'] at e
      change 48 * t2.val + 16 * t3.val + 8 * half.val + 1 * (x 0).val = 48 * t2.val + 16 * t3.val + 1 + 2 * j at e
      omega
  · rw [if_neg hp]
    refine View.read_writes_cons_hit_of_coords (Val := Elt F) v _ ⟨(⟨k0_off6 t2 t3 1#32, S8x128.size, ![2, 1], h1⟩ : LoadRect S144x128), spos_2_1⟩ hi _ _ _ ?_
    intro a
    have e := congrFun (k0_off6_eq t2 t3 1) a
    have e' := congrFun e7 a
    change k0_off7 t2 t3 (BitVec.ofNat 32 (8 * half.val)) a + 1 * (x a).val = k0_off6 t2 t3 (BitVec.ofNat 32 (1 : Fin 2).val) a + (![2, 1] : Fin 2 → ℕ) a * _
    rw [e, e']
    fin_cases a
    · change 48 * t2.val + 16 * t3.val + 8 * half.val + 1 * (x 0).val = 48 * t2.val + 16 * t3.val + 1 + 2 * (4 * half.val + (x 0).val / 2)
      omega
    · change 0 + 1 * (x 1).val = 0 + 1 * (x 1).val
      rfl

/-- The places of the three arrays a unit writes for good. -/
def P8 (t1 t2 t3 : ℕ) (y : S3x192x512.Idx) : Prop := (y 0).val = t2 ∧ (64 * t3 ≤ (y 1).val ∧ (y 1).val < 64 * t3 + 64) ∧ 128 * t1 ≤ (y 2).val ∧ (y 2).val < 128 * t1 + 128
@[inherit_doc P8] def P9 (t1 t2 t3 : ℕ) (y : S3x24x512.Idx) : Prop := (y 0).val = t2 ∧ (8 * t3 ≤ (y 1).val ∧ (y 1).val < 8 * t3 + 8) ∧ 128 * t1 ≤ (y 2).val ∧ (y 2).val < 128 * t1 + 128
@[inherit_doc P8] def P10 (t1 t2 t3 : ℕ) (y : S1152x512.Idx) : Prop := (384 * t2 + 128 * t3 ≤ (y 0).val ∧ (y 0).val < 384 * t2 + 128 * t3 + 128) ∧ 128 * t1 ≤ (y 1).val ∧ (y 1).val < 128 * t1 + 128

theorem upd8 (v : View sig .tc .vmem S3x192x512 .i8) (f : BufTy.Contents (Elt F) v.ty) (t1 : Fin k0_t1_loop.trips) (t2 : Fin k0_t2_loop.trips) (t3 : Fin k0_t3_loop.trips)
    (T : S3x192x512.Idx → Elt F .i8) (p0 p1 : S1x32x128.Idx → Elt F .i8) (h0 h1)
    (q0 : ∀ (x : S1x32x128.Idx) (y : S3x192x512.Idx), (y 0).val = t2 → (y 1).val = 64 * t3 + 32 * 0 + (x 1).val → (y 2).val = 128 * t1 + (x 2).val → p0 x = T y)
    (q1 : ∀ (x : S1x32x128.Idx) (y : S3x192x512.Idx), (y 0).val = t2 → (y 1).val = 64 * t3 + 32 * 1 + (x 1).val → (y 2).val = 128 * t1 + (x 2).val → p1 x = T y) :
    Upd v f (v.writes (Elt F) f [⟨Rect.unit (s := S3x192x512) (k0_off8 t1 t2 t3 8#32) S1x32x128.size h1, p1⟩, ⟨Rect.unit (s := S3x192x512) (k0_off8 t1 t2 t3 0#32) S1x32x128.size h0, p0⟩])
      (P8 t1 t2 t3) T := by
  have e0 : k0_off8 t1 t2 t3 0#32 = _ := k0_off8_eq t1 t2 t3 0
  have e1 : k0_off8 t1 t2 t3 8#32 = _ := k0_off8_eq t1 t2 t3 1
  apply upd_of_pieces
  · intro p hp x
    have hx : (x 0).val = 0 := by
      rcases List.mem_cons.mp hp with rfl | hp
      · have : (x 0).val < 1 := (x 0).isLt; omega
      · obtain rfl := List.mem_singleton.mp hp
        have : (x 0).val < 1 := (x 0).isLt; omega
    rcases List.mem_cons.mp hp with rfl | hp
    · refine q1 x _ ?_ ?_ ?_
      · rw [Rect.emb_apply]
        have q : k0_off8 t1 t2 t3 8#32 0 = t2.val := congrFun e1 0
        change k0_off8 t1 t2 t3 8#32 0 + 1 * (x 0).val = _
        omega
      · rw [Rect.emb_apply]
        have q : k0_off8 t1 t2 t3 8#32 1 = 64 * t3.val + 32 * 1 := congrFun e1 1
        change k0_off8 t1 t2 t3 8#32 1 + 1 * (x 1).val = _
        omega
      · rw [Rect.emb_apply]
        have q : k0_off8 t1 t2 t3 8#32 2 = 128 * t1.val := congrFun e1 2
        change k0_off8 t1 t2 t3 8#32 2 + 1 * (x 2).val = _
        omega
    · obtain rfl := List.mem_singleton.mp hp
      refine q0 x _ ?_ ?_ ?_
      · rw [Rect.emb_apply]
        have q : k0_off8 t1 t2 t3 0#32 0 = t2.val := congrFun e0 0
        change k0_off8 t1 t2 t3 0#32 0 + 1 * (x 0).val = _
        omega
      · rw [Rect.emb_apply]
        have q : k0_off8 t1 t2 t3 0#32 1 = 64 * t3.val + 32 * 0 := congrFun e0 1
        change k0_off8 t1 t2 t3 0#32 1 + 1 * (x 1).val = _
        omega
      · rw [Rect.emb_apply]
        have q : k0_off8 t1 t2 t3 0#32 2 = 128 * t1.val := congrFun e0 2
        change k0_off8 t1 t2 t3 0#32 2 + 1 * (x 2).val = _
        omega
  · intro y
    have m0 : y ∈ (Rect.unit (s := S3x192x512) (k0_off8 t1 t2 t3 0#32) S1x32x128.size h0).set ↔ ((y 0).val = t2.val ∧ (64 * t3.val ≤ (y 1).val ∧ (y 1).val < 64 * t3.val + 32) ∧ 128 * t1.val ≤ (y 2).val ∧ (y 2).val < 128 * t1.val + 128) := by
      rw [Rect.mem_set_unit, e0]
      refine ⟨fun h => ?_, fun h a => ?_⟩
      · have a0 : t2.val ≤ (y 0).val ∧ (y 0).val < t2.val + 1 := h 0
        have a1 : 64 * t3.val + 32 * 0 ≤ (y 1).val ∧ (y 1).val < 64 * t3.val + 32 * 0 + 32 := h 1
        have a2 : 128 * t1.val ≤ (y 2).val ∧ (y 2).val < 128 * t1.val + 128 := h 2
        omega
      · fin_cases a
        · change t2.val ≤ (y 0).val ∧ (y 0).val < t2.val + 1; omega
        · change 64 * t3.val + 32 * 0 ≤ (y 1).val ∧ (y 1).val < 64 * t3.val + 32 * 0 + 32; omega
        · exact h.2.2
    have m1 : y ∈ (Rect.unit (s := S3x192x512) (k0_off8 t1 t2 t3 8#32) S1x32x128.size h1).set ↔ ((y 0).val = t2.val ∧ (64 * t3.val + 32 ≤ (y 1).val ∧ (y 1).val < 64 * t3.val + 64) ∧ 128 * t1.val ≤ (y 2).val ∧ (y 2).val < 128 * t1.val + 128) := by
      rw [Rect.mem_set_unit, e1]
      refine ⟨fun h => ?_, fun h a => ?_⟩
      · have a0 : t2.val ≤ (y 0).val ∧ (y 0).val < t2.val + 1 := h 0
        have a1 : 64 * t3.val + 32 * 1 ≤ (y 1).val ∧ (y 1).val < 64 * t3.val + 32 * 1 + 32 := h 1
        have a2 : 128 * t1.val ≤ (y 2).val ∧ (y 2).val < 128 * t1.val + 128 := h 2
        omega
      · fin_cases a
        · change t2.val ≤ (y 0).val ∧ (y 0).val < t2.val + 1; omega
        · change 64 * t3.val + 32 * 1 ≤ (y 1).val ∧ (y 1).val < 64 * t3.val + 32 * 1 + 32; omega
        · exact h.2.2
    refine ⟨fun h => ?_, fun ⟨q, hq, hy⟩ => ?_⟩
    · unfold P8 at h
      by_cases hlt : (y 1).val < 64 * t3.val + 32
      · exact ⟨_, List.mem_cons_of_mem _ (List.mem_singleton.mpr rfl), m0.mpr (by omega)⟩
      · exact ⟨_, List.mem_cons_self, m1.mpr (by omega)⟩
    · unfold P8
      rcases List.mem_cons.mp hq with rfl | hq
      · have := m1.mp hy; omega
      · obtain rfl := List.mem_singleton.mp hq
        have := m0.mp hy; omega

theorem upd9 (v : View sig .tc .vmem S3x24x512 .fp8e4m3) (f : BufTy.Contents (Elt F) v.ty) (t1 : Fin k0_t1_loop.trips) (t2 : Fin k0_t2_loop.trips) (t3 : Fin k0_t3_loop.trips)
    (T : S3x24x512.Idx → Elt F .fp8e4m3) (p : S1x8x128.Idx → Elt F .fp8e4m3) (h0)
    (h : ∀ (x : S1x8x128.Idx) (y : S3x24x512.Idx), (y 0).val = t2 → (y 1).val = 8 * t3 + (x 1).val → (y 2).val = 128 * t1 + (x 2).val → p x = T y) :
    Upd v f (v.writes (Elt F) f [⟨Rect.unit (s := S3x24x512) (k0_off3 t1 t2 t3) S1x8x128.size h0, p⟩]) (P9 t1 t2 t3) T := by
  have e0 := k0_off3_eq t1 t2 t3
  apply upd_of_pieces
  · intro p hp x
    obtain rfl := List.mem_singleton.mp hp
    have hx : (x 0).val = 0 := by have : (x 0).val < 1 := (x 0).isLt; omega
    refine h x _ ?_ ?_ ?_
    · rw [Rect.emb_apply]
      have q : k0_off3 t1 t2 t3 0 = t2.val := congrFun e0 0
      change k0_off3 t1 t2 t3 0 + 1 * (x 0).val = _
      omega
    · rw [Rect.emb_apply]
      have q : k0_off3 t1 t2 t3 1 = 8 * t3.val := congrFun e0 1
      change k0_off3 t1 t2 t3 1 + 1 * (x 1).val = _
      omega
    · rw [Rect.emb_apply]
      have q : k0_off3 t1 t2 t3 2 = 128 * t1.val := congrFun e0 2
      change k0_off3 t1 t2 t3 2 + 1 * (x 2).val = _
      omega
  · intro y
    have m0 : y ∈ (Rect.unit (s := S3x24x512) (k0_off3 t1 t2 t3) S1x8x128.size h0).set ↔ P9 t1 t2 t3 y := by
      rw [Rect.mem_set_unit, e0]
      refine ⟨fun h => ?_, fun h a => ?_⟩
      · have a0 : t2.val ≤ (y 0).val ∧ (y 0).val < t2.val + 1 := h 0
        have a1 : 8 * t3.val ≤ (y 1).val ∧ (y 1).val < 8 * t3.val + 8 := h 1
        have a2 : 128 * t1.val ≤ (y 2).val ∧ (y 2).val < 128 * t1.val + 128 := h 2
        unfold P9; omega
      · obtain ⟨q0, q1, q2⟩ := h
        fin_cases a
        · change t2.val ≤ (y 0).val ∧ (y 0).val < t2.val + 1; omega
        · exact q1
        · exact q2
    exact ⟨fun h => ⟨_, List.mem_singleton.mpr rfl, m0.mpr h⟩, fun ⟨q, hq, hy⟩ => m0.mp (by obtain rfl := List.mem_singleton.mp hq; exact hy)⟩

theorem upd10 (v : View sig .tc .vmem S1152x512 .bf16) (f : BufTy.Contents (Elt F) v.ty) (t1 : Fin k0_t1_loop.trips) (t2 : Fin k0_t2_loop.trips) (t3 : Fin k0_t3_loop.trips)
    (T : S1152x512.Idx → Elt F .bf16) (p : S128x128.Idx → Elt F .bf16) (h0)
    (h : ∀ (x : S128x128.Idx) (y : S1152x512.Idx), (y 0).val = 384 * t2 + 128 * t3 + (x 0).val → (y 1).val = 128 * t1 + (x 1).val → p x = T y) :
    Upd v f (v.writes (Elt F) f [⟨Rect.unit (s := S1152x512) (k0_off10 t1 t2 t3) S128x128.size h0, p⟩]) (P10 t1 t2 t3) T := by
  have e0 := k0_off10_eq t1 t2 t3
  apply upd_of_pieces
  · intro p hp x
    obtain rfl := List.mem_singleton.mp hp
    refine h x _ ?_ ?_
    · rw [Rect.emb_apply]
      have q : k0_off10 t1 t2 t3 0 = 384 * t2.val + 128 * t3.val := congrFun e0 0
      change k0_off10 t1 t2 t3 0 + 1 * (x 0).val = _
      omega
    · rw [Rect.emb_apply]
      have q : k0_off10 t1 t2 t3 1 = 128 * t1.val := congrFun e0 1
      change k0_off10 t1 t2 t3 1 + 1 * (x 1).val = _
      omega
  · intro y
    have m0 : y ∈ (Rect.unit (s := S1152x512) (k0_off10 t1 t2 t3) S128x128.size h0).set ↔ P10 t1 t2 t3 y := by
      rw [Rect.mem_set_unit, e0]
      refine ⟨fun h => ?_, fun h a => ?_⟩
      · have a1 : 384 * t2.val + 128 * t3.val ≤ (y 0).val ∧ (y 0).val < 384 * t2.val + 128 * t3.val + 128 := h 0
        have a2 : 128 * t1.val ≤ (y 1).val ∧ (y 1).val < 128 * t1.val + 128 := h 1
        unfold P10; omega
      · obtain ⟨q1, q2⟩ := h
        fin_cases a
        · exact q1
        · exact q2
    exact ⟨fun h => ⟨_, List.mem_singleton.mpr rfl, m0.mpr h⟩, fun ⟨q, hq, hy⟩ => m0.mp (by obtain rfl := List.mem_singleton.mp hq; exact hy)⟩

/-- What the three arrays hold, unit by unit, as functions of what the unit reads. -/
structure UnitT (v173 : IVec S128x128 1) (v174 v175 : FVec F S128x128 .f32) (v180 : Elt F .f32) (t1 t2 t3 : ℕ)
    (v254 : Vec F S1x128x128 .bf16) (v260 : Vec F S8x128 .f32) (v301 : Vec F S1x128x128 .i8)
    (T8 : S3x192x512.Idx → Elt F .i8) (T9 : S3x24x512.Idx → Elt F .fp8e4m3) (T10 : S1152x512.Idx → Elt F .bf16) : Prop where
  h8 : ∀ (half : Fin 2) (x : S1x32x128.Idx) (y : S3x192x512.Idx), (y 0).val = t2 → (y 1).val = 64 * t3 + 32 * half.val + (x 1).val → (y 2).val = 128 * t1 + (x 2).val →
    k0_pay128 (rowsOf (uLo v173 v174 v175 v180 v254 v260 v301) (uHi v173 v174 v175 v180 v254 v260 v301) half) x = T8 y
  h9 : ∀ (x : S1x8x128.Idx) (y : S3x24x512.Idx), (y 0).val = t2 → (y 1).val = 8 * t3 + (x 1).val → (y 2).val = 128 * t1 + (x 2).val → k0_pay7 (k0_pay4 v180 v260) x = T9 y
  h10 : ∀ (x : S128x128.Idx) (y : S1152x512.Idx), (y 0).val = 384 * t2 + 128 * t3 + (x 0).val → (y 1).val = 128 * t1 + (x 1).val →
    tileDec (rowsOf (uLo v173 v174 v175 v180 v254 v260 v301) (uHi v173 v174 v175 v180 v254 v260 v301) 0) (rowsOf (uLo v173 v174 v175 v180 v254 v260 v301) (uHi v173 v174 v175 v180 v254 v260 v301) 1)
      (sRow v180 v260 0) (sRow v180 v260 1) (sRow v180 v260 2) (sRow v180 v260 3) (sRow v180 v260 4) (sRow v180 v260 5) (sRow v180 v260 6) (sRow v180 v260 7) x = T10 y

end Cert.KernelIdeal.Hand
-- ==== Proof.Math.lean ====
module

public import proofs.«01_k».proof.Proof.UnitFun
public import Idealize.ShloMosaic.Lib.ValueIdx
public import Idealize.ShloMosaic.Lib.IdealHost
public import Idealize.ShloMosaic.Lib.Pointwise

@[expose] public section

set_option maxRecDepth 65536

noncomputable section

/-! The arithmetic of one code at extended reals: what the kernel's bit arithmetic and the reference's
floor-and-compare both compute. -/

namespace Cert.KernelIdeal.Hand

open Cert.KernelIdeal Cert.KernelIdeal.Gen
open Idealize.ShloMosaic Idealize.ShloMosaic.TcCoe

section Constants
/-- A positive normal pattern of the 32-bit format, from its exponent and significand fields. -/
theorem c_of (b : BitVec 32) (ex fr : ℕ) (hs : (b.extractLsb' 31 1 == 1#1) = false) (he : (b.extractLsb' 23 8).toNat = ex)
    (hf : (b.extractLsb' 0 23).toNat = fr) (h1 : ex ≠ 255) (h0 : ex ≠ 0) :
    Ideal.ofBits .f32 b = ((((2 ^ 23 + fr : ℕ) : ℝ) * (2 : ℝ) ^ ((ex : ℤ) - 127 - 23) : ℝ) : EReal) := by
  simp only [Ideal.ofBits, Ideal.ieee]
  rw [show (8 + 23 : ℕ) = 31 from rfl, hs, he, hf]
  simp [h1, h0]

theorem c_0 : Ideal.ofBits .f32 0x00000000#32 = ((0 : ℝ) : EReal) := by simp
theorem c_1 : Ideal.ofBits .f32 0x3F800000#32 = ((1 : ℝ) : EReal) :=
  (c_of _ 127 0 (by decide) (by decide) (by decide) (by decide) (by decide)).trans (by norm_num)
theorem c_2 : Ideal.ofBits .f32 0x40000000#32 = ((2 : ℝ) : EReal) :=
  (c_of _ 128 0 (by decide) (by decide) (by decide) (by decide) (by decide)).trans (by norm_num)
theorem c_4 : Ideal.ofBits .f32 0x40800000#32 = ((4 : ℝ) : EReal) :=
  (c_of _ 129 0 (by decide) (by decide) (by decide) (by decide) (by decide)).trans (by norm_num)
theorem c_8 : Ideal.ofBits .f32 0x41000000#32 = ((8 : ℝ) : EReal) :=
  (c_of _ 130 0 (by decide) (by decide) (by decide) (by decide) (by decide)).trans (by norm_num)
theorem c_16 : Ideal.ofBits .f32 0x41800000#32 = ((16 : ℝ) : EReal) :=
  (c_of _ 131 0 (by decide) (by decide) (by decide) (by decide) (by decide)).trans (by norm_num)
theorem c_24 : Ideal.ofBits .f32 0x41C00000#32 = ((24 : ℝ) : EReal) :=
  (c_of _ 131 4194304 (by decide) (by decide) (by decide) (by decide) (by decide)).trans (by norm_num)
theorem c_6 : Ideal.ofBits .f32 0x40C00000#32 = ((6 : ℝ) : EReal) :=
  (c_of _ 129 4194304 (by decide) (by decide) (by decide) (by decide) (by decide)).trans (by norm_num)
theorem c_3 : Ideal.ofBits .f32 0x40400000#32 = ((3 : ℝ) : EReal) :=
  (c_of _ 128 4194304 (by decide) (by decide) (by decide) (by decide) (by decide)).trans (by norm_num)
theorem c_3_2 : Ideal.ofBits .f32 0x3FC00000#32 = ((3/2 : ℝ) : EReal) :=
  (c_of _ 127 4194304 (by decide) (by decide) (by decide) (by decide) (by decide)).trans (by norm_num)
theorem c_1_2 : Ideal.ofBits .f32 0x3F000000#32 = ((1/2 : ℝ) : EReal) :=
  (c_of _ 126 0 (by decide) (by decide) (by decide) (by decide) (by decide)).trans (by norm_num)
theorem c_1_4 : Ideal.ofBits .f32 0x3E800000#32 = ((1/4 : ℝ) : EReal) :=
  (c_of _ 125 0 (by decide) (by decide) (by decide) (by decide) (by decide)).trans (by norm_num)
theorem c_1_8 : Ideal.ofBits .f32 0x3E000000#32 = ((1/8 : ℝ) : EReal) :=
  (c_of _ 124 0 (by decide) (by decide) (by decide) (by decide) (by decide)).trans (by norm_num)
theorem c_1_16 : Ideal.ofBits .f32 0x3D800000#32 = ((1/16 : ℝ) : EReal) :=
  (c_of _ 123 0 (by decide) (by decide) (by decide) (by decide) (by decide)).trans (by norm_num)
theorem c_1_256 : Ideal.ofBits .f32 0x3B800000#32 = ((1/256 : ℝ) : EReal) :=
  (c_of _ 119 0 (by decide) (by decide) (by decide) (by decide) (by decide)).trans (by norm_num)
theorem c_448 : Ideal.ofBits .f32 0x43E00000#32 = ((448 : ℝ) : EReal) :=
  (c_of _ 135 6291456 (by decide) (by decide) (by decide) (by decide) (by decide)).trans (by norm_num)
theorem c_2p23 : Ideal.ofBits .f32 0x4B000000#32 = ((8388608 : ℝ) : EReal) :=
  (c_of _ 150 0 (by decide) (by decide) (by decide) (by decide) (by decide)).trans (by norm_num)
end Constants

/-- The kernel's clipped magnitude at one element. -/
def clipS (h r : EReal) : EReal :=
  min (max (max h (-h) * r + Ideal.ofBits .f32 0x40000000#32) (max h (-h) * r + max h (-h) * r)) (Ideal.ofBits .f32 0x41C00000#32)

/-- The kernel's magnitude code of a clipped magnitude. -/
def magS (v2 : EReal) (rr : BitVec 32) : BitVec 32 :=
  (((if v2 < Ideal.ofBits .f32 0x40800000#32 then 1073741824#32 else if v2 < Ideal.ofBits .f32 0x41000000#32 then 1082130432#32 else if v2 < Ideal.ofBits .f32 0x41800000#32 then 1090519040#32 else 1098907648#32)
    + Ideal.fptosi 32 (Ideal.liftRound Int.ceil ((v2 * (if v2 < Ideal.ofBits .f32 0x40800000#32 then Ideal.ofBits .f32 0x3F000000#32 else if v2 < Ideal.ofBits .f32 0x41000000#32 then Ideal.ofBits .f32 0x3E800000#32 else if v2 < Ideal.ofBits .f32 0x41800000#32 then Ideal.ofBits .f32 0x3E000000#32 else Ideal.ofBits .f32 0x3D800000#32) - Ideal.ofBits .f32 0x3F800000#32) * Ideal.ofBits .f32 0x4B000000#32))
    + rr) >>> 22#32) &&& 7#32

/-- The kernel's code at one element, as a word. -/
def nibS (h r : EReal) (rr : BitVec 32) : BitVec 32 :=
  magS (clipS h r) rr ||| (if h < Ideal.ofBits .f32 0x00000000#32 then 8#32 else 0#32)

theorem sel_ofBool {α : Type} (p : Prop) [Decidable p] (a b : α) : Scalar.select (BitVec.ofBool (decide p)) a b = if p then a else b := by
  by_cases h : p <;> simp [h, Scalar.select]

theorem nibV_apply (h r : FVec Ideal S8x128 .f32) (rr : IVec S8x128 32) (x : S8x128.Idx) :
    nibV h r rr x = nibS (h x) (r x) (rr x) := by
  unfold nibV k0_pay14 nibS magS
  dsimp only [select, cmpf, broadcast, addi, mulf, subf, ceil, fptosi, ori, andi, shrui]
  simp only [Ideal.cmpf_def, Ideal.cmp, sel_ofBool]
  rfl

/-- Whether the position `t` between two codes is rounded up by the random byte `b`. -/
def upR (t : ℝ) (b : ℕ) : ℤ := if ((b : ℝ) + 1 / 2) * (1 / 256) < t - (⌊t⌋ : ℝ) then 1 else 0

/-- The magnitude code of `m` in [0, 6] under the random byte `b`: 0 to 7. -/
def idxR (m : ℝ) (b : ℕ) : ℤ :=
  if m < 2 then ⌊2 * m⌋ + upR (2 * m) b else if m < 4 then ⌊m⌋ + upR m b + 2 else ⌊m / 2⌋ + upR (m / 2) b + 4

theorem upR_add (t : ℝ) (c : ℤ) (b : ℕ) : upR (t + c) b = upR t b := by
  unfold upR
  rw [Int.floor_add_intCast]; push_cast
  rw [show t + (c : ℝ) - ((⌊t⌋ : ℝ) + c) = t - ⌊t⌋ by ring]

theorem upR_cases (t : ℝ) (b : ℕ) : upR t b = 0 ∨ upR t b = 1 := by
  unfold upR; split <;> simp

theorem fptosi_int (N : ℤ) (h0 : 0 ≤ N) (h1 : N < 2 ^ 31) : Ideal.fptosi 32 (((N : ℝ)) : EReal) = BitVec.ofInt 32 N := by
  unfold Ideal.fptosi Ideal.toIntClamped
  have h : (0 : ℝ) ≤ (N : ℝ) := by exact_mod_cast h0
  congr 1
  show max _ (min _ (if 0 ≤ (N : ℝ) then ⌊(N : ℝ)⌋ else _)) = N
  rw [if_pos h, Int.floor_intCast]
  norm_num
  omega

/-- The bits the kernel adds: the ceiling of the position in units of 2⁻²², plus the complemented byte, carries into the
next code exactly when the position is rounded up. -/
theorem carry_eq (G : ℝ) (h0 : 0 ≤ G) (b : ℕ) (hb : b < 256) :
    (⌈G * 4194304⌉ + ((255 - b) * 16384 + 8191)) / 4194304 = ⌊G⌋ + upR G b := by
  have hk := Int.floor_le G
  have hk' := Int.lt_floor_add_one G
  have hN1 : ⌊G⌋ * 4194304 ≤ ⌈G * 4194304⌉ := by
    have : (((⌊G⌋ * 4194304 : ℤ)) : ℝ) ≤ (⌈G * 4194304⌉ : ℝ) := by
      push_cast; have := Int.le_ceil (G * 4194304); linarith
    exact_mod_cast this
  have hN2 : ⌈G * 4194304⌉ ≤ (⌊G⌋ + 1) * 4194304 := by
    rw [Int.ceil_le]; push_cast; linarith
  unfold upR
  split
  · rename_i h
    have : ⌊G⌋ * 4194304 + (2 * b + 1) * 8192 < ⌈G * 4194304⌉ := by
      rw [Int.lt_ceil]; push_cast; linarith
    omega
  · rename_i h
    have : ⌈G * 4194304⌉ ≤ ⌊G⌋ * 4194304 + (2 * b + 1) * 8192 := by
      rw [Int.ceil_le]; push_cast; linarith
    omega

theorem word_code (base N r : ℤ) (h0 : 0 ≤ base + N + r) (h1 : base + N + r < 2 ^ 32) :
    ((BitVec.ofInt 32 base + BitVec.ofInt 32 N + BitVec.ofInt 32 r) >>> 22#32) &&& 7#32 = BitVec.ofInt 32 ((base + N + r) / 4194304 % 8) := by
  rw [← BitVec.ofInt_add, ← BitVec.ofInt_add]
  obtain ⟨n, hn⟩ := Int.eq_ofNat_of_zero_le h0
  rw [hn] at h1 ⊢
  apply BitVec.eq_of_toNat_eq
  have e : ((n : ℤ) / 4194304 % 8) = ((n / 4194304 % 8 : ℕ) : ℤ) := by push_cast; rfl
  rw [e, BitVec.ofInt_natCast, BitVec.ofInt_natCast]
  have hn32 : n < 2 ^ 32 := by exact_mod_cast h1
  simp only [BitVec.toNat_and, BitVec.ushiftRight_eq', BitVec.toNat_ushiftRight, BitVec.toNat_ofNat, Nat.shiftRight_eq_div_pow]
  rw [Nat.mod_eq_of_lt hn32, show (7 % 2 ^ 32 : ℕ) = 2 ^ 3 - 1 from rfl, Nat.and_two_pow_sub_one_eq_mod]
  norm_num
  omega

theorem idxR_bounds (m : ℝ) (h0 : 0 ≤ m) (h6 : m ≤ 6) (b : ℕ) : 0 ≤ idxR m b ∧ idxR m b ≤ 7 := by
  unfold idxR
  split
  · rename_i h
    have a1 : 0 ≤ ⌊2 * m⌋ := Int.floor_nonneg.mpr (by linarith)
    have a2 : ⌊2 * m⌋ < 4 := Int.floor_lt.mpr (by push_cast; linarith)
    rcases upR_cases (2 * m) b with e | e <;> rw [e] <;> omega
  split
  · rename_i h1 h
    have a1 : 2 ≤ ⌊m⌋ := Int.le_floor.mpr (by push_cast; linarith)
    have a2 : ⌊m⌋ < 4 := Int.floor_lt.mpr (by push_cast; linarith)
    rcases upR_cases m b with e | e <;> rw [e] <;> omega
  · rename_i h1 h
    have a1 : 2 ≤ ⌊m / 2⌋ := Int.le_floor.mpr (by push_cast; linarith)
    have a2 : ⌊m / 2⌋ ≤ 3 := by
      have : ⌊m / 2⌋ < 4 := Int.floor_lt.mpr (by push_cast; linarith)
      omega
    have a3 : upR (m / 2) b = 0 ∨ ⌊m / 2⌋ = 2 := by
      by_cases e : m = 6
      · left; subst e; norm_num [upR]
        positivity
      · right
        have : ⌊m / 2⌋ < 3 := Int.floor_lt.mpr (by push_cast; have := lt_of_le_of_ne h6 e; linarith)
        omega
    have a4 := upR_cases (m / 2) b
    omega

theorem magS_eq (m : ℝ) (h0 : 0 ≤ m) (h6 : m ≤ 6) (b : ℕ) (hb : b < 256) :
    magS ((max (2 * m + 2) (4 * m) : ℝ) : EReal) (BitVec.ofInt 32 ((255 - b) * 16384 + 8191)) = BitVec.ofInt 32 (idxR m b) := by
  have hbd := idxR_bounds m h0 h6 b
  unfold magS
  simp only [c_4, c_8, c_16, c_1, c_1_2, c_1_4, c_1_8, c_1_16, c_2p23, EReal.coe_lt_coe_iff]
  have key : ∀ (G : ℝ) (c : ℤ) (base : ℤ), 0 ≤ G → G ≤ 2 → 0 ≤ c → c ≤ 6 → base = (256 + c) * 4194304 → idxR m b = c + (⌊G⌋ + upR G b) →
      ((BitVec.ofInt 32 base + Ideal.fptosi 32 (Ideal.liftRound Int.ceil (((G * 4194304 : ℝ)) : EReal)) + BitVec.ofInt 32 ((255 - b) * 16384 + 8191)) >>> 22#32) &&& 7#32
        = BitVec.ofInt 32 (idxR m b) := by
    intro G c base hG hG2 hc hc6 hbase hidx
    have hN0 : 0 ≤ ⌈G * 4194304⌉ := Int.ceil_nonneg (by positivity)
    have hN1 : ⌈G * 4194304⌉ ≤ 8388608 := by rw [Int.ceil_le]; push_cast; linarith
    show ((BitVec.ofInt 32 base + Ideal.fptosi 32 (((⌈G * 4194304⌉ : ℝ)) : EReal) + _) >>> 22#32) &&& 7#32 = _
    rw [fptosi_int _ hN0 (by omega), word_code _ _ _ (by omega) (by omega)]
    have := carry_eq G hG b hb
    congr 1
    omega
  by_cases h1 : m < 1
  · have e : max (2 * m + 2) (4 * m) = 2 * m + 2 := max_eq_left (by linarith)
    rw [e, if_pos (by linarith), if_pos (by linarith)]
    have := key (2 * m) 0 1073741824 (by linarith) (by linarith) (by norm_num) (by norm_num) (by norm_num) (by rw [idxR, if_pos (by linarith)]; ring)
    rw [← this]
    norm_cast
    rw [show ((2 * m + 2) * (1 / 2) - 1) * 8388608 = 2 * m * 4194304 by ring]
    rfl
  have e : max (2 * m + 2) (4 * m) = 4 * m := max_eq_right (by linarith)
  rw [e]
  by_cases h2 : m < 2
  · rw [if_neg (by linarith), if_pos (by linarith), if_neg (by linarith), if_pos (by linarith)]
    have := key (2 * m - 2) 2 1082130432 (by linarith) (by linarith) (by norm_num) (by norm_num) (by norm_num) (by
      rw [idxR, if_pos (by linarith), show 2 * m = (2 * m - 2) + ((2 : ℤ) : ℝ) by push_cast; ring, upR_add, Int.floor_add_intCast]; push_cast; ring_nf)
    rw [← this]
    norm_cast
    rw [show (4 * m * (1 / 4) - 1) * 8388608 = (2 * m - 2) * 4194304 by ring]
    rfl
  by_cases h4 : m < 4
  · rw [if_neg (by linarith), if_neg (by linarith), if_pos (by linarith), if_neg (by linarith), if_neg (by linarith), if_pos (by linarith)]
    have := key (m - 2) 4 1090519040 (by linarith) (by linarith) (by norm_num) (by norm_num) (by norm_num) (by
      rw [idxR, if_neg (by linarith), if_pos (by linarith)]
      conv_lhs => rw [show m = (m - 2) + ((2 : ℤ) : ℝ) by push_cast; ring]
      rw [upR_add, Int.floor_add_intCast]; push_cast; ring)
    rw [← this]
    norm_cast
    rw [show (4 * m * (1 / 8) - 1) * 8388608 = (m - 2) * 4194304 by ring]
    rfl
  · rw [if_neg (by linarith), if_neg (by linarith), if_neg (by linarith), if_neg (by linarith), if_neg (by linarith), if_neg (by linarith)]
    have := key (m / 2 - 2) 6 1098907648 (by linarith) (by linarith) (by norm_num) (by norm_num) (by norm_num) (by
      rw [idxR, if_neg (by linarith), if_neg (by linarith)]
      conv_lhs => rw [show m / 2 = (m / 2 - 2) + ((2 : ℤ) : ℝ) by push_cast; ring]
      rw [upR_add, Int.floor_add_intCast]; push_cast; ring)
    rw [← this]
    norm_cast
    rw [show (4 * m * (1 / 16) - 1) * 8388608 = (m / 2 - 2) * 4194304 by ring]
    rfl

end Cert.KernelIdeal.Hand
-- ==== Proof.Code.lean ====
module

public import proofs.«01_k».proof.Proof.Math

@[expose] public section

set_option maxRecDepth 65536

noncomputable section

/-! One code: the reference's rounding and the kernel's bit arithmetic give the same four bits. -/

namespace Cert.KernelIdeal.Hand

open Cert.KernelIdeal Cert.KernelIdeal.Gen
open Idealize.ShloMosaic Idealize.ShloMosaic.TcCoe

/-- An element divided by its block's scale. -/
def wR (S ts h : EReal) : EReal := if S = 0 then 0 else Ideal.div h (S * ts)

/-- Its magnitude, at most 6, as a real. -/
def mR (w : EReal) : ℝ := (min (max w (-w)) ((6 : ℝ) : EReal)).toReal

/-- The four bits of the code of `w` under the random byte `b`: the magnitude, and a sign unless it is zero. -/
def codeR (w : EReal) (b : BitVec 8) : BitVec 4 :=
  BitVec.ofInt 4 (idxR (mR w) b.toNat + if w < 0 ∧ 0 < idxR (mR w) b.toNat then 8 else 0)

theorem mR_spec (w : EReal) : min (max w (-w)) ((6 : ℝ) : EReal) = (mR w : EReal) ∧ 0 ≤ mR w ∧ mR w ≤ 6 := by
  have h0 : (0 : EReal) ≤ max w (-w) := by
    rcases le_total 0 w with h | h
    · exact le_max_of_le_left h
    · exact le_max_of_le_right (EReal.neg_nonneg.mpr h)
  have h1 : (0 : EReal) ≤ min (max w (-w)) ((6 : ℝ) : EReal) := le_min h0 (by norm_num)
  have h2 : min (max w (-w)) ((6 : ℝ) : EReal) ≤ ((6 : ℝ) : EReal) := min_le_right _ _
  have ht : min (max w (-w)) ((6 : ℝ) : EReal) ≠ ⊤ := fun e => by rw [e] at h2; exact absurd h2 (by simp)
  have hb : min (max w (-w)) ((6 : ℝ) : EReal) ≠ ⊥ := fun e => by rw [e] at h1; exact absurd h1 (by simp)
  have hc := EReal.coe_toReal ht hb
  refine ⟨hc.symm, ?_, ?_⟩
  · unfold mR; rw [← hc] at h1; exact_mod_cast h1
  · unfold mR; rw [← hc] at h2; exact_mod_cast h2

theorem div_coe_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The reference's code of `w` at one element, as a word. -/
def refS (w : EReal) (b : BitVec 8) : BitVec 32 :=
  let m := min (max w (-w)) (Ideal.ofBits .f32 0x40C00000#32)
  let st := if m < Ideal.ofBits .f32 0x40000000#32 then Ideal.ofBits .f32 0x3F000000#32 else if m < Ideal.ofBits .f32 0x40800000#32 then Ideal.ofBits .f32 0x3F800000#32 else Ideal.ofBits .f32 0x40000000#32
  let t := Ideal.div m st
  let u := (((b.setWidth 32).toInt : ℝ) : EReal)
  let f := Ideal.liftRound Int.floor t
  let q := (f + ((((BitVec.ofBool (decide ((u + Ideal.ofBits .f32 0x3F000000#32) * Ideal.ofBits .f32 0x3B800000#32 < t - f))).setWidth 32).toInt : ℝ) : EReal)) * st
  Ideal.fptosi 32 (if q < Ideal.ofBits .f32 0x40000000#32 then Ideal.ofBits .f32 0x40000000#32 * q else if q < Ideal.ofBits .f32 0x40800000#32 then q + Ideal.ofBits .f32 0x40000000#32 else q * Ideal.ofBits .f32 0x3F000000#32 + Ideal.ofBits .f32 0x40800000#32)
    + (BitVec.ofBool (decide (w < Ideal.ofBits .f32 0x00000000#32)) &&& BitVec.ofBool (decide (Ideal.ofBits .f32 0x00000000#32 < q))).setWidth 32 * 8#32

theorem up_coe (p : Prop) [Decidable p] : (((BitVec.ofBool (decide p)).setWidth 32).toInt : ℝ) = (((if p then 1 else 0 : ℤ)) : ℝ) := by
  by_cases h : p <;> simp [h]

theorem byte_coe (b : BitVec 8) : (b.setWidth 32).toInt = (b.toNat : ℤ) := by
  have := b.isLt
  rw [BitVec.toInt_eq_toNat_of_lt (by rw [BitVec.toNat_setWidth]; omega), BitVec.toNat_setWidth, Nat.mod_eq_of_lt (by omega)]

theorem refS_tail (w : EReal) (K : ℤ) (q : ℝ) (e : ℝ) (h0 : 0 ≤ K) (h7 : K ≤ 7) (hq : 0 < q ↔ 0 < K) (he : e = (K : ℝ)) :
    Ideal.fptosi 32 ((e : ℝ) : EReal) + (BitVec.ofBool (decide (w < 0)) &&& BitVec.ofBool (decide (0 < q))).setWidth 32 * 8#32
      = (BitVec.ofInt 4 (K + if w < 0 ∧ 0 < K then 8 else 0)).setWidth 32 := by
  rw [he, fptosi_int K h0 (by omega)]
  simp only [hq]
  by_cases hw : w < 0
  · simp only [hw, true_and, decide_true]
    interval_cases K <;> decide
  · simp only [hw, false_and, decide_false, if_false]
    interval_cases K <;> decide

theorem refS_eq (w : EReal) (b : BitVec 8) : refS w b = (codeR w b).setWidth 32 := by
  obtain ⟨hm, h0, h6⟩ := mR_spec w
  have hbd := idxR_bounds (mR w) h0 h6 b.toNat
  unfold refS codeR
  simp only [c_6, hm, c_2, c_4, c_1_2, c_1, c_1_256, c_0, EReal.coe_lt_coe_iff]
  generalize mR w = m at *
  have key : ∀ (t st : ℝ), m / st = t → st ≠ 0 → (∀ K : ℤ, K = ⌊t⌋ + upR t b.toNat → ∃ e : ℝ, ∃ q : ℝ, q = (K : ℝ) * st ∧ (0 < q ↔ 0 < idxR m b.toNat) ∧ e = (idxR m b.toNat : ℝ) ∧
        (if q < 2 then 2 * q else if q < 4 then q + 2 else q * (1/2) + 4) = e) →
      (let t := Ideal.div (m : EReal) (st : EReal)
       let u := (((b.setWidth 32).toInt : ℝ) : EReal)
       let f := Ideal.liftRound Int.floor t
       let q := (f + ((((BitVec.ofBool (decide ((u + ((1/2 : ℝ) : EReal)) * ((1/256 : ℝ) : EReal) < t - f))).setWidth 32).toInt : ℝ) : EReal)) * (st : EReal)
       Ideal.fptosi 32 (if q < ((2 : ℝ) : EReal) then ((2 : ℝ) : EReal) * q else if q < ((4 : ℝ) : EReal) then q + ((2 : ℝ) : EReal) else q * ((1/2 : ℝ) : EReal) + ((4 : ℝ) : EReal))
        + (BitVec.ofBool (decide (w < ((0 : ℝ) : EReal))) &&& BitVec.ofBool (decide (((0 : ℝ) : EReal) < q))).setWidth 32 * 8#32)
      = (BitVec.ofInt 4 (idxR m b.toNat + if w < 0 ∧ 0 < idxR m b.toNat then 8 else 0)).setWidth 32 := by
    intro t st hts hst hK
    obtain ⟨e, q, hq, hpos, he, hif⟩ := hK _ rfl
    have hf : Ideal.liftRound Int.floor ((t : ℝ) : EReal) = ((⌊t⌋ : ℝ) : EReal) := rfl
    simp only [div_coe_coe m st hst, hts, hf, byte_coe, up_coe]
    have hcmp : ((((((b.toNat : ℤ) : ℝ) : EReal) + ((1/2 : ℝ) : EReal)) * ((1/256 : ℝ) : EReal) < (t : EReal) - ((⌊t⌋ : ℝ) : EReal))) ↔ (((b.toNat : ℝ) + 1 / 2) * (1 / 256) < t - (⌊t⌋ : ℝ)) := by
      norm_cast
    have hup : (if ((((((b.toNat : ℤ) : ℝ) : EReal) + ((1/2 : ℝ) : EReal)) * ((1/256 : ℝ) : EReal) < (t : EReal) - ((⌊t⌋ : ℝ) : EReal))) then 1 else 0 : ℤ) = upR t b.toNat := by
      unfold upR; simp only [hcmp]
    simp only [hup]
    have hqe : (((⌊t⌋ : ℝ) : EReal) + ((upR t b.toNat : ℝ) : EReal)) * (st : EReal) = (q : EReal) := by
      rw [hq]; push_cast; norm_cast
    simp only [hqe, EReal.coe_lt_coe_iff, EReal.coe_zero]
    have hx : (if q < 2 then ((2 : ℝ) : EReal) * (q : EReal) else if q < 4 then (q : EReal) + ((2 : ℝ) : EReal) else (q : EReal) * ((1/2 : ℝ) : EReal) + ((4 : ℝ) : EReal)) = ((e : ℝ) : EReal) := by
      rw [← hif]; split_ifs <;> norm_cast
    rw [hx]
    have := refS_tail w (idxR m b.toNat) q e hbd.1 hbd.2 hpos he
    simp only [EReal.coe_pos]
    convert this using 6 <;> first | rfl | exact congrArg₂ _ (congrArg _ (decide_eq_decide.mpr Iff.rfl)) (congrArg _ (decide_eq_decide.mpr Iff.rfl)) | exact congrArg _ (decide_eq_decide.mpr Iff.rfl) | exact decide_eq_decide.mpr Iff.rfl
  have hu := fun t => upR_cases t b.toNat
  by_cases h2 : m < 2
  · simp only [h2, if_true]
    refine key (2 * m) (1/2) (by ring) (by norm_num) ?_
    rintro K hK
    have hi : idxR m b.toNat = K := by rw [idxR, if_pos h2, hK]
    rw [hi] at hbd ⊢
    have a2 : ⌊2 * m⌋ < 4 := Int.floor_lt.mpr (by push_cast; linarith)
    have hK4 : K ≤ 4 := by have := hu (2 * m); omega
    have hK0 := hbd.1
    refine ⟨_, _, rfl, ?_, rfl, ?_⟩
    · interval_cases K <;> norm_num
    · interval_cases K <;> norm_num
  by_cases h4 : m < 4
  · simp only [h2, h4, if_true, if_false]
    refine key m 1 (by ring) (by norm_num) ?_
    rintro K hK
    have hi : idxR m b.toNat = K + 2 := by rw [idxR, if_neg h2, if_pos h4, hK]
    rw [hi] at hbd ⊢
    have a1 : 2 ≤ ⌊m⌋ := Int.le_floor.mpr (by push_cast; linarith)
    have a2 : ⌊m⌋ < 4 := Int.floor_lt.mpr (by push_cast; linarith)
    have hK4 : K ≤ 4 := by have := hu m; omega
    have hK0 : 2 ≤ K := by have := hu m; omega
    refine ⟨_, _, rfl, ?_, rfl, ?_⟩
    · interval_cases K <;> norm_num
    · interval_cases K <;> norm_num
  · simp only [h2, h4, if_false]
    refine key (m / 2) 2 (by ring) (by norm_num) ?_
    rintro K hK
    have hi : idxR m b.toNat = K + 4 := by rw [idxR, if_neg h2, if_neg h4, hK]
    rw [hi] at hbd ⊢
    have a1 : 2 ≤ ⌊m / 2⌋ := Int.le_floor.mpr (by push_cast; linarith)
    have hK4 : K ≤ 3 := by omega
    have hK0 : 2 ≤ K := by have := hu (m / 2); omega
    refine ⟨_, _, rfl, ?_, rfl, ?_⟩
    · interval_cases K <;> norm_num
    · interval_cases K <;> norm_num

/-- The doubled reciprocal the kernel multiplies by. -/
def rS (S ts : EReal) : EReal :=
  (if S = Ideal.ofBits .f32 0x00000000#32 then Ideal.ofBits .f32 0x00000000#32 else Ideal.div (Ideal.ofBits .f32 0x3F800000#32) (if S = Ideal.ofBits .f32 0x00000000#32 then Ideal.ofBits .f32 0x3F800000#32 else S * ts)) * Ideal.ofBits .f32 0x40000000#32

/-- The rounding word of a random byte. -/
def rrS (b : BitVec 8) : BitVec 32 := BitVec.ofInt 32 ((255 - (b.toNat : ℤ)) * 16384 + 8191)

/-- A code with a negative zero cleared. -/
def clr (x : BitVec 4) : BitVec 4 := x &&& (((x &&& 7#4) + 7#4) ||| 7#4)

theorem coe_max' (a b : ℝ) : ((max a b : ℝ) : EReal) = max (a : EReal) (b : EReal) := EReal.coe_strictMono.monotone.map_max
theorem coe_min' (a b : ℝ) : ((min a b : ℝ) : EReal) = min (a : EReal) (b : EReal) := EReal.coe_strictMono.monotone.map_min

theorem mR_zero : mR 0 = 0 := by simp [mR]

theorem idxR_zero (b : ℕ) : idxR 0 b = 0 := by
  simp only [idxR, upR]
  norm_num
  positivity

theorem clip_real (a : ℝ) (ha : 0 ≤ a) : min (max (a * 2 + 2) (a * 2 + a * 2)) 24 = max (2 * min a 6 + 2) (4 * min a 6) := by
  rcases le_total a 6 with h | h
  · rw [min_eq_left h, show a * 2 + 2 = 2 * a + 2 by ring, show a * 2 + a * 2 = 4 * a by ring]
    exact min_eq_left (max_le (by linarith) (by linarith))
  · rw [min_eq_right h, min_eq_right (le_max_of_le_right (by linarith))]
    norm_num

theorem clip_eq (h : EReal) (ρ : ℝ) (hρ : 0 ≤ ρ) :
    clipS h ((ρ : EReal) * Ideal.ofBits .f32 0x40000000#32) = ((max (2 * mR (h * ρ) + 2) (4 * mR (h * ρ)) : ℝ) : EReal)
      ∧ ∀ b, 0 < idxR (mR (h * ρ)) b → (h < 0 ↔ h * ρ < 0) := by
  unfold clipS
  rw [c_2, c_24]
  have h2 : (ρ : EReal) * ((2 : ℝ) : EReal) = ((ρ * 2 : ℝ) : EReal) := (EReal.coe_mul _ _).symm
  rw [h2]
  rcases hρ.eq_or_lt with h0 | hpos
  · subst h0
    simp only [EReal.coe_zero, mul_zero, zero_mul, mR_zero, idxR_zero, lt_irrefl, false_implies, implies_true, and_true]
    norm_num
    try norm_cast
    try norm_num
  induction h using EReal.rec with
  | bot =>
    have e : (⊥ : EReal) * (ρ : EReal) = ⊥ := EReal.bot_mul_coe_of_pos hpos
    have e6 : mR ⊥ = 6 := by simp [mR]
    have e2 : (⊤ : EReal) * ((ρ * 2 : ℝ) : EReal) = ⊤ := EReal.top_mul_coe_of_pos (by linarith)
    rw [e, e6]
    refine ⟨?_, fun b _ => Iff.rfl⟩
    rw [EReal.neg_bot, max_eq_right bot_le, e2]
    norm_num
    all_goals try rw [EReal.top_add_coe]
    all_goals try simp
    all_goals try norm_num
  | top =>
    have e : (⊤ : EReal) * (ρ : EReal) = ⊤ := EReal.top_mul_coe_of_pos hpos
    have e6 : mR ⊤ = 6 := by simp [mR]
    have e2 : (⊤ : EReal) * ((ρ * 2 : ℝ) : EReal) = ⊤ := EReal.top_mul_coe_of_pos (by linarith)
    rw [e, e6]
    refine ⟨?_, fun b _ => Iff.rfl⟩
    rw [EReal.neg_top, max_eq_left bot_le, e2]
    norm_num
    all_goals try rw [EReal.top_add_coe]
    all_goals try simp
    all_goals try norm_num
  | coe h =>
    have em : mR ((h : EReal) * (ρ : EReal)) = min (|h| * ρ) 6 := by
      unfold mR
      rw [← EReal.coe_mul, ← EReal.coe_neg, ← coe_max', ← coe_min', EReal.toReal_coe]
      rw [show max (h * ρ) (-(h * ρ)) = |h * ρ| from rfl, abs_mul, abs_of_pos hpos]
    constructor
    · rw [em, ← clip_real _ (by positivity)]
      rw [← EReal.coe_neg, ← coe_max', show max h (-h) = |h| from rfl]
      rw [show |h| * ρ * 2 = |h| * (ρ * 2) by ring, coe_min', coe_max']
      norm_cast
    · intro b _
      norm_cast
      constructor
      · intro hh; exact mul_neg_of_neg_of_pos hh hpos
      · intro hh; by_contra hn; rw [not_lt] at hn; exact absurd (mul_nonneg hn hpos.le) (not_le.mpr hh)

theorem clr_code (K : ℤ) (h0 : 0 ≤ K) (h7 : K ≤ 7) (p q : Prop) [Decidable p] [Decidable q] (hpq : 0 < K → (p ↔ q)) :
    clr (BitVec.ofInt 4 (K + if p then 8 else 0)) = BitVec.ofInt 4 (K + if q ∧ 0 < K then 8 else 0)
      ∧ (BitVec.ofInt 32 K ||| (if p then 8#32 else 0#32)) = (BitVec.ofInt 4 (K + if p then 8 else 0)).setWidth 32 := by
  rcases h0.eq_or_lt with rfl | hK
  · by_cases hp : p <;> simp [hp, clr]
  · have e := hpq hK
    by_cases hp : p
    · have hq : q := e.mp hp
      simp only [hp, hq, true_and, if_true, hK]
      interval_cases K <;> decide
    · have hq : ¬ q := fun x => hp (e.mpr x)
      simp only [hp, hq, false_and, if_false]
      interval_cases K <;> decide

/-- At a positive scale the kernel's code, its negative zero cleared, is the reference's. -/
theorem nibS_eq (S ts h : EReal) (hS : 0 ≤ S) (hts : 0 < ts) (b : BitVec 8) :
    ∃ raw : BitVec 4, nibS h (rS S ts) (rrS b) = raw.setWidth 32 ∧ clr raw = codeR (wR S ts h) b := by
  have key : ∃ ρ : ℝ, 0 ≤ ρ ∧ rS S ts = (ρ : EReal) * Ideal.ofBits .f32 0x40000000#32 ∧ wR S ts h = h * (ρ : EReal) := by
    unfold rS wR
    rw [c_0, c_1, EReal.coe_zero]
    by_cases h0 : S = 0
    · exact ⟨0, le_rfl, by simp [h0], by simp [h0]⟩
    · have hpos : 0 < S := lt_of_le_of_ne hS (Ne.symm h0)
      have hden : 0 < S * ts := EReal.mul_pos hpos hts
      have hinv : ∃ ρ : ℝ, 0 ≤ ρ ∧ (S * ts)⁻¹ = (ρ : EReal) := by
        generalize S * ts = d at hden
        induction d using EReal.rec with
        | bot => simp at hden
        | top => exact ⟨0, le_rfl, by simp⟩
        | coe r => exact ⟨r⁻¹, inv_nonneg.mpr (by exact_mod_cast hden.le), (EReal.coe_inv r).symm⟩
      obtain ⟨ρ, hρ, e⟩ := hinv
      refine ⟨ρ, hρ, ?_, ?_⟩
      · rw [if_neg h0, if_neg h0, Ideal.div, if_neg hden.ne', e]; simp
      · rw [if_neg h0, Ideal.div, if_neg hden.ne', e]
  obtain ⟨ρ, hρ, hr, hw⟩ := key
  obtain ⟨hc, hsg⟩ := clip_eq h ρ hρ
  rw [hw, hr]
  obtain ⟨hm, h0, h6⟩ := mR_spec (h * (ρ : EReal))
  have hbd := idxR_bounds _ h0 h6 b.toNat
  have hk := clr_code _ hbd.1 hbd.2 (h < 0) (h * (ρ : EReal) < 0) (hsg b.toNat)
  refine ⟨_, ?_, hk.1⟩
  rw [← hk.2]
  unfold nibS
  rw [hc, rrS, magS_eq _ h0 h6 _ b.isLt, c_0, EReal.coe_zero]

section Packing

/-- Eight codes packed into a word, the first in the lowest bits. -/
def pk (x0 x1 x2 x3 x4 x5 x6 x7 : BitVec 4) : BitVec 32 := x7 ++ x6 ++ x5 ++ x4 ++ x3 ++ x2 ++ x1 ++ x0

theorem append_toNat {v w : ℕ} (x : BitVec v) (y : BitVec w) : (x ++ y).toNat = x.toNat * 2 ^ w + y.toNat := by
  rw [BitVec.toNat_append, Nat.shiftLeft_eq, ← Nat.shiftLeft_eq, ← Nat.shiftLeft_add_eq_or_of_lt y.isLt, Nat.shiftLeft_eq]

theorem pk_toNat (x0 x1 x2 x3 x4 x5 x6 x7 : BitVec 4) : (pk x0 x1 x2 x3 x4 x5 x6 x7).toNat
    = x0.toNat + x1.toNat * 16 + x2.toNat * 256 + x3.toNat * 4096 + x4.toNat * 65536 + x5.toNat * 1048576 + x6.toNat * 16777216 + x7.toNat * 268435456 := by
  unfold pk
  simp only [append_toNat]
  omega

theorem pk_or (x0 x1 x2 x3 x4 x5 x6 x7 : BitVec 4) :
    x0.setWidth 32 ||| x1.setWidth 32 <<< 4#32 ||| x2.setWidth 32 <<< 8#32 ||| x3.setWidth 32 <<< 12#32 ||| x4.setWidth 32 <<< 16#32
      ||| x5.setWidth 32 <<< 20#32 ||| x6.setWidth 32 <<< 24#32 ||| x7.setWidth 32 <<< 28#32 = pk x0 x1 x2 x3 x4 x5 x6 x7 := by
  have hs : ∀ (a : BitVec 32) (y : BitVec 4) (k : ℕ), k < 29 → a.toNat < 2 ^ k → (a ||| y.setWidth 32 <<< (BitVec.ofNat 32 k)).toNat = a.toNat + y.toNat * 2 ^ k := by
    intro a y k hk ha
    have hy := y.isLt
    have e : (y.setWidth 32 <<< (BitVec.ofNat 32 k)).toNat = y.toNat * 2 ^ k := by
      have hle : 2 ^ k ≤ 2 ^ 28 := Nat.pow_le_pow_right (by omega) (by omega)
      have hm : y.toNat * 2 ^ k ≤ 15 * 2 ^ 28 := Nat.mul_le_mul (by omega) hle
      rw [BitVec.shiftLeft_eq', BitVec.toNat_shiftLeft, BitVec.toNat_setWidth, BitVec.toNat_ofNat, Nat.mod_eq_of_lt (show k < 2 ^ 32 by omega), Nat.shiftLeft_eq,
        Nat.mod_eq_of_lt (show y.toNat < 2 ^ 32 by omega), Nat.mod_eq_of_lt (show y.toNat * 2 ^ k < 2 ^ 32 by omega)]
    rw [BitVec.toNat_or, e, Nat.or_comm, ← Nat.shiftLeft_eq, ← Nat.shiftLeft_add_eq_or_of_lt ha, Nat.add_comm]
  have l0 := x0.isLt; have l1 := x1.isLt; have l2 := x2.isLt; have l3 := x3.isLt; have l4 := x4.isLt; have l5 := x5.isLt; have l6 := x6.isLt; have l7 := x7.isLt
  have e0 : (x0.setWidth 32).toNat = x0.toNat := by rw [BitVec.toNat_setWidth]; omega
  have e1 := hs (x0.setWidth 32) x1 4 (by omega) (by omega)
  have e2 := hs _ x2 8 (by omega) (by rw [e1, e0]; omega)
  have e3 := hs _ x3 12 (by omega) (by rw [e2, e1, e0]; omega)
  have e4 := hs _ x4 16 (by omega) (by rw [e3, e2, e1, e0]; omega)
  have e5 := hs _ x5 20 (by omega) (by rw [e4, e3, e2, e1, e0]; omega)
  have e6 := hs _ x6 24 (by omega) (by rw [e5, e4, e3, e2, e1, e0]; omega)
  have e7 := hs _ x7 28 (by omega) (by rw [e6, e5, e4, e3, e2, e1, e0]; omega)
  apply BitVec.eq_of_toNat_eq
  refine e7.trans ?_
  rw [e6, e5, e4, e3, e2, e1, e0, pk_toNat]
  omega

theorem pk_clear (x0 x1 x2 x3 x4 x5 x6 x7 : BitVec 4) :
    pk x0 x1 x2 x3 x4 x5 x6 x7 &&& (((pk x0 x1 x2 x3 x4 x5 x6 x7 &&& 2004318071#32) + 2004318071#32) ||| 2004318071#32)
      = pk (clr x0) (clr x1) (clr x2) (clr x3) (clr x4) (clr x5) (clr x6) (clr x7) := by
  have e7 : 2004318071#32 = pk 7#4 7#4 7#4 7#4 7#4 7#4 7#4 7#4 := by decide
  have hand : ∀ a0 a1 a2 a3 a4 a5 a6 a7 b0 b1 b2 b3 b4 b5 b6 b7 : BitVec 4, pk a0 a1 a2 a3 a4 a5 a6 a7 &&& pk b0 b1 b2 b3 b4 b5 b6 b7
      = pk (a0 &&& b0) (a1 &&& b1) (a2 &&& b2) (a3 &&& b3) (a4 &&& b4) (a5 &&& b5) (a6 &&& b6) (a7 &&& b7) := by
    intros; apply BitVec.eq_of_getLsbD_eq; intro i hi; unfold pk; simp only [BitVec.getLsbD_and, BitVec.getLsbD_or, BitVec.getLsbD_append]; split_ifs <;> rfl
  have hor : ∀ a0 a1 a2 a3 a4 a5 a6 a7 b0 b1 b2 b3 b4 b5 b6 b7 : BitVec 4, pk a0 a1 a2 a3 a4 a5 a6 a7 ||| pk b0 b1 b2 b3 b4 b5 b6 b7
      = pk (a0 ||| b0) (a1 ||| b1) (a2 ||| b2) (a3 ||| b3) (a4 ||| b4) (a5 ||| b5) (a6 ||| b6) (a7 ||| b7) := by
    intros; apply BitVec.eq_of_getLsbD_eq; intro i hi; unfold pk; simp only [BitVec.getLsbD_and, BitVec.getLsbD_or, BitVec.getLsbD_append]; split_ifs <;> rfl
  have h7 : ∀ x : BitVec 4, ((x &&& 7#4) + 7#4).toNat = (x &&& 7#4).toNat + 7 := by decide
  have hadd : ∀ x0 x1 x2 x3 x4 x5 x6 x7 : BitVec 4, pk (x0 &&& 7#4) (x1 &&& 7#4) (x2 &&& 7#4) (x3 &&& 7#4) (x4 &&& 7#4) (x5 &&& 7#4) (x6 &&& 7#4) (x7 &&& 7#4) + pk 7#4 7#4 7#4 7#4 7#4 7#4 7#4 7#4
      = pk ((x0 &&& 7#4) + 7#4) ((x1 &&& 7#4) + 7#4) ((x2 &&& 7#4) + 7#4) ((x3 &&& 7#4) + 7#4) ((x4 &&& 7#4) + 7#4) ((x5 &&& 7#4) + 7#4) ((x6 &&& 7#4) + 7#4) ((x7 &&& 7#4) + 7#4) := by
    intro x0 x1 x2 x3 x4 x5 x6 x7
    apply BitVec.eq_of_toNat_eq
    rw [BitVec.toNat_add, pk_toNat, pk_toNat, pk_toNat]
    rw [h7 x0, h7 x1, h7 x2, h7 x3, h7 x4, h7 x5, h7 x6, h7 x7]
    have hl : ∀ x : BitVec 4, (x &&& 7#4).toNat ≤ 7 := by decide
    have := hl x0; have := hl x1; have := hl x2; have := hl x3; have := hl x4; have := hl x5; have := hl x6; have := hl x7
    rw [show (7#4).toNat = 7 from rfl]
    omega
  rw [e7, hand, hadd, hor, hand]
  rfl

theorem pk_byte (x0 x1 x2 x3 x4 x5 x6 x7 : BitVec 4) :
    (pk x0 x1 x2 x3 x4 x5 x6 x7).extractLsb' 0 8 = x1 ++ x0 ∧ (pk x0 x1 x2 x3 x4 x5 x6 x7).extractLsb' 8 8 = x3 ++ x2
      ∧ (pk x0 x1 x2 x3 x4 x5 x6 x7).extractLsb' 16 8 = x5 ++ x4 ∧ (pk x0 x1 x2 x3 x4 x5 x6 x7).extractLsb' 24 8 = x7 ++ x6 := by
  have l0 := x0.isLt; have l1 := x1.isLt; have l2 := x2.isLt; have l3 := x3.isLt; have l4 := x4.isLt; have l5 := x5.isLt; have l6 := x6.isLt; have l7 := x7.isLt
  refine ⟨?_, ?_, ?_, ?_⟩ <;> (apply BitVec.eq_of_toNat_eq; rw [BitVec.extractLsb'_toNat, pk_toNat, append_toNat, Nat.shiftRight_eq_div_pow]; omega)

/-- The two codes of a byte, as the kernel and the reference take it apart. -/
theorem byte_parts (lo hi : BitVec 4) : ((hi ++ lo : BitVec 8).setWidth 32) &&& 15#32 = lo.setWidth 32
    ∧ ((hi ++ lo : BitVec 8).setWidth 32).sshiftRight' 4#32 = hi.setWidth 32
    ∧ ((lo.setWidth 32 ||| hi.setWidth 32 <<< 4#32).setWidth 8) = (hi ++ lo : BitVec 8)
    ∧ (lo.setWidth 32 ||| hi.setWidth 32 <<< 4#32) = (hi ++ lo : BitVec 8).setWidth 32 := by
  revert lo hi; decide

end Packing

end Cert.KernelIdeal.Hand
-- ==== Proof.UnitIdeal.lean ====
module

public import proofs.«01_k».proof.Proof.UnitVal
public import proofs.«01_k».proof.Proof.Code
public import Idealize.ShloMosaic.Lib.BitcastFour
public import Idealize.ShloMosaic.Lib.BitcastPair
public import Idealize.ShloMosaic.Lib.ValueIdx
public import Idealize.ShloMosaic.Lib.IdealHost
public import Idealize.ShloMosaic.Lib.Pointwise

@[expose] public section

set_option maxRecDepth 65536

noncomputable section

/-! What one unit computes at extended reals, element by element: the scales, the packed codes, the decoded values. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem shapeCast_drop {e : EltTy} (v : Vec Ideal S1x128x128 e) (h) (z : S128x128.Idx) :
    shapeCast S128x128 v h z = v (ix3 0 (z 0) (z 1)) := by
  pointwise

theorem bc32 (u : S128x128.Idx → BitVec 8) (h) (z : S32x128.Idx) (i : ℕ) (hi : i < 32) (p : S128x128.Idx) (h0 : (p 0).val = 4 * (z 0).val + i / 8) (h1 : (p 1).val = (z 1).val) :
    (bitcast S32x128 32 u h z).getLsbD i = (u p).getLsbD (i % 8) := by
  rw [bitcast_getLsbD _ _ _ _ hi (by decide)]
  have hr : S32x128.row z = (z 0).val := rfl
  congr 1
  · congr 1
    funext a
    apply Fin.ext
    fin_cases a
    · rw [Shape.Bitcasts.srcIdx_row _ _ _ _ _ rfl, hr]
      change _ = (p 0).val
      omega
    · rw [Shape.Bitcasts.srcIdx_other _ _ _ _ _ (by decide)]
      exact h1.symm
  · rw [hr]; omega

theorem bc8 (u : S8x128.Idx → BitVec 32) (h) (z : S32x128.Idx) (p : S8x128.Idx) (h0 : (p 0).val = (z 0).val / 4) (h1 : (p 1).val = (z 1).val) :
    bitcast S32x128 8 u h z = (u p).extractLsb' (8 * ((z 0).val % 4)) 8 := by
  apply BitVec.eq_of_getLsbD_eq
  intro i hi
  rw [bitcast_getLsbD _ _ _ _ hi (by decide), BitVec.getLsbD_extractLsb', decide_eq_true hi, Bool.true_and]
  have hr : S32x128.row z = (z 0).val := rfl
  congr 1
  · congr 1
    funext a
    apply Fin.ext
    fin_cases a
    · rw [Shape.Bitcasts.srcIdx_row _ _ _ _ _ rfl, hr]
      change _ = (p 0).val
      omega
    · rw [Shape.Bitcasts.srcIdx_other _ _ _ _ _ (by decide)]
      exact h1.symm
  · rw [hr]; omega

/-- The scale of a block from its largest magnitude. -/
def Sc (a ts : EReal) : EReal :=
  min (Ideal.ofBits .f32 0x43E00000#32) (max (Ideal.ofBits .f32 0x00000000#32) (Ideal.div (a * Ideal.ofBits .f32 0x3F800800#32) (Ideal.ofBits .f32 0x40C00000#32 * ts)))

theorem Sc_nonneg (a ts : EReal) : 0 ≤ Sc a ts := by
  unfold Sc
  rw [c_0]
  refine le_min ?_ (le_max_of_le_left (by simp))
  rw [c_of 0x43E00000#32 135 6291456 (by decide) (by decide) (by decide) (by decide) (by decide)]
  exact_mod_cast (by positivity)

theorem pay4_apply (ts : EReal) (v : Vec Ideal S8x128 .f32) (x) : k0_pay4 (F := Ideal) ts v x = Sc (v x) ts := rfl
theorem pay5_apply (ts : EReal) (v : Vec Ideal S8x128 .f32) (x) : k0_pay5 (F := Ideal) ts v x = Sc (v x) ts := rfl
theorem pay9_apply (ts : EReal) (v : Vec Ideal S8x128 .f32) (x) : k0_pay9 (k0_pay6 (F := Ideal) ts v) x = rS (Sc (v x) ts) ts := by
  unfold k0_pay9 k0_pay6 rS
  dsimp only [select, cmpf, broadcast, mulf, divf]
  simp only [Ideal.cmpf_def, Ideal.cmp, sel_ofBool, pay5_apply]
  rfl

theorem rrS_bits (b : BitVec 8) : rrS b = ((b ^^^ 255#8).setWidth 32 <<< 14) ||| 8191#32 := by
  revert b; decide +kernel

/-- The rounding words of the four bytes of a word. -/
theorem rr_bytes (b0 b1 b2 b3 : BitVec 8) :
    ((((b3 ++ b2 ++ b1 ++ b0 : BitVec 32) ^^^ 4294967295#32) <<< 14) &&& 4177920#32) ||| 8191#32 = rrS b0
      ∧ ((((b3 ++ b2 ++ b1 ++ b0 : BitVec 32) ^^^ 4294967295#32) <<< 6) &&& 4177920#32) ||| 8191#32 = rrS b1
      ∧ ((((b3 ++ b2 ++ b1 ++ b0 : BitVec 32) ^^^ 4294967295#32) >>> 2) &&& 4177920#32) ||| 8191#32 = rrS b2
      ∧ ((((b3 ++ b2 ++ b1 ++ b0 : BitVec 32) ^^^ 4294967295#32) >>> 10) &&& 4177920#32) ||| 8191#32 = rrS b3 := by
  have L1 : ∀ i, (4294967295#32).getLsbD i = decide (i < 32) := fun i => by
    rw [show 4294967295#32 = BitVec.allOnes 32 from by decide, BitVec.getLsbD_allOnes]
  have L2 : ∀ i, i < 32 → (4177920#32).getLsbD i = decide (14 ≤ i ∧ i < 22) := by decide
  have L3 : ∀ i, i < 32 → (8191#32).getLsbD i = decide (i < 13) := by decide
  have L4 : ∀ i, i < 8 → (255#8).getLsbD i = true := by decide
  have L4' : ∀ i, (255#8).getLsbD i = decide (i < 8) := fun i => by
    rw [show 255#8 = BitVec.allOnes 8 from by decide, BitVec.getLsbD_allOnes]
  simp only [rrS_bits]
  refine ⟨?_, ?_, ?_, ?_⟩ <;>
  · apply BitVec.eq_of_getLsbD_eq
    intro i hi
    simp only [BitVec.getLsbD_or, BitVec.getLsbD_and, BitVec.getLsbD_shiftLeft, BitVec.getLsbD_ushiftRight, BitVec.getLsbD_xor, BitVec.getLsbD_append, BitVec.getLsbD_setWidth, L1, L2 i hi, L3 i hi, L4']
    interval_cases i <;> simp

theorem four_bytes (w : BitVec 32) (b0 b1 b2 b3 : BitVec 8)
    (h0 : ∀ i (_ : i < 32), i / 8 = 0 → w.getLsbD i = b0.getLsbD (i % 8)) (h1 : ∀ i (_ : i < 32), i / 8 = 1 → w.getLsbD i = b1.getLsbD (i % 8))
    (h2 : ∀ i (_ : i < 32), i / 8 = 2 → w.getLsbD i = b2.getLsbD (i % 8)) (h3 : ∀ i (_ : i < 32), i / 8 = 3 → w.getLsbD i = b3.getLsbD (i % 8)) :
    w = b3 ++ b2 ++ b1 ++ b0 := by
  apply BitVec.eq_of_getLsbD_eq
  intro i hi
  simp only [BitVec.getLsbD_append]
  split_ifs with c0 c1 c2
  · rw [h0 i hi (by omega)]; congr 1; omega
  · rw [h1 i hi (by omega)]; congr 1; omega
  · rw [h2 i hi (by omega)]; congr 1; omega
  · rw [h3 i hi (by omega)]; congr 1; omega

/-- The word of four complemented random bytes. -/
theorem wq_apply (v : Vec Ideal S1x128x128 .i8) (q : Fin 4) (x : S8x128.Idx) (b : Fin 4 → BitVec 8)
    (hb : ∀ (j : Fin 4) (y : S1x128x128.Idx), (y 1).val = 16 * (x 0).val + 4 * q.val + j.val → (y 2).val = (x 1).val → b j = v y) :
    wq (F := Ideal) v q x = (b 3 ++ b 2 ++ b 1 ++ b 0 : BitVec 32) ^^^ 4294967295#32 := by
  have h0 : (x 0).val < 8 := (x 0).isLt
  have hx1 : (x 1).val < 128 := (x 1).isLt
  have hq := q.isLt
  let z : S32x128.Idx := ix2 (n1 := 128) ⟨4 * (x 0).val + q.val, by omega⟩ (x 1)
  have hw : bitcast S32x128 32 (shapeCast S128x128 v shapeCasts_S1x128x128_S128x128) bitcasts_S128x128_w8_S32x128_w32 z = (b 3 ++ b 2 ++ b 1 ++ b 0 : BitVec 32) := by
    have key : ∀ (i : ℕ) (hi : i < 32) (j : Fin 4), i / 8 = j.val → (bitcast S32x128 32 (shapeCast S128x128 v shapeCasts_S1x128x128_S128x128) bitcasts_S128x128_w8_S32x128_w32 z).getLsbD i = (b j).getLsbD (i % 8) := fun i hi j hj => by
      have hjl := j.isLt
      let p : S128x128.Idx := ix2 (n1 := 128) ⟨16 * (x 0).val + 4 * q.val + j.val, by omega⟩ (x 1)
      rw [bc32 _ _ z i hi p (by change 16 * (x 0).val + 4 * q.val + j.val = 4 * (4 * (x 0).val + q.val) + i / 8; omega) rfl, shapeCast_drop]
      rw [hb j (ix3 0 (p 0) (p 1)) rfl rfl]
    exact four_bytes _ _ _ _ _ (fun i hi h => key i hi 0 h) (fun i hi h => key i hi 1 h) (fun i hi h => key i hi 2 h) (fun i hi h => key i hi 3 h)
  unfold wq k0_pay10
  dsimp only
  rw [shapeCast_self]
  dsimp only [xori, constantI]
  exact congrArg (fun w => w ^^^ 4294967295#32) hw

theorem word_of (S ts : EReal) (hS : 0 ≤ S) (hts : 0 < ts) (h : Fin 8 → EReal) (b : Fin 8 → BitVec 8) (n : Fin 8 → BitVec 32) (hn : ∀ e, n e = nibS (h e) (rS S ts) (rrS (b e))) (o : BitVec 32)
    (ho : o = n 0 ||| n 1 <<< 4#32 ||| n 2 <<< 8#32 ||| n 3 <<< 12#32 ||| n 4 <<< 16#32 ||| n 5 <<< 20#32 ||| n 6 <<< 24#32 ||| n 7 <<< 28#32) :
    o &&& (((o &&& 2004318071#32) + 2004318071#32) ||| 2004318071#32)
      = pk (codeR (wR S ts (h 0)) (b 0)) (codeR (wR S ts (h 1)) (b 1)) (codeR (wR S ts (h 2)) (b 2)) (codeR (wR S ts (h 3)) (b 3)) (codeR (wR S ts (h 4)) (b 4)) (codeR (wR S ts (h 5)) (b 5)) (codeR (wR S ts (h 6)) (b 6)) (codeR (wR S ts (h 7)) (b 7)) := by
  choose raw h1 h2 using fun e => nibS_eq S ts (h e) hS hts (b e)
  rw [ho]
  simp only [hn, h1]
  rw [pk_or, pk_clear]
  simp only [h2]

end Cert.KernelIdeal.Hand
-- ==== Proof.UnitRun.lean ====
module

public import proofs.«01_k».proof.Proof.UnitVal
public import Idealize.ShloMosaic.Lib.ValueIdx
public import Idealize.ShloMosaic.Lib.IdealHost
public import Idealize.ShloMosaic.Lib.Pointwise

@[expose] public section

set_option maxRecDepth 65536

noncomputable section

/-! One unit of the kernel, with what it leaves in the three arrays it writes for good. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 400000 in
theorem unitVal (c : Dev nD) (i : grid0.Coords) (arg1 : Memref sig .tc .smem S16 .f32) (harg1 : arg1.IsWhole) (arg2 : Memref sig .tc .smem S2 .f32) (harg2 : arg2.IsWhole) (arg3 : Memref sig .tc .vmem S2880x1152 .bf16) (harg3 : arg3.IsWhole) (arg4 : Memref sig .tc .vmem S3x384x512 .bf16) (harg4 : arg4.IsWhole) (arg5 : Memref sig .tc .vmem S3x384x512 .i8) (harg5 : arg5.IsWhole) (arg6 : Memref sig .tc .vmem S72x512 .f32) (harg6 : arg6.IsWhole) (arg7 : Memref sig .tc .vmem S2880x512 .f32) (harg7 : arg7.IsWhole) (arg8 : Memref sig .tc .vmem S3x192x512 .i8) (harg8 : arg8.IsWhole) (arg9 : Memref sig .tc .vmem S3x24x512 .fp8e4m3) (harg9 : arg9.IsWhole) (arg10 : Memref sig .tc .vmem S1152x512 .bf16) (harg10 : arg10.IsWhole) (arg11 : Memref sig .tc .vmem S72x512 .f32) (harg11 : arg11.IsWhole) (arg12 : Memref sig .tc .vmem S288x128 .i32) (harg12 : arg12.IsWhole) (arg13 : Memref sig .tc .vmem S144x128 .i32) (harg13 : arg13.IsWhole)
    (v173 : IVec S128x128 1) (v174 : FVec F S128x128 .f32) (v175 : FVec F S128x128 .f32) (v180 : Elt F .f32) (k0_t1 : Fin k0_t1_loop.trips) (v239 : BitVec 32) (k0_t2 : Fin k0_t2_loop.trips) (v242 : BitVec 32) (k0_t3 : Fin k0_t3_loop.trips)
    (f4 : Buf (Elt F) (arg4.view.loc (c : Thread nD τ))) (f5 : Buf (Elt F) (arg5.view.loc (c : Thread nD τ))) (f6 : Buf (Elt F) (arg6.view.loc (c : Thread nD τ)))
    (f8 : Buf (Elt F) (arg8.view.loc (c : Thread nD τ))) (f9 : Buf (Elt F) (arg9.view.loc (c : Thread nD τ))) (f10 : Buf (Elt F) (arg10.view.loc (c : Thread nD τ)))
    (f11 : Buf (Elt F) (arg11.view.loc (c : Thread nD τ))) (f12 : Buf (Elt F) (arg12.view.loc (c : Thread nD τ))) (f13 : Buf (Elt F) (arg13.view.loc (c : Thread nD τ)))
    (v254 : Vec F S1x128x128 .bf16) (v260 : Vec F S8x128 .f32) (v301 : Vec F S1x128x128 .i8)
    (e254 : arg4.view.readAt (Elt F) (Rect.unit (s := S3x384x512) (k0_off1 k0_t1 k0_t2 k0_t3) S1x128x128.size (k0_off1_inb k0_t1 k0_t2 k0_t3)).toLoadRect f4 = v254)
    (e260 : arg6.view.readAt (Elt F) (Rect.unit (s := S72x512) (k0_off2 k0_t1 k0_t2 k0_t3) S8x128.size (k0_off2_inb k0_t1 k0_t2 k0_t3)).toLoadRect f6 = v260)
    (e301 : arg5.view.readAt (Elt F) (Rect.unit (s := S3x384x512) (k0_off1 k0_t1 k0_t2 k0_t3) S1x128x128.size (k0_off1_inb k0_t1 k0_t2 k0_t3)).toLoadRect f5 = v301)
    (T8 : S3x192x512.Idx → Elt F .i8) (T9 : S3x24x512.Idx → Elt F .fp8e4m3) (T10 : S1152x512.Idx → Elt F .bf16)
    (hT : UnitT v173 v174 v175 v180 k0_t1 k0_t2 k0_t3 v254 v260 v301 T8 T9 T10) :
    (iprop(pt c arg4 f4 ∗ pt c arg5 f5 ∗ pt c arg6 f6 ∗ pt c arg8 f8 ∗ pt c arg9 f9 ∗ pt c arg10 f10 ∗ pt c arg11 f11 ∗ pt c arg12 f12 ∗ pt c arg13 f13) : sProp 𝕄)
      ⊢ wp frame (wpE (defs₀ (F := F)) Variants.none c none) Set.univ
          (k0_t3_body i arg1 harg1 arg2 harg2 arg3 harg3 arg4 harg4 arg5 harg5 arg6 harg6 arg7 harg7 arg8 harg8 arg9 harg9 arg10 harg10 arg11 harg11 arg12 harg12 arg13 harg13 v173 v174 v175 v180 k0_t1 v239 k0_t2 v242 k0_t3 ())
          fun _ => iprop(pt c arg4 f4 ∗ pt c arg5 f5 ∗ pt c arg6 f6 ∗ (∃ f, ⌜Upd arg8.view f8 f (P8 k0_t1 k0_t2 k0_t3) T8⌝ ∗ pt c arg8 f) ∗ (∃ f, ⌜Upd arg9.view f9 f (P9 k0_t1 k0_t2 k0_t3) T9⌝ ∗ pt c arg9 f) ∗ (∃ f, ⌜Upd arg10.view f10 f (P10 k0_t1 k0_t2 k0_t3) T10⌝ ∗ pt c arg10 f) ∗ (∃ f, pt c arg11 f) ∗ (∃ f, pt c arg12 f) ∗ (∃ f, pt c arg13 f)) := by
  subst e254 e260 e301
  unfold k0_t3_body
  iintro ⟨H4, H5, H6, H8, H9, H10, H11, H12, H13⟩
  sl_exec_parts
  sl_step
  isplitl [H4]; · iexact H4
  isplitl [H5]; · iexact H5
  isplitl [H6]; · iexact H6
  isplitl [H8]
  · iexists _
    isplitr
    swap
    · iexact H8
    ipureintro
    have w0 : (arg12.view.readCov (Val := Elt F) [⟨Rect.unit (s := S288x128) (k0_off4 k0_t2 k0_t3) S32x128.size (k0_off4_inb k0_t2 k0_t3), k0_pay10 (arg5.view.readAt (Elt F) (Rect.unit (s := S3x384x512) (k0_off1 k0_t1 k0_t2 k0_t3) S1x128x128.size (k0_off1_inb k0_t1 k0_t2 k0_t3)).toLoadRect f5)⟩] ⟨k0_off5 k0_t2 k0_t3 0#32, S8x128.size, ![4, 1], k0_off5_inb k0_t2 k0_t3 0⟩) = wq (arg5.view.readAt (Elt F) (Rect.unit (s := S3x384x512) (k0_off1 k0_t1 k0_t2 k0_t3) S1x128x128.size (k0_off1_inb k0_t1 k0_t2 k0_t3)).toLoadRect f5) 0 := load_wq arg12.view k0_t2 k0_t3 0 0#32 rfl (arg5.view.readAt (Elt F) (Rect.unit (s := S3x384x512) (k0_off1 k0_t1 k0_t2 k0_t3) S1x128x128.size (k0_off1_inb k0_t1 k0_t2 k0_t3)).toLoadRect f5) _ _
    have w1 : (arg12.view.readCov (Val := Elt F) [⟨Rect.unit (s := S288x128) (k0_off4 k0_t2 k0_t3) S32x128.size (k0_off4_inb k0_t2 k0_t3), k0_pay10 (arg5.view.readAt (Elt F) (Rect.unit (s := S3x384x512) (k0_off1 k0_t1 k0_t2 k0_t3) S1x128x128.size (k0_off1_inb k0_t1 k0_t2 k0_t3)).toLoadRect f5)⟩] ⟨k0_off5 k0_t2 k0_t3 1#32, S8x128.size, ![4, 1], k0_off5_inb k0_t2 k0_t3 1⟩) = wq (arg5.view.readAt (Elt F) (Rect.unit (s := S3x384x512) (k0_off1 k0_t1 k0_t2 k0_t3) S1x128x128.size (k0_off1_inb k0_t1 k0_t2 k0_t3)).toLoadRect f5) 1 := load_wq arg12.view k0_t2 k0_t3 1 1#32 rfl (arg5.view.readAt (Elt F) (Rect.unit (s := S3x384x512) (k0_off1 k0_t1 k0_t2 k0_t3) S1x128x128.size (k0_off1_inb k0_t1 k0_t2 k0_t3)).toLoadRect f5) _ _
    have w2 : (arg12.view.readCov (Val := Elt F) [⟨Rect.unit (s := S288x128) (k0_off4 k0_t2 k0_t3) S32x128.size (k0_off4_inb k0_t2 k0_t3), k0_pay10 (arg5.view.readAt (Elt F) (Rect.unit (s := S3x384x512) (k0_off1 k0_t1 k0_t2 k0_t3) S1x128x128.size (k0_off1_inb k0_t1 k0_t2 k0_t3)).toLoadRect f5)⟩] ⟨k0_off5 k0_t2 k0_t3 2#32, S8x128.size, ![4, 1], k0_off5_inb k0_t2 k0_t3 2⟩) = wq (arg5.view.readAt (Elt F) (Rect.unit (s := S3x384x512) (k0_off1 k0_t1 k0_t2 k0_t3) S1x128x128.size (k0_off1_inb k0_t1 k0_t2 k0_t3)).toLoadRect f5) 2 := load_wq arg12.view k0_t2 k0_t3 2 2#32 rfl (arg5.view.readAt (Elt F) (Rect.unit (s := S3x384x512) (k0_off1 k0_t1 k0_t2 k0_t3) S1x128x128.size (k0_off1_inb k0_t1 k0_t2 k0_t3)).toLoadRect f5) _ _
    have w3 : (arg12.view.readCov (Val := Elt F) [⟨Rect.unit (s := S288x128) (k0_off4 k0_t2 k0_t3) S32x128.size (k0_off4_inb k0_t2 k0_t3), k0_pay10 (arg5.view.readAt (Elt F) (Rect.unit (s := S3x384x512) (k0_off1 k0_t1 k0_t2 k0_t3) S1x128x128.size (k0_off1_inb k0_t1 k0_t2 k0_t3)).toLoadRect f5)⟩] ⟨k0_off5 k0_t2 k0_t3 3#32, S8x128.size, ![4, 1], k0_off5_inb k0_t2 k0_t3 3⟩) = wq (arg5.view.readAt (Elt F) (Rect.unit (s := S3x384x512) (k0_off1 k0_t1 k0_t2 k0_t3) S1x128x128.size (k0_off1_inb k0_t1 k0_t2 k0_t3)).toLoadRect f5) 3 := load_wq arg12.view k0_t2 k0_t3 3 3#32 rfl (arg5.view.readAt (Elt F) (Rect.unit (s := S3x384x512) (k0_off1 k0_t1 k0_t2 k0_t3) S1x128x128.size (k0_off1_inb k0_t1 k0_t2 k0_t3)).toLoadRect f5) _ _
    have s0 : (arg11.view.readCov (Val := Elt F) [⟨Rect.unit (s := S72x512) (k0_off2 k0_t1 k0_t2 k0_t3) S8x128.size (k0_off2_inb k0_t1 k0_t2 k0_t3), k0_pay8 (k0_pay5 v180 (arg6.view.readAt (Elt F) (Rect.unit (s := S72x512) (k0_off2 k0_t1 k0_t2 k0_t3) S8x128.size (k0_off2_inb k0_t1 k0_t2 k0_t3)).toLoadRect f6))⟩] (Rect.unit (s := S72x512) (k0_off9 k0_t1 k0_t2 k0_t3 0#32 0#32) S1x128.size (k0_off9_inb k0_t1 k0_t2 k0_t3 0 0)).toLoadRect) = sRow v180 (arg6.view.readAt (Elt F) (Rect.unit (s := S72x512) (k0_off2 k0_t1 k0_t2 k0_t3) S8x128.size (k0_off2_inb k0_t1 k0_t2 k0_t3)).toLoadRect f6) 0 := load_sRow arg11.view k0_t1 k0_t2 k0_t3 0 0 0 0#32 0#32 rfl rfl rfl v180 (arg6.view.readAt (Elt F) (Rect.unit (s := S72x512) (k0_off2 k0_t1 k0_t2 k0_t3) S8x128.size (k0_off2_inb k0_t1 k0_t2 k0_t3)).toLoadRect f6) _ _
    have s1 : (arg11.view.readCov (Val := Elt F) [⟨Rect.unit (s := S72x512) (k0_off2 k0_t1 k0_t2 k0_t3) S8x128.size (k0_off2_inb k0_t1 k0_t2 k0_t3), k0_pay8 (k0_pay5 v180 (arg6.view.readAt (Elt F) (Rect.unit (s := S72x512) (k0_off2 k0_t1 k0_t2 k0_t3) S8x128.size (k0_off2_inb k0_t1 k0_t2 k0_t3)).toLoadRect f6))⟩] (Rect.unit (s := S72x512) (k0_off9 k0_t1 k0_t2 k0_t3 0#32 1#32) S1x128.size (k0_off9_inb k0_t1 k0_t2 k0_t3 0 1)).toLoadRect) = sRow v180 (arg6.view.readAt (Elt F) (Rect.unit (s := S72x512) (k0_off2 k0_t1 k0_t2 k0_t3) S8x128.size (k0_off2_inb k0_t1 k0_t2 k0_t3)).toLoadRect f6) 1 := load_sRow arg11.view k0_t1 k0_t2 k0_t3 0 1 1 0#32 1#32 rfl rfl rfl v180 (arg6.view.readAt (Elt F) (Rect.unit (s := S72x512) (k0_off2 k0_t1 k0_t2 k0_t3) S8x128.size (k0_off2_inb k0_t1 k0_t2 k0_t3)).toLoadRect f6) _ _
    have s2 : (arg11.view.readCov (Val := Elt F) [⟨Rect.unit (s := S72x512) (k0_off2 k0_t1 k0_t2 k0_t3) S8x128.size (k0_off2_inb k0_t1 k0_t2 k0_t3), k0_pay8 (k0_pay5 v180 (arg6.view.readAt (Elt F) (Rect.unit (s := S72x512) (k0_off2 k0_t1 k0_t2 k0_t3) S8x128.size (k0_off2_inb k0_t1 k0_t2 k0_t3)).toLoadRect f6))⟩] (Rect.unit (s := S72x512) (k0_off9 k0_t1 k0_t2 k0_t3 0#32 2#32) S1x128.size (k0_off9_inb k0_t1 k0_t2 k0_t3 0 2)).toLoadRect) = sRow v180 (arg6.view.readAt (Elt F) (Rect.unit (s := S72x512) (k0_off2 k0_t1 k0_t2 k0_t3) S8x128.size (k0_off2_inb k0_t1 k0_t2 k0_t3)).toLoadRect f6) 2 := load_sRow arg11.view k0_t1 k0_t2 k0_t3 0 2 2 0#32 2#32 rfl rfl rfl v180 (arg6.view.readAt (Elt F) (Rect.unit (s := S72x512) (k0_off2 k0_t1 k0_t2 k0_t3) S8x128.size (k0_off2_inb k0_t1 k0_t2 k0_t3)).toLoadRect f6) _ _
    have s3 : (arg11.view.readCov (Val := Elt F) [⟨Rect.unit (s := S72x512) (k0_off2 k0_t1 k0_t2 k0_t3) S8x128.size (k0_off2_inb k0_t1 k0_t2 k0_t3), k0_pay8 (k0_pay5 v180 (arg6.view.readAt (Elt F) (Rect.unit (s := S72x512) (k0_off2 k0_t1 k0_t2 k0_t3) S8x128.size (k0_off2_inb k0_t1 k0_t2 k0_t3)).toLoadRect f6))⟩] (Rect.unit (s := S72x512) (k0_off9 k0_t1 k0_t2 k0_t3 0#32 3#32) S1x128.size (k0_off9_inb k0_t1 k0_t2 k0_t3 0 3)).toLoadRect) = sRow v180 (arg6.view.readAt (Elt F) (Rect.unit (s := S72x512) (k0_off2 k0_t1 k0_t2 k0_t3) S8x128.size (k0_off2_inb k0_t1 k0_t2 k0_t3)).toLoadRect f6) 3 := load_sRow arg11.view k0_t1 k0_t2 k0_t3 0 3 3 0#32 3#32 rfl rfl rfl v180 (arg6.view.readAt (Elt F) (Rect.unit (s := S72x512) (k0_off2 k0_t1 k0_t2 k0_t3) S8x128.size (k0_off2_inb k0_t1 k0_t2 k0_t3)).toLoadRect f6) _ _
    have s4 : (arg11.view.readCov (Val := Elt F) [⟨Rect.unit (s := S72x512) (k0_off2 k0_t1 k0_t2 k0_t3) S8x128.size (k0_off2_inb k0_t1 k0_t2 k0_t3), k0_pay8 (k0_pay5 v180 (arg6.view.readAt (Elt F) (Rect.unit (s := S72x512) (k0_off2 k0_t1 k0_t2 k0_t3) S8x128.size (k0_off2_inb k0_t1 k0_t2 k0_t3)).toLoadRect f6))⟩] (Rect.unit (s := S72x512) (k0_off9 k0_t1 k0_t2 k0_t3 4#32 0#32) S1x128.size (k0_off9_inb k0_t1 k0_t2 k0_t3 1 0)).toLoadRect) = sRow v180 (arg6.view.readAt (Elt F) (Rect.unit (s := S72x512) (k0_off2 k0_t1 k0_t2 k0_t3) S8x128.size (k0_off2_inb k0_t1 k0_t2 k0_t3)).toLoadRect f6) 4 := load_sRow arg11.view k0_t1 k0_t2 k0_t3 1 0 4 4#32 0#32 rfl rfl rfl v180 (arg6.view.readAt (Elt F) (Rect.unit (s := S72x512) (k0_off2 k0_t1 k0_t2 k0_t3) S8x128.size (k0_off2_inb k0_t1 k0_t2 k0_t3)).toLoadRect f6) _ _
    have s5 : (arg11.view.readCov (Val := Elt F) [⟨Rect.unit (s := S72x512) (k0_off2 k0_t1 k0_t2 k0_t3) S8x128.size (k0_off2_inb k0_t1 k0_t2 k0_t3), k0_pay8 (k0_pay5 v180 (arg6.view.readAt (Elt F) (Rect.unit (s := S72x512) (k0_off2 k0_t1 k0_t2 k0_t3) S8x128.size (k0_off2_inb k0_t1 k0_t2 k0_t3)).toLoadRect f6))⟩] (Rect.unit (s := S72x512) (k0_off9 k0_t1 k0_t2 k0_t3 4#32 1#32) S1x128.size (k0_off9_inb k0_t1 k0_t2 k0_t3 1 1)).toLoadRect) = sRow v180 (arg6.view.readAt (Elt F) (Rect.unit (s := S72x512) (k0_off2 k0_t1 k0_t2 k0_t3) S8x128.size (k0_off2_inb k0_t1 k0_t2 k0_t3)).toLoadRect f6) 5 := load_sRow arg11.view k0_t1 k0_t2 k0_t3 1 1 5 4#32 1#32 rfl rfl rfl v180 (arg6.view.readAt (Elt F) (Rect.unit (s := S72x512) (k0_off2 k0_t1 k0_t2 k0_t3) S8x128.size (k0_off2_inb k0_t1 k0_t2 k0_t3)).toLoadRect f6) _ _
    have s6 : (arg11.view.readCov (Val := Elt F) [⟨Rect.unit (s := S72x512) (k0_off2 k0_t1 k0_t2 k0_t3) S8x128.size (k0_off2_inb k0_t1 k0_t2 k0_t3), k0_pay8 (k0_pay5 v180 (arg6.view.readAt (Elt F) (Rect.unit (s := S72x512) (k0_off2 k0_t1 k0_t2 k0_t3) S8x128.size (k0_off2_inb k0_t1 k0_t2 k0_t3)).toLoadRect f6))⟩] (Rect.unit (s := S72x512) (k0_off9 k0_t1 k0_t2 k0_t3 4#32 2#32) S1x128.size (k0_off9_inb k0_t1 k0_t2 k0_t3 1 2)).toLoadRect) = sRow v180 (arg6.view.readAt (Elt F) (Rect.unit (s := S72x512) (k0_off2 k0_t1 k0_t2 k0_t3) S8x128.size (k0_off2_inb k0_t1 k0_t2 k0_t3)).toLoadRect f6) 6 := load_sRow arg11.view k0_t1 k0_t2 k0_t3 1 2 6 4#32 2#32 rfl rfl rfl v180 (arg6.view.readAt (Elt F) (Rect.unit (s := S72x512) (k0_off2 k0_t1 k0_t2 k0_t3) S8x128.size (k0_off2_inb k0_t1 k0_t2 k0_t3)).toLoadRect f6) _ _
    have s7 : (arg11.view.readCov (Val := Elt F) [⟨Rect.unit (s := S72x512) (k0_off2 k0_t1 k0_t2 k0_t3) S8x128.size (k0_off2_inb k0_t1 k0_t2 k0_t3), k0_pay8 (k0_pay5 v180 (arg6.view.readAt (Elt F) (Rect.unit (s := S72x512) (k0_off2 k0_t1 k0_t2 k0_t3) S8x128.size (k0_off2_inb k0_t1 k0_t2 k0_t3)).toLoadRect f6))⟩] (Rect.unit (s := S72x512) (k0_off9 k0_t1 k0_t2 k0_t3 4#32 3#32) S1x128.size (k0_off9_inb k0_t1 k0_t2 k0_t3 1 3)).toLoadRect) = sRow v180 (arg6.view.readAt (Elt F) (Rect.unit (s := S72x512) (k0_off2 k0_t1 k0_t2 k0_t3) S8x128.size (k0_off2_inb k0_t1 k0_t2 k0_t3)).toLoadRect f6) 7 := load_sRow arg11.view k0_t1 k0_t2 k0_t3 1 3 7 4#32 3#32 rfl rfl rfl v180 (arg6.view.readAt (Elt F) (Rect.unit (s := S72x512) (k0_off2 k0_t1 k0_t2 k0_t3) S8x128.size (k0_off2_inb k0_t1 k0_t2 k0_t3)).toLoadRect f6) _ _
    have r0 : ∀ lo hi : Vec F S8x128 .i32, (arg13.view.readAt (Elt F) (Rect.unit (s := S144x128) (k0_off7 k0_t2 k0_t3 0#32) S8x128.size (k0_off7_inb k0_t2 k0_t3 0)).toLoadRect (arg13.view.writes (Elt F) f13 [⟨⟨(⟨k0_off6 k0_t2 k0_t3 1#32, S8x128.size, ![2, 1], k0_off6_inb k0_t2 k0_t3 1⟩ : LoadRect S144x128), spos_2_1⟩, hi⟩, ⟨⟨(⟨k0_off6 k0_t2 k0_t3 0#32, S8x128.size, ![2, 1], k0_off6_inb k0_t2 k0_t3 0⟩ : LoadRect S144x128), spos_2_1⟩, lo⟩])) = rowsOf lo hi 0 := fun lo hi => load_rows arg13.view f13 k0_t2 k0_t3 0 0#32 rfl lo hi _ _ _
    have r1 : ∀ lo hi : Vec F S8x128 .i32, (arg13.view.readAt (Elt F) (Rect.unit (s := S144x128) (k0_off7 k0_t2 k0_t3 8#32) S8x128.size (k0_off7_inb k0_t2 k0_t3 1)).toLoadRect (arg13.view.writes (Elt F) f13 [⟨⟨(⟨k0_off6 k0_t2 k0_t3 1#32, S8x128.size, ![2, 1], k0_off6_inb k0_t2 k0_t3 1⟩ : LoadRect S144x128), spos_2_1⟩, hi⟩, ⟨⟨(⟨k0_off6 k0_t2 k0_t3 0#32, S8x128.size, ![2, 1], k0_off6_inb k0_t2 k0_t3 0⟩ : LoadRect S144x128), spos_2_1⟩, lo⟩])) = rowsOf lo hi 1 := fun lo hi => load_rows arg13.view f13 k0_t2 k0_t3 1 8#32 rfl lo hi _ _ _
    have q0 := hT.h8 0
    have q1 := hT.h8 1
    unfold uLo uHi at q0 q1
    rw [← r0, ← w0, ← w1, ← w2, ← w3] at q0
    rw [← r1, ← w0, ← w1, ← w2, ← w3] at q1
    clear r0 r1 w0 w1 w2 w3 s0 s1 s2 s3 s4 s5 s6 s7
    have q := upd8 arg8.view f8 k0_t1 k0_t2 k0_t3 T8 _ _ (k0_off8_inb k0_t1 k0_t2 k0_t3 0) (k0_off8_inb k0_t1 k0_t2 k0_t3 1) q0 q1
    clear q0 q1
    dsimp only [unitVal.sl.v1219, unitVal.sl.r_78, unitVal.sl.r_43, unitVal.sl.H12_1, unitVal.sl.r_41, unitVal.sl.v1230, unitVal.sl.r_90, unitVal.sl.v1244, unitVal.sl.r_84, unitVal.sl.r_14, unitVal.sl.v1243, unitVal.sl.r_83, unitVal.sl.r_103, unitVal.sl.r_109, unitVal.sl.r_9, unitVal.sl.r_48, unitVal.sl.v1229, unitVal.sl.r_82, unitVal.sl.r_17, unitVal.sl.cst_142, unitVal.sl.r_15, unitVal.sl.r_45, unitVal.sl.r_87, unitVal.sl.r_75, unitVal.sl.r_44, unitVal.sl.r_105, unitVal.sl.v1218, unitVal.sl.r_20, unitVal.sl.v1235, unitVal.sl.r_42, unitVal.sl.r_29, unitVal.sl.H9_1, unitVal.sl.r_58, unitVal.sl.r_86, unitVal.sl.r_108, unitVal.sl.r_55, unitVal.sl.r_21, unitVal.sl.r_98, unitVal.sl.r_92, unitVal.sl.v1211, unitVal.sl.r_39, unitVal.sl.v1241, unitVal.sl.v1232, unitVal.sl.r_63, unitVal.sl.r_72, unitVal.sl.v1227, unitVal.sl.r_49, unitVal.sl.v1225, unitVal.sl.r_112, unitVal.sl.r_28, unitVal.sl.v1212, unitVal.sl.r_60, unitVal.sl.r_7, unitVal.sl.v1228, unitVal.sl.r_10, unitVal.sl.cst_252, unitVal.sl.r_13, unitVal.sl.r_95, unitVal.sl.v248, unitVal.sl.r_34, unitVal.sl.r_36, unitVal.sl.r_33, unitVal.sl.r_68, unitVal.sl.v1246, unitVal.sl.v1214, unitVal.sl.r_85, unitVal.sl.v1231, unitVal.sl.r_25, unitVal.sl.v1240, unitVal.sl.r_52, unitVal.sl.r_67, unitVal.sl.r_99, unitVal.sl.r_96, unitVal.sl.v1272, unitVal.sl.r_93, unitVal.sl.v1223, unitVal.sl.r_76, unitVal.sl.v1248, unitVal.sl.v1222, unitVal.sl.r_100, unitVal.sl.H8_1, unitVal.sl.r_3, unitVal.sl.r_61, unitVal.sl.v1250, unitVal.sl.r_79, unitVal.sl.v1220, unitVal.sl.r_50, unitVal.sl.r_37, unitVal.sl.r_5, unitVal.sl.cst_129, unitVal.sl.r_69, unitVal.sl.r_11, unitVal.sl.r_88, unitVal.sl.r_1, unitVal.sl.r_81, unitVal.sl.r_59, unitVal.sl.r_24, unitVal.sl.r_54, unitVal.sl.r_113, unitVal.sl.r_116, unitVal.sl.v1224, unitVal.sl.r_91, unitVal.sl.r_89, unitVal.sl.r_106, unitVal.sl.r_70, unitVal.sl.r_38, unitVal.sl.r_115, unitVal.sl.v1242, unitVal.sl.v245, unitVal.sl.r_26, unitVal.sl.r_73, unitVal.sl.r_53, unitVal.sl.r_57, unitVal.sl.r_64, unitVal.sl.r_107, unitVal.sl.r_77, unitVal.sl.r_23, unitVal.sl.r_62, unitVal.sl.r_16, unitVal.sl.r_47, unitVal.sl.v1251, unitVal.sl.r_27, unitVal.sl.r_110, unitVal.sl.v1236, unitVal.sl.r_22, unitVal.sl.r_65, unitVal.sl.r_80, unitVal.sl.r_31, unitVal.sl.v1359, unitVal.sl.v246, unitVal.sl.v1237, unitVal.sl.r_18, unitVal.sl.r_114, unitVal.sl.r_104, unitVal.sl.r_6, unitVal.sl.v1234, unitVal.sl.v1233, unitVal.sl.H13_1, unitVal.sl.v244, unitVal.sl.r_30, unitVal.sl.r_56, unitVal.sl.r_74, unitVal.sl.r_51, unitVal.sl.r_12, unitVal.sl.r_46, unitVal.sl.v1273, unitVal.sl.H11_1, unitVal.sl.v1226, unitVal.sl.v1216, unitVal.sl.arg16, unitVal.sl.r_2, unitVal.sl.r_101, unitVal.sl.r_35, unitVal.sl.r_8, unitVal.sl.r_40, unitVal.sl.H13_2, unitVal.sl.r_66, unitVal.sl.r_111, unitVal.sl.r_71, unitVal.sl.r_32, unitVal.sl.v1238, unitVal.sl.r_94, unitVal.sl.v1239, unitVal.sl.r_19, unitVal.sl.r, unitVal.sl.v249, unitVal.sl.r_102, unitVal.sl.r_97, unitVal.sl.r_4, unitVal.sl.v1217, uLo, uHi, wordLo, wordHi, tileDec, nib0, nib1, nib2, nib3, nib4, nib5, nib6, nib7, nib8, nib9, nib10, nib11, nib12, nib13, nib14, nib15, k0_pay124, k0_pay125, k0_pay126, k0_pay127] at q ⊢
    exact q
  isplitl [H9]
  · iexists _
    isplitr
    swap
    · iexact H9
    ipureintro
    exact upd9 arg9.view f9 k0_t1 k0_t2 k0_t3 T9 _ (k0_off3_inb k0_t1 k0_t2 k0_t3) hT.h9
  isplitl [H10]
  · iexists _
    isplitr
    swap
    · iexact H10
    ipureintro
    have w0 : (arg12.view.readCov (Val := Elt F) [⟨Rect.unit (s := S288x128) (k0_off4 k0_t2 k0_t3) S32x128.size (k0_off4_inb k0_t2 k0_t3), k0_pay10 (arg5.view.readAt (Elt F) (Rect.unit (s := S3x384x512) (k0_off1 k0_t1 k0_t2 k0_t3) S1x128x128.size (k0_off1_inb k0_t1 k0_t2 k0_t3)).toLoadRect f5)⟩] ⟨k0_off5 k0_t2 k0_t3 0#32, S8x128.size, ![4, 1], k0_off5_inb k0_t2 k0_t3 0⟩) = wq (arg5.view.readAt (Elt F) (Rect.unit (s := S3x384x512) (k0_off1 k0_t1 k0_t2 k0_t3) S1x128x128.size (k0_off1_inb k0_t1 k0_t2 k0_t3)).toLoadRect f5) 0 := load_wq arg12.view k0_t2 k0_t3 0 0#32 rfl (arg5.view.readAt (Elt F) (Rect.unit (s := S3x384x512) (k0_off1 k0_t1 k0_t2 k0_t3) S1x128x128.size (k0_off1_inb k0_t1 k0_t2 k0_t3)).toLoadRect f5) _ _
    have w1 : (arg12.view.readCov (Val := Elt F) [⟨Rect.unit (s := S288x128) (k0_off4 k0_t2 k0_t3) S32x128.size (k0_off4_inb k0_t2 k0_t3), k0_pay10 (arg5.view.readAt (Elt F) (Rect.unit (s := S3x384x512) (k0_off1 k0_t1 k0_t2 k0_t3) S1x128x128.size (k0_off1_inb k0_t1 k0_t2 k0_t3)).toLoadRect f5)⟩] ⟨k0_off5 k0_t2 k0_t3 1#32, S8x128.size, ![4, 1], k0_off5_inb k0_t2 k0_t3 1⟩) = wq (arg5.view.readAt (Elt F) (Rect.unit (s := S3x384x512) (k0_off1 k0_t1 k0_t2 k0_t3) S1x128x128.size (k0_off1_inb k0_t1 k0_t2 k0_t3)).toLoadRect f5) 1 := load_wq arg12.view k0_t2 k0_t3 1 1#32 rfl (arg5.view.readAt (Elt F) (Rect.unit (s := S3x384x512) (k0_off1 k0_t1 k0_t2 k0_t3) S1x128x128.size (k0_off1_inb k0_t1 k0_t2 k0_t3)).toLoadRect f5) _ _
    have w2 : (arg12.view.readCov (Val := Elt F) [⟨Rect.unit (s := S288x128) (k0_off4 k0_t2 k0_t3) S32x128.size (k0_off4_inb k0_t2 k0_t3), k0_pay10 (arg5.view.readAt (Elt F) (Rect.unit (s := S3x384x512) (k0_off1 k0_t1 k0_t2 k0_t3) S1x128x128.size (k0_off1_inb k0_t1 k0_t2 k0_t3)).toLoadRect f5)⟩] ⟨k0_off5 k0_t2 k0_t3 2#32, S8x128.size, ![4, 1], k0_off5_inb k0_t2 k0_t3 2⟩) = wq (arg5.view.readAt (Elt F) (Rect.unit (s := S3x384x512) (k0_off1 k0_t1 k0_t2 k0_t3) S1x128x128.size (k0_off1_inb k0_t1 k0_t2 k0_t3)).toLoadRect f5) 2 := load_wq arg12.view k0_t2 k0_t3 2 2#32 rfl (arg5.view.readAt (Elt F) (Rect.unit (s := S3x384x512) (k0_off1 k0_t1 k0_t2 k0_t3) S1x128x128.size (k0_off1_inb k0_t1 k0_t2 k0_t3)).toLoadRect f5) _ _
    have w3 : (arg12.view.readCov (Val := Elt F) [⟨Rect.unit (s := S288x128) (k0_off4 k0_t2 k0_t3) S32x128.size (k0_off4_inb k0_t2 k0_t3), k0_pay10 (arg5.view.readAt (Elt F) (Rect.unit (s := S3x384x512) (k0_off1 k0_t1 k0_t2 k0_t3) S1x128x128.size (k0_off1_inb k0_t1 k0_t2 k0_t3)).toLoadRect f5)⟩] ⟨k0_off5 k0_t2 k0_t3 3#32, S8x128.size, ![4, 1], k0_off5_inb k0_t2 k0_t3 3⟩) = wq (arg5.view.readAt (Elt F) (Rect.unit (s := S3x384x512) (k0_off1 k0_t1 k0_t2 k0_t3) S1x128x128.size (k0_off1_inb k0_t1 k0_t2 k0_t3)).toLoadRect f5) 3 := load_wq arg12.view k0_t2 k0_t3 3 3#32 rfl (arg5.view.readAt (Elt F) (Rect.unit (s := S3x384x512) (k0_off1 k0_t1 k0_t2 k0_t3) S1x128x128.size (k0_off1_inb k0_t1 k0_t2 k0_t3)).toLoadRect f5) _ _
    have s0 : (arg11.view.readCov (Val := Elt F) [⟨Rect.unit (s := S72x512) (k0_off2 k0_t1 k0_t2 k0_t3) S8x128.size (k0_off2_inb k0_t1 k0_t2 k0_t3), k0_pay8 (k0_pay5 v180 (arg6.view.readAt (Elt F) (Rect.unit (s := S72x512) (k0_off2 k0_t1 k0_t2 k0_t3) S8x128.size (k0_off2_inb k0_t1 k0_t2 k0_t3)).toLoadRect f6))⟩] (Rect.unit (s := S72x512) (k0_off9 k0_t1 k0_t2 k0_t3 0#32 0#32) S1x128.size (k0_off9_inb k0_t1 k0_t2 k0_t3 0 0)).toLoadRect) = sRow v180 (arg6.view.readAt (Elt F) (Rect.unit (s := S72x512) (k0_off2 k0_t1 k0_t2 k0_t3) S8x128.size (k0_off2_inb k0_t1 k0_t2 k0_t3)).toLoadRect f6) 0 := load_sRow arg11.view k0_t1 k0_t2 k0_t3 0 0 0 0#32 0#32 rfl rfl rfl v180 (arg6.view.readAt (Elt F) (Rect.unit (s := S72x512) (k0_off2 k0_t1 k0_t2 k0_t3) S8x128.size (k0_off2_inb k0_t1 k0_t2 k0_t3)).toLoadRect f6) _ _
    have s1 : (arg11.view.readCov (Val := Elt F) [⟨Rect.unit (s := S72x512) (k0_off2 k0_t1 k0_t2 k0_t3) S8x128.size (k0_off2_inb k0_t1 k0_t2 k0_t3), k0_pay8 (k0_pay5 v180 (arg6.view.readAt (Elt F) (Rect.unit (s := S72x512) (k0_off2 k0_t1 k0_t2 k0_t3) S8x128.size (k0_off2_inb k0_t1 k0_t2 k0_t3)).toLoadRect f6))⟩] (Rect.unit (s := S72x512) (k0_off9 k0_t1 k0_t2 k0_t3 0#32 1#32) S1x128.size (k0_off9_inb k0_t1 k0_t2 k0_t3 0 1)).toLoadRect) = sRow v180 (arg6.view.readAt (Elt F) (Rect.unit (s := S72x512) (k0_off2 k0_t1 k0_t2 k0_t3) S8x128.size (k0_off2_inb k0_t1 k0_t2 k0_t3)).toLoadRect f6) 1 := load_sRow arg11.view k0_t1 k0_t2 k0_t3 0 1 1 0#32 1#32 rfl rfl rfl v180 (arg6.view.readAt (Elt F) (Rect.unit (s := S72x512) (k0_off2 k0_t1 k0_t2 k0_t3) S8x128.size (k0_off2_inb k0_t1 k0_t2 k0_t3)).toLoadRect f6) _ _
    have s2 : (arg11.view.readCov (Val := Elt F) [⟨Rect.unit (s := S72x512) (k0_off2 k0_t1 k0_t2 k0_t3) S8x128.size (k0_off2_inb k0_t1 k0_t2 k0_t3), k0_pay8 (k0_pay5 v180 (arg6.view.readAt (Elt F) (Rect.unit (s := S72x512) (k0_off2 k0_t1 k0_t2 k0_t3) S8x128.size (k0_off2_inb k0_t1 k0_t2 k0_t3)).toLoadRect f6))⟩] (Rect.unit (s := S72x512) (k0_off9 k0_t1 k0_t2 k0_t3 0#32 2#32) S1x128.size (k0_off9_inb k0_t1 k0_t2 k0_t3 0 2)).toLoadRect) = sRow v180 (arg6.view.readAt (Elt F) (Rect.unit (s := S72x512) (k0_off2 k0_t1 k0_t2 k0_t3) S8x128.size (k0_off2_inb k0_t1 k0_t2 k0_t3)).toLoadRect f6) 2 := load_sRow arg11.view k0_t1 k0_t2 k0_t3 0 2 2 0#32 2#32 rfl rfl rfl v180 (arg6.view.readAt (Elt F) (Rect.unit (s := S72x512) (k0_off2 k0_t1 k0_t2 k0_t3) S8x128.size (k0_off2_inb k0_t1 k0_t2 k0_t3)).toLoadRect f6) _ _
    have s3 : (arg11.view.readCov (Val := Elt F) [⟨Rect.unit (s := S72x512) (k0_off2 k0_t1 k0_t2 k0_t3) S8x128.size (k0_off2_inb k0_t1 k0_t2 k0_t3), k0_pay8 (k0_pay5 v180 (arg6.view.readAt (Elt F) (Rect.unit (s := S72x512) (k0_off2 k0_t1 k0_t2 k0_t3) S8x128.size (k0_off2_inb k0_t1 k0_t2 k0_t3)).toLoadRect f6))⟩] (Rect.unit (s := S72x512) (k0_off9 k0_t1 k0_t2 k0_t3 0#32 3#32) S1x128.size (k0_off9_inb k0_t1 k0_t2 k0_t3 0 3)).toLoadRect) = sRow v180 (arg6.view.readAt (Elt F) (Rect.unit (s := S72x512) (k0_off2 k0_t1 k0_t2 k0_t3) S8x128.size (k0_off2_inb k0_t1 k0_t2 k0_t3)).toLoadRect f6) 3 := load_sRow arg11.view k0_t1 k0_t2 k0_t3 0 3 3 0#32 3#32 rfl rfl rfl v180 (arg6.view.readAt (Elt F) (Rect.unit (s := S72x512) (k0_off2 k0_t1 k0_t2 k0_t3) S8x128.size (k0_off2_inb k0_t1 k0_t2 k0_t3)).toLoadRect f6) _ _
    have s4 : (arg11.view.readCov (Val := Elt F) [⟨Rect.unit (s := S72x512) (k0_off2 k0_t1 k0_t2 k0_t3) S8x128.size (k0_off2_inb k0_t1 k0_t2 k0_t3), k0_pay8 (k0_pay5 v180 (arg6.view.readAt (Elt F) (Rect.unit (s := S72x512) (k0_off2 k0_t1 k0_t2 k0_t3) S8x128.size (k0_off2_inb k0_t1 k0_t2 k0_t3)).toLoadRect f6))⟩] (Rect.unit (s := S72x512) (k0_off9 k0_t1 k0_t2 k0_t3 4#32 0#32) S1x128.size (k0_off9_inb k0_t1 k0_t2 k0_t3 1 0)).toLoadRect) = sRow v180 (arg6.view.readAt (Elt F) (Rect.unit (s := S72x512) (k0_off2 k0_t1 k0_t2 k0_t3) S8x128.size (k0_off2_inb k0_t1 k0_t2 k0_t3)).toLoadRect f6) 4 := load_sRow arg11.view k0_t1 k0_t2 k0_t3 1 0 4 4#32 0#32 rfl rfl rfl v180 (arg6.view.readAt (Elt F) (Rect.unit (s := S72x512) (k0_off2 k0_t1 k0_t2 k0_t3) S8x128.size (k0_off2_inb k0_t1 k0_t2 k0_t3)).toLoadRect f6) _ _
    have s5 : (arg11.view.readCov (Val := Elt F) [⟨Rect.unit (s := S72x512) (k0_off2 k0_t1 k0_t2 k0_t3) S8x128.size (k0_off2_inb k0_t1 k0_t2 k0_t3), k0_pay8 (k0_pay5 v180 (arg6.view.readAt (Elt F) (Rect.unit (s := S72x512) (k0_off2 k0_t1 k0_t2 k0_t3) S8x128.size (k0_off2_inb k0_t1 k0_t2 k0_t3)).toLoadRect f6))⟩] (Rect.unit (s := S72x512) (k0_off9 k0_t1 k0_t2 k0_t3 4#32 1#32) S1x128.size (k0_off9_inb k0_t1 k0_t2 k0_t3 1 1)).toLoadRect) = sRow v180 (arg6.view.readAt (Elt F) (Rect.unit (s := S72x512) (k0_off2 k0_t1 k0_t2 k0_t3) S8x128.size (k0_off2_inb k0_t1 k0_t2 k0_t3)).toLoadRect f6) 5 := load_sRow arg11.view k0_t1 k0_t2 k0_t3 1 1 5 4#32 1#32 rfl rfl rfl v180 (arg6.view.readAt (Elt F) (Rect.unit (s := S72x512) (k0_off2 k0_t1 k0_t2 k0_t3) S8x128.size (k0_off2_inb k0_t1 k0_t2 k0_t3)).toLoadRect f6) _ _
    have s6 : (arg11.view.readCov (Val := Elt F) [⟨Rect.unit (s := S72x512) (k0_off2 k0_t1 k0_t2 k0_t3) S8x128.size (k0_off2_inb k0_t1 k0_t2 k0_t3), k0_pay8 (k0_pay5 v180 (arg6.view.readAt (Elt F) (Rect.unit (s := S72x512) (k0_off2 k0_t1 k0_t2 k0_t3) S8x128.size (k0_off2_inb k0_t1 k0_t2 k0_t3)).toLoadRect f6))⟩] (Rect.unit (s := S72x512) (k0_off9 k0_t1 k0_t2 k0_t3 4#32 2#32) S1x128.size (k0_off9_inb k0_t1 k0_t2 k0_t3 1 2)).toLoadRect) = sRow v180 (arg6.view.readAt (Elt F) (Rect.unit (s := S72x512) (k0_off2 k0_t1 k0_t2 k0_t3) S8x128.size (k0_off2_inb k0_t1 k0_t2 k0_t3)).toLoadRect f6) 6 := load_sRow arg11.view k0_t1 k0_t2 k0_t3 1 2 6 4#32 2#32 rfl rfl rfl v180 (arg6.view.readAt (Elt F) (Rect.unit (s := S72x512) (k0_off2 k0_t1 k0_t2 k0_t3) S8x128.size (k0_off2_inb k0_t1 k0_t2 k0_t3)).toLoadRect f6) _ _
    have s7 : (arg11.view.readCov (Val := Elt F) [⟨Rect.unit (s := S72x512) (k0_off2 k0_t1 k0_t2 k0_t3) S8x128.size (k0_off2_inb k0_t1 k0_t2 k0_t3), k0_pay8 (k0_pay5 v180 (arg6.view.readAt (Elt F) (Rect.unit (s := S72x512) (k0_off2 k0_t1 k0_t2 k0_t3) S8x128.size (k0_off2_inb k0_t1 k0_t2 k0_t3)).toLoadRect f6))⟩] (Rect.unit (s := S72x512) (k0_off9 k0_t1 k0_t2 k0_t3 4#32 3#32) S1x128.size (k0_off9_inb k0_t1 k0_t2 k0_t3 1 3)).toLoadRect) = sRow v180 (arg6.view.readAt (Elt F) (Rect.unit (s := S72x512) (k0_off2 k0_t1 k0_t2 k0_t3) S8x128.size (k0_off2_inb k0_t1 k0_t2 k0_t3)).toLoadRect f6) 7 := load_sRow arg11.view k0_t1 k0_t2 k0_t3 1 3 7 4#32 3#32 rfl rfl rfl v180 (arg6.view.readAt (Elt F) (Rect.unit (s := S72x512) (k0_off2 k0_t1 k0_t2 k0_t3) S8x128.size (k0_off2_inb k0_t1 k0_t2 k0_t3)).toLoadRect f6) _ _
    have r0 : ∀ lo hi : Vec F S8x128 .i32, (arg13.view.readAt (Elt F) (Rect.unit (s := S144x128) (k0_off7 k0_t2 k0_t3 0#32) S8x128.size (k0_off7_inb k0_t2 k0_t3 0)).toLoadRect (arg13.view.writes (Elt F) f13 [⟨⟨(⟨k0_off6 k0_t2 k0_t3 1#32, S8x128.size, ![2, 1], k0_off6_inb k0_t2 k0_t3 1⟩ : LoadRect S144x128), spos_2_1⟩, hi⟩, ⟨⟨(⟨k0_off6 k0_t2 k0_t3 0#32, S8x128.size, ![2, 1], k0_off6_inb k0_t2 k0_t3 0⟩ : LoadRect S144x128), spos_2_1⟩, lo⟩])) = rowsOf lo hi 0 := fun lo hi => load_rows arg13.view f13 k0_t2 k0_t3 0 0#32 rfl lo hi _ _ _
    have r1 : ∀ lo hi : Vec F S8x128 .i32, (arg13.view.readAt (Elt F) (Rect.unit (s := S144x128) (k0_off7 k0_t2 k0_t3 8#32) S8x128.size (k0_off7_inb k0_t2 k0_t3 1)).toLoadRect (arg13.view.writes (Elt F) f13 [⟨⟨(⟨k0_off6 k0_t2 k0_t3 1#32, S8x128.size, ![2, 1], k0_off6_inb k0_t2 k0_t3 1⟩ : LoadRect S144x128), spos_2_1⟩, hi⟩, ⟨⟨(⟨k0_off6 k0_t2 k0_t3 0#32, S8x128.size, ![2, 1], k0_off6_inb k0_t2 k0_t3 0⟩ : LoadRect S144x128), spos_2_1⟩, lo⟩])) = rowsOf lo hi 1 := fun lo hi => load_rows arg13.view f13 k0_t2 k0_t3 1 8#32 rfl lo hi _ _ _
    have q := hT.h10
    unfold uLo uHi at q
    rw [← r0, ← r1, ← w0, ← w1, ← w2, ← w3, ← s0, ← s1, ← s2, ← s3, ← s4, ← s5, ← s6, ← s7] at q
    clear r0 r1 w0 w1 w2 w3 s0 s1 s2 s3 s4 s5 s6 s7
    have q' := upd10 arg10.view f10 k0_t1 k0_t2 k0_t3 T10 _ (k0_off10_inb k0_t1 k0_t2 k0_t3) q
    clear q
    dsimp only [unitVal.sl.v1219, unitVal.sl.r_78, unitVal.sl.r_43, unitVal.sl.H12_1, unitVal.sl.r_41, unitVal.sl.v1230, unitVal.sl.r_90, unitVal.sl.v1244, unitVal.sl.r_84, unitVal.sl.r_14, unitVal.sl.v1243, unitVal.sl.r_83, unitVal.sl.r_103, unitVal.sl.r_109, unitVal.sl.r_9, unitVal.sl.r_48, unitVal.sl.v1229, unitVal.sl.r_82, unitVal.sl.r_17, unitVal.sl.cst_142, unitVal.sl.r_15, unitVal.sl.r_45, unitVal.sl.r_87, unitVal.sl.r_75, unitVal.sl.r_44, unitVal.sl.r_105, unitVal.sl.v1218, unitVal.sl.r_20, unitVal.sl.v1235, unitVal.sl.r_42, unitVal.sl.r_29, unitVal.sl.H9_1, unitVal.sl.r_58, unitVal.sl.r_86, unitVal.sl.r_108, unitVal.sl.r_55, unitVal.sl.r_21, unitVal.sl.r_98, unitVal.sl.r_92, unitVal.sl.v1211, unitVal.sl.r_39, unitVal.sl.v1241, unitVal.sl.v1232, unitVal.sl.r_63, unitVal.sl.r_72, unitVal.sl.v1227, unitVal.sl.r_49, unitVal.sl.v1225, unitVal.sl.r_112, unitVal.sl.r_28, unitVal.sl.v1212, unitVal.sl.r_60, unitVal.sl.r_7, unitVal.sl.v1228, unitVal.sl.r_10, unitVal.sl.cst_252, unitVal.sl.r_13, unitVal.sl.r_95, unitVal.sl.v248, unitVal.sl.r_34, unitVal.sl.r_36, unitVal.sl.r_33, unitVal.sl.r_68, unitVal.sl.v1246, unitVal.sl.v1214, unitVal.sl.r_85, unitVal.sl.v1231, unitVal.sl.r_25, unitVal.sl.v1240, unitVal.sl.r_52, unitVal.sl.r_67, unitVal.sl.r_99, unitVal.sl.r_96, unitVal.sl.v1272, unitVal.sl.r_93, unitVal.sl.v1223, unitVal.sl.r_76, unitVal.sl.v1248, unitVal.sl.v1222, unitVal.sl.r_100, unitVal.sl.H8_1, unitVal.sl.r_3, unitVal.sl.r_61, unitVal.sl.v1250, unitVal.sl.r_79, unitVal.sl.v1220, unitVal.sl.r_50, unitVal.sl.r_37, unitVal.sl.r_5, unitVal.sl.cst_129, unitVal.sl.r_69, unitVal.sl.r_11, unitVal.sl.r_88, unitVal.sl.r_1, unitVal.sl.r_81, unitVal.sl.r_59, unitVal.sl.r_24, unitVal.sl.r_54, unitVal.sl.r_113, unitVal.sl.r_116, unitVal.sl.v1224, unitVal.sl.r_91, unitVal.sl.r_89, unitVal.sl.r_106, unitVal.sl.r_70, unitVal.sl.r_38, unitVal.sl.r_115, unitVal.sl.v1242, unitVal.sl.v245, unitVal.sl.r_26, unitVal.sl.r_73, unitVal.sl.r_53, unitVal.sl.r_57, unitVal.sl.r_64, unitVal.sl.r_107, unitVal.sl.r_77, unitVal.sl.r_23, unitVal.sl.r_62, unitVal.sl.r_16, unitVal.sl.r_47, unitVal.sl.v1251, unitVal.sl.r_27, unitVal.sl.r_110, unitVal.sl.v1236, unitVal.sl.r_22, unitVal.sl.r_65, unitVal.sl.r_80, unitVal.sl.r_31, unitVal.sl.v1359, unitVal.sl.v246, unitVal.sl.v1237, unitVal.sl.r_18, unitVal.sl.r_114, unitVal.sl.r_104, unitVal.sl.r_6, unitVal.sl.v1234, unitVal.sl.v1233, unitVal.sl.H13_1, unitVal.sl.v244, unitVal.sl.r_30, unitVal.sl.r_56, unitVal.sl.r_74, unitVal.sl.r_51, unitVal.sl.r_12, unitVal.sl.r_46, unitVal.sl.v1273, unitVal.sl.H11_1, unitVal.sl.v1226, unitVal.sl.v1216, unitVal.sl.arg16, unitVal.sl.r_2, unitVal.sl.r_101, unitVal.sl.r_35, unitVal.sl.r_8, unitVal.sl.r_40, unitVal.sl.H13_2, unitVal.sl.r_66, unitVal.sl.r_111, unitVal.sl.r_71, unitVal.sl.r_32, unitVal.sl.v1238, unitVal.sl.r_94, unitVal.sl.v1239, unitVal.sl.r_19, unitVal.sl.r, unitVal.sl.v249, unitVal.sl.r_102, unitVal.sl.r_97, unitVal.sl.r_4, unitVal.sl.v1217, uLo, uHi, wordLo, wordHi, tileDec, nib0, nib1, nib2, nib3, nib4, nib5, nib6, nib7, nib8, nib9, nib10, nib11, nib12, nib13, nib14, nib15, k0_pay124, k0_pay125, k0_pay126, k0_pay127] at q' ⊢
    exact q'
  sl_close

end Cert.KernelIdeal.Hand
-- ==== Proof.KernelVal.lean ====
module

public import proofs.«01_k».proof.Proof.UnitRun
public import Idealize.ShloMosaic.Lib.ValueIdx
public import Idealize.ShloMosaic.Lib.IdealHost
public import Idealize.ShloMosaic.Lib.Pointwise

@[expose] public section

set_option maxRecDepth 65536

noncomputable section

/-! The whole kernel, from its units: the three nested loops, and the product that follows them. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The places of an array whose unit, in the order of the loops, comes before unit `n`, read `T`. -/
def Upto {κ : Kind} {sp : Space} {s : Shape} {e : EltTy} (v : View sig κ sp s e) (f : BufTy.Contents (Elt F) v.ty) (T : s.Idx → Elt F e) (u : s.Idx → ℕ) (n : ℕ) : Prop :=
  ∀ y, u y < n → v.read (Elt F) f y = T y

theorem Upto.step {κ : Kind} {sp : Space} {s : Shape} {e : EltTy} {v : View sig κ sp s e} {f g : BufTy.Contents (Elt F) v.ty} {T : s.Idx → Elt F e} {u : s.Idx → ℕ} {n : ℕ} {P : s.Idx → Prop}
    (h : Upto v f T u n) (hg : Upd v f g P T) (hP : ∀ y, P y ↔ u y = n) : Upto v g T u (n + 1) := fun y hy => by
  by_cases hp : P y
  · exact hg.1 y hp
  · have := (hP y).not.mp hp
    rw [hg.2 y hp]
    exact h y (by omega)

/-- The unit that writes a place of the codes, of the scales, of the decoded gradient. -/
def u8 (y : S3x192x512.Idx) : ℕ := 9 * ((y 2).val / 128) + 3 * (y 0).val + (y 1).val / 64
@[inherit_doc u8] def u9 (y : S3x24x512.Idx) : ℕ := 9 * ((y 2).val / 128) + 3 * (y 0).val + (y 1).val / 8
@[inherit_doc u8] def u10 (y : S1152x512.Idx) : ℕ := 9 * ((y 1).val / 128) + (y 0).val / 128

theorem P8_iff (t1 t2 t3 : ℕ) (h2 : t2 < 3) (h3 : t3 < 3) (y) : P8 t1 t2 t3 y ↔ u8 y = 9 * t1 + 3 * t2 + t3 := by
  have a0 : (y 0).val < 3 := (y 0).isLt
  have a1 : (y 1).val < 192 := (y 1).isLt
  unfold P8 u8; omega
theorem P9_iff (t1 t2 t3 : ℕ) (h2 : t2 < 3) (h3 : t3 < 3) (y) : P9 t1 t2 t3 y ↔ u9 y = 9 * t1 + 3 * t2 + t3 := by
  have a0 : (y 0).val < 3 := (y 0).isLt
  have a1 : (y 1).val < 24 := (y 1).isLt
  unfold P9 u9; omega
theorem P10_iff (t1 t2 t3 : ℕ) (h2 : t2 < 3) (h3 : t3 < 3) (y) : P10 t1 t2 t3 y ↔ u10 y = 9 * t1 + 3 * t2 + t3 := by
  have a0 : (y 0).val < 1152 := (y 0).isLt
  unfold P10 u10; omega

/-- What the loops keep: the three inputs at their contents, and in the arrays they fill, `T` up to unit `n`. -/
abbrev keptV (c : Dev nD) (arg4 : Memref sig .tc .vmem S3x384x512 .bf16) (arg5 : Memref sig .tc .vmem S3x384x512 .i8) (arg6 : Memref sig .tc .vmem S72x512 .f32) (arg8 : Memref sig .tc .vmem S3x192x512 .i8) (arg9 : Memref sig .tc .vmem S3x24x512 .fp8e4m3) (arg10 : Memref sig .tc .vmem S1152x512 .bf16) (arg11 : Memref sig .tc .vmem S72x512 .f32) (arg12 : Memref sig .tc .vmem S288x128 .i32) (arg13 : Memref sig .tc .vmem S144x128 .i32)
    (f4 : Buf (Elt F) (arg4.view.loc (c : Thread nD τ))) (f5 : Buf (Elt F) (arg5.view.loc (c : Thread nD τ))) (f6 : Buf (Elt F) (arg6.view.loc (c : Thread nD τ)))
    (T8 : S3x192x512.Idx → Elt F .i8) (T9 : S3x24x512.Idx → Elt F .fp8e4m3) (T10 : S1152x512.Idx → Elt F .bf16) (n : ℕ) : sProp 𝕄 :=
  iprop(pt c arg4 f4 ∗ pt c arg5 f5 ∗ pt c arg6 f6 ∗ (∃ f, ⌜Upto arg8.view f T8 u8 n⌝ ∗ pt c arg8 f) ∗ (∃ f, ⌜Upto arg9.view f T9 u9 n⌝ ∗ pt c arg9 f) ∗ (∃ f, ⌜Upto arg10.view f T10 u10 n⌝ ∗ pt c arg10 f) ∗ (∃ f, pt c arg11 f) ∗ (∃ f, pt c arg12 f) ∗ (∃ f, pt c arg13 f))

theorem smem16 {κ : Kind} {sp : Space} {e : EltTy} (v : View sig κ sp S16 e) (f : BufTy.Contents (Elt F) v.ty) (n : ℕ) (k : Fin 16) (hk : k.val = n) (h) (h') :
    v.readAt (Elt F) (Rect.unit (s := S16) ![n] ![1] h).toLoadRect f (Shape.Idx.first h') = v.read (Elt F) f (ix1 k) := by
  rw [View.readAt_apply]
  congr 1
  funext a
  apply Fin.ext
  fin_cases a
  exact hk.symm
theorem smem2 {κ : Kind} {sp : Space} {e : EltTy} (v : View sig κ sp S2 e) (f : BufTy.Contents (Elt F) v.ty) (n : ℕ) (k : Fin 2) (hk : k.val = n) (h) (h') :
    v.readAt (Elt F) (Rect.unit (s := S2) ![n] ![1] h).toLoadRect f (Shape.Idx.first h') = v.read (Elt F) f (ix1 k) := by
  rw [View.readAt_apply]
  congr 1
  funext a
  apply Fin.ext
  fin_cases a
  exact hk.symm

/-- The kernel's rotation, from its sixteen signs: the mask of the diagonal blocks, the signed parities, the scale. -/
def wMask : IVec S128x128 1 := k0_pay155 (iota .tc S128x128 32 [1] iota_S128x128_d1_w32) k0_pay147
@[inherit_doc wMask] def wCol : IVec S128x128 32 := k0_pay148 (iota .tc S128x128 32 [1] iota_S128x128_d1_w32) 16#32 (Scalar.cmpi .eq 16#32 0#32) 1#32
@[inherit_doc wMask] def wSign (sg : Fin 16 → Elt F .f32) : FVec F S128x128 .f32 :=
  k0_pay156 wCol (k0_pay149 (iota .tc S128x128 32 [1] iota_S128x128_d1_w32) k0_pay146 16#32 (Scalar.cmpi .eq 16#32 0#32) 1#32)
    (k0_pay153 wCol (k0_pay150 (iota .tc S128x128 32 [1] iota_S128x128_d1_w32) 16#32 (Scalar.cmpi .eq 16#32 0#32) 1#32 (sg 0) (sg 1) (sg 2) (sg 3)) (k0_pay151 (iota .tc S128x128 32 [1] iota_S128x128_d1_w32) 16#32 (Scalar.cmpi .eq 16#32 0#32) 1#32) (k0_pay152 (sg 4)) (sg 5) (sg 6) (sg 7) (sg 8) (sg 9) (sg 10) (sg 11) (sg 12))
    (k0_pay154 wCol) (sg 13) (sg 14) (sg 15)

/-- What the kernel's arrays hold at its end, as functions of what it is given. -/
structure KernelT (X1 : S16.Idx → Elt F .f32) (X2 : S2.Idx → Elt F .f32) (X3 : S2880x1152.Idx → Elt F .bf16) (X4 : S3x384x512.Idx → Elt F .bf16) (X5 : S3x384x512.Idx → Elt F .i8) (X6 : S72x512.Idx → Elt F .f32)
    (T7 : S2880x512.Idx → Elt F .f32) (T8 : S3x192x512.Idx → Elt F .i8) (T9 : S3x24x512.Idx → Elt F .fp8e4m3) (T10 : S1152x512.Idx → Elt F .bf16) : Prop where
  unit : ∀ (t1 : Fin k0_t1_loop.trips) (t2 : Fin k0_t2_loop.trips) (t3 : Fin k0_t3_loop.trips),
    UnitT wMask (wSign fun n => X1 (ix1 n)) (k0_pay157 (F := F)) (X2 (ix1 1)) t1 t2 t3
      (fun x => X4 ((Rect.unit (s := S3x384x512) (k0_off1 t1 t2 t3) S1x128x128.size (k0_off1_inb t1 t2 t3)).emb x))
      (fun x => X6 ((Rect.unit (s := S72x512) (k0_off2 t1 t2 t3) S8x128.size (k0_off2_inb t1 t2 t3)).emb x))
      (fun x => X5 ((Rect.unit (s := S3x384x512) (k0_off1 t1 t2 t3) S1x128x128.size (k0_off1_inb t1 t2 t3)).emb x)) T8 T9 T10
  dw : ∀ (m : ℕ) (v : Vec F S320x1152 .bf16), (∀ (x : S320x1152.Idx) (z : S2880x1152.Idx), (z 0).val = m + (x 0).val → (z 1).val = (x 1).val → v x = X3 z) →
    ∀ (x : S320x512.Idx) (y : S2880x512.Idx), (y 0).val = m + (x 0).val → (y 1).val = (x 1).val → k0_pay2 (k0_pay160 (X2 (ix1 1)) (X2 (ix1 0))) v T10 x = T7 y

/-- One unit takes the loops one step further. -/
theorem unitStep (c : Dev nD) (i : grid0.Coords) (arg1 : Memref sig .tc .smem S16 .f32) (harg1 : arg1.IsWhole) (arg2 : Memref sig .tc .smem S2 .f32) (harg2 : arg2.IsWhole) (arg3 : Memref sig .tc .vmem S2880x1152 .bf16) (harg3 : arg3.IsWhole) (arg4 : Memref sig .tc .vmem S3x384x512 .bf16) (harg4 : arg4.IsWhole) (arg5 : Memref sig .tc .vmem S3x384x512 .i8) (harg5 : arg5.IsWhole) (arg6 : Memref sig .tc .vmem S72x512 .f32) (harg6 : arg6.IsWhole) (arg7 : Memref sig .tc .vmem S2880x512 .f32) (harg7 : arg7.IsWhole) (arg8 : Memref sig .tc .vmem S3x192x512 .i8) (harg8 : arg8.IsWhole) (arg9 : Memref sig .tc .vmem S3x24x512 .fp8e4m3) (harg9 : arg9.IsWhole) (arg10 : Memref sig .tc .vmem S1152x512 .bf16) (harg10 : arg10.IsWhole) (arg11 : Memref sig .tc .vmem S72x512 .f32) (harg11 : arg11.IsWhole) (arg12 : Memref sig .tc .vmem S288x128 .i32) (harg12 : arg12.IsWhole) (arg13 : Memref sig .tc .vmem S144x128 .i32) (harg13 : arg13.IsWhole)
    (v173 : IVec S128x128 1) (v174 : FVec F S128x128 .f32) (v175 : FVec F S128x128 .f32) (v180 : Elt F .f32) (k0_t1 : Fin k0_t1_loop.trips) (v239 : BitVec 32) (k0_t2 : Fin k0_t2_loop.trips) (v242 : BitVec 32) (k0_t3 : Fin k0_t3_loop.trips)
    (f4 : Buf (Elt F) (arg4.view.loc (c : Thread nD τ))) (f5 : Buf (Elt F) (arg5.view.loc (c : Thread nD τ))) (f6 : Buf (Elt F) (arg6.view.loc (c : Thread nD τ)))
    (f8 : Buf (Elt F) (arg8.view.loc (c : Thread nD τ))) (f9 : Buf (Elt F) (arg9.view.loc (c : Thread nD τ))) (f10 : Buf (Elt F) (arg10.view.loc (c : Thread nD τ)))
    (f11 : Buf (Elt F) (arg11.view.loc (c : Thread nD τ))) (f12 : Buf (Elt F) (arg12.view.loc (c : Thread nD τ))) (f13 : Buf (Elt F) (arg13.view.loc (c : Thread nD τ)))
    (T8 : S3x192x512.Idx → Elt F .i8) (T9 : S3x24x512.Idx → Elt F .fp8e4m3) (T10 : S1152x512.Idx → Elt F .bf16)
    (hT : UnitT v173 v174 v175 v180 k0_t1 k0_t2 k0_t3 (arg4.view.readAt (Elt F) (Rect.unit (s := S3x384x512) (k0_off1 k0_t1 k0_t2 k0_t3) S1x128x128.size (k0_off1_inb k0_t1 k0_t2 k0_t3)).toLoadRect f4) (arg6.view.readAt (Elt F) (Rect.unit (s := S72x512) (k0_off2 k0_t1 k0_t2 k0_t3) S8x128.size (k0_off2_inb k0_t1 k0_t2 k0_t3)).toLoadRect f6) (arg5.view.readAt (Elt F) (Rect.unit (s := S3x384x512) (k0_off1 k0_t1 k0_t2 k0_t3) S1x128x128.size (k0_off1_inb k0_t1 k0_t2 k0_t3)).toLoadRect f5) T8 T9 T10)
    (h8 : Upto arg8.view f8 T8 u8 (9 * k0_t1.val + 3 * k0_t2.val + k0_t3.val)) (h9 : Upto arg9.view f9 T9 u9 (9 * k0_t1.val + 3 * k0_t2.val + k0_t3.val)) (h10 : Upto arg10.view f10 T10 u10 (9 * k0_t1.val + 3 * k0_t2.val + k0_t3.val)) :
    (iprop(pt c arg4 f4 ∗ pt c arg5 f5 ∗ pt c arg6 f6 ∗ pt c arg8 f8 ∗ pt c arg9 f9 ∗ pt c arg10 f10 ∗ pt c arg11 f11 ∗ pt c arg12 f12 ∗ pt c arg13 f13) : sProp 𝕄)
      ⊢ wp frame (wpE (defs₀ (F := F)) Variants.none c none) Set.univ
          (k0_t3_body i arg1 harg1 arg2 harg2 arg3 harg3 arg4 harg4 arg5 harg5 arg6 harg6 arg7 harg7 arg8 harg8 arg9 harg9 arg10 harg10 arg11 harg11 arg12 harg12 arg13 harg13 v173 v174 v175 v180 k0_t1 v239 k0_t2 v242 k0_t3 ())
          fun _ => keptV c arg4 arg5 arg6 arg8 arg9 arg10 arg11 arg12 arg13 f4 f5 f6 T8 T9 T10 (9 * k0_t1.val + 3 * k0_t2.val + (k0_t3.val + 1)) := by
  have b2 : k0_t2.val < 3 := k0_t2.isLt
  have b3 : k0_t3.val < 3 := k0_t3.isLt
  refine (unitVal c i arg1 harg1 arg2 harg2 arg3 harg3 arg4 harg4 arg5 harg5 arg6 harg6 arg7 harg7 arg8 harg8 arg9 harg9 arg10 harg10 arg11 harg11 arg12 harg12 arg13 harg13 _ _ _ _ k0_t1 _ k0_t2 _ k0_t3 f4 f5 f6 f8 f9 f10 f11 f12 f13 _ _ _ rfl rfl rfl T8 T9 T10 hT).trans (wp_mono _ _ _ fun _ => ?_)
  iintro ⟨H4, H5, H6, ⟨%k8, %j8, H8⟩, ⟨%k9, %j9, H9⟩, ⟨%k10, %j10, H10⟩, H11, H12, H13⟩
  isplitl [H4]; · iexact H4
  isplitl [H5]; · iexact H5
  isplitl [H6]; · iexact H6
  isplitl [H8]
  · iexists _; isplitr; swap; · iexact H8
    ipureintro; exact h8.step j8 (P8_iff _ _ _ b2 b3)
  isplitl [H9]
  · iexists _; isplitr; swap; · iexact H9
    ipureintro; exact h9.step j9 (P9_iff _ _ _ b2 b3)
  isplitl [H10]
  · iexists _; isplitr; swap; · iexact H10
    ipureintro; exact h10.step j10 (P10_iff _ _ _ b2 b3)
  isplitl [H11]; · iexact H11
  isplitl [H12]; · iexact H12
  iexact H13

/-- Nine chunks of rows make the whole product. -/
theorem dw9 (v : View sig .tc .vmem S2880x512 .f32) (f : BufTy.Contents (Elt F) v.ty) (T : S2880x512.Idx → Elt F .f32) (p : Fin 9 → S320x512.Idx → Elt F .f32) (h0 h1 h2 h3 h4 h5 h6 h7 h8)
    (hp : ∀ (m : Fin 9) (x : S320x512.Idx) (y : S2880x512.Idx), (y 0).val = 320 * m.val + (x 0).val → (y 1).val = (x 1).val → p m x = T y) :
    v.read (Elt F) (v.writes (Elt F) f [⟨Rect.unit (s := S2880x512) ![2560, 0] S320x512.size h8, p 8⟩, ⟨Rect.unit (s := S2880x512) ![2240, 0] S320x512.size h7, p 7⟩, ⟨Rect.unit (s := S2880x512) ![1920, 0] S320x512.size h6, p 6⟩, ⟨Rect.unit (s := S2880x512) ![1600, 0] S320x512.size h5, p 5⟩, ⟨Rect.unit (s := S2880x512) ![1280, 0] S320x512.size h4, p 4⟩, ⟨Rect.unit (s := S2880x512) ![960, 0] S320x512.size h3, p 3⟩, ⟨Rect.unit (s := S2880x512) ![640, 0] S320x512.size h2, p 2⟩, ⟨Rect.unit (s := S2880x512) ![320, 0] S320x512.size h1, p 1⟩, ⟨Rect.unit (s := S2880x512) ![0, 0] S320x512.size h0, p 0⟩]) = T := by
  funext y
  have ex : ∀ (m : Fin 9) (o : Fin 2 → ℕ) (h) (x : S320x512.Idx), o 0 = 320 * m.val → o 1 = 0 → p m x = T ((Rect.unit (s := S2880x512) o S320x512.size h).emb x) := fun m o h x q0 q1 =>
    hp m x _ (by rw [Rect.emb_apply]; change o 0 + 1 * (x 0).val = _; omega) (by rw [Rect.emb_apply]; change o 1 + 1 * (x 1).val = _; omega)
  have em : ∀ (m : Fin 9) (o : Fin 2 → ℕ) (h), o 0 = 320 * m.val → o 1 = 0 → 320 * m.val ≤ (y 0).val → (y 0).val < 320 * m.val + 320 → y ∈ (Rect.unit (s := S2880x512) o S320x512.size h).set := fun m o h q0 q1 l u => by
    rw [Rect.mem_set_unit]
    intro a
    fin_cases a
    · change o 0 ≤ (y 0).val ∧ (y 0).val < o 0 + 320; omega
    · have : (y 1).val < 512 := (y 1).isLt
      change o 1 ≤ (y 1).val ∧ (y 1).val < o 1 + 512; omega
  apply View.read_writes_apply_of_pieces v f T
  · intro q hq x
    simp only [List.mem_cons, List.not_mem_nil, or_false] at hq
    rcases hq with rfl | rfl | rfl | rfl | rfl | rfl | rfl | rfl | rfl
    · exact ex 8 _ h8 x rfl rfl
    · exact ex 7 _ h7 x rfl rfl
    · exact ex 6 _ h6 x rfl rfl
    · exact ex 5 _ h5 x rfl rfl
    · exact ex 4 _ h4 x rfl rfl
    · exact ex 3 _ h3 x rfl rfl
    · exact ex 2 _ h2 x rfl rfl
    · exact ex 1 _ h1 x rfl rfl
    · exact ex 0 _ h0 x rfl rfl
  · have a0 : (y 0).val < 2880 := (y 0).isLt
    obtain ⟨m, hm⟩ : ∃ m : Fin 9, 320 * m.val ≤ (y 0).val ∧ (y 0).val < 320 * m.val + 320 := ⟨⟨(y 0).val / 320, by omega⟩, by constructor <;> simp only <;> omega⟩
    fin_cases m
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), em 0 _ h0 rfl rfl hm.1 hm.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), em 1 _ h1 rfl rfl hm.1 hm.2⟩
    · exact ⟨_, List.mem_cons_of_mem _ (List.mem_cons_of_mem _ (List.mem_cons_of_mem _ (List.mem_cons_of_mem _ (List.mem_cons_of_mem _ (List.mem_cons_of_mem _ (List.mem_cons_self)))))), em 2 _ h2 rfl rfl hm.1 hm.2⟩
    · exact ⟨_, List.mem_cons_of_mem _ (List.mem_cons_of_mem _ (List.mem_cons_of_mem _ (List.mem_cons_of_mem _ (List.mem_cons_of_mem _ (List.mem_cons_self))))), em 3 _ h3 rfl rfl hm.1 hm.2⟩
    · exact ⟨_, List.mem_cons_of_mem _ (List.mem_cons_of_mem _ (List.mem_cons_of_mem _ (List.mem_cons_of_mem _ (List.mem_cons_self)))), em 4 _ h4 rfl rfl hm.1 hm.2⟩
    · exact ⟨_, List.mem_cons_of_mem _ (List.mem_cons_of_mem _ (List.mem_cons_of_mem _ (List.mem_cons_self))), em 5 _ h5 rfl rfl hm.1 hm.2⟩
    · exact ⟨_, List.mem_cons_of_mem _ (List.mem_cons_of_mem _ (List.mem_cons_self)), em 6 _ h6 rfl rfl hm.1 hm.2⟩
    · exact ⟨_, List.mem_cons_of_mem _ (List.mem_cons_self), em 7 _ h7 rfl rfl hm.1 hm.2⟩
    · exact ⟨_, List.mem_cons_self, em 8 _ h8 rfl rfl hm.1 hm.2⟩

theorem kernelVal (c : Dev nD) (i : grid0.Coords) (arg1 : Memref sig .tc .smem S16 .f32) (harg1 : arg1.IsWhole) (arg2 : Memref sig .tc .smem S2 .f32) (harg2 : arg2.IsWhole) (arg3 : Memref sig .tc .vmem S2880x1152 .bf16) (harg3 : arg3.IsWhole) (arg4 : Memref sig .tc .vmem S3x384x512 .bf16) (harg4 : arg4.IsWhole) (arg5 : Memref sig .tc .vmem S3x384x512 .i8) (harg5 : arg5.IsWhole) (arg6 : Memref sig .tc .vmem S72x512 .f32) (harg6 : arg6.IsWhole) (arg7 : Memref sig .tc .vmem S2880x512 .f32) (harg7 : arg7.IsWhole) (arg8 : Memref sig .tc .vmem S3x192x512 .i8) (harg8 : arg8.IsWhole) (arg9 : Memref sig .tc .vmem S3x24x512 .fp8e4m3) (harg9 : arg9.IsWhole) (arg10 : Memref sig .tc .vmem S1152x512 .bf16) (harg10 : arg10.IsWhole) (arg11 : Memref sig .tc .vmem S72x512 .f32) (harg11 : arg11.IsWhole) (arg12 : Memref sig .tc .vmem S288x128 .i32) (harg12 : arg12.IsWhole) (arg13 : Memref sig .tc .vmem S144x128 .i32) (harg13 : arg13.IsWhole)
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ)))
    (X1 : S16.Idx → Elt F .f32) (X2 : S2.Idx → Elt F .f32) (X3 : S2880x1152.Idx → Elt F .bf16) (X4 : S3x384x512.Idx → Elt F .bf16) (X5 : S3x384x512.Idx → Elt F .i8) (X6 : S72x512.Idx → Elt F .f32)
    (e1 : arg1.view.read (Elt F) f1 = X1) (e2 : arg2.view.read (Elt F) f2 = X2) (e3 : arg3.view.read (Elt F) f3 = X3) (e4 : arg4.view.read (Elt F) f4 = X4) (e5 : arg5.view.read (Elt F) f5 = X5) (e6 : arg6.view.read (Elt F) f6 = X6)
    (T7 : S2880x512.Idx → Elt F .f32) (T8 : S3x192x512.Idx → Elt F .i8) (T9 : S3x24x512.Idx → Elt F .fp8e4m3) (T10 : S1152x512.Idx → Elt F .bf16)
    (hT : KernelT X1 X2 X3 X4 X5 X6 T7 T8 T9 T10) :
    (iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13) : sProp 𝕄)
      ⊢ wp frame (wpE (defs₀ (F := F)) Variants.none c none) Set.univ (cc0_nvfp4_main i arg1 harg1 arg2 harg2 arg3 harg3 arg4 harg4 arg5 harg5 arg6 harg6 arg7 harg7 arg8 harg8 arg9 harg9 arg10 harg10 arg11 harg11 arg12 harg12 arg13 harg13)
          fun _ => iprop(pt c arg1 f1 ∗ pt c arg2 f2 ∗ pt c arg3 f3 ∗ pt c arg4 f4 ∗ pt c arg5 f5 ∗ pt c arg6 f6 ∗ (∃ f, ⌜arg7.view.read (Elt F) f = T7⌝ ∗ pt c arg7 f) ∗ (∃ f, ⌜arg8.view.read (Elt F) f = T8⌝ ∗ pt c arg8 f) ∗ (∃ f, ⌜arg9.view.read (Elt F) f = T9⌝ ∗ pt c arg9 f) ∗ (∃ f, pt c arg10 f) ∗ (∃ f, pt c arg11 f) ∗ (∃ f, pt c arg12 f) ∗ (∃ f, pt c arg13 f)) := by
  subst e1 e2 e3 e4 e5 e6
  unfold cc0_nvfp4_main
  rw [k0_part33_eq_skeleton]; unfold k0_part33_skel
  iintro ⟨H1, H2, H3, H4, H5, H6, H7, H8, H9, H10, H11, H12, H13⟩
  sl_exec_parts
  sl_for (fun k _ => keptV c arg4 arg5 arg6 arg8 arg9 arg10 arg11 arg12 arg13 f4 f5 f6 T8 T9 T10 (9 * k)) $$ [H4 H5 H6 H8 H9 H10 H11 H12 H13]
  case region =>
    intro t1 _
    iintro HI
    sl_exec
    sl_for (fun k _ => keptV c arg4 arg5 arg6 arg8 arg9 arg10 arg11 arg12 arg13 f4 f5 f6 T8 T9 T10 (9 * t1.val + 3 * k)) $$ [HI]
    case region =>
      intro t2 _
      iintro HI
      sl_exec
      sl_for (fun k _ => keptV c arg4 arg5 arg6 arg8 arg9 arg10 arg11 arg12 arg13 f4 f5 f6 T8 T9 T10 (9 * t1.val + 3 * t2.val + k)) $$ [HI]
      case region =>
        intro t3 _
        iintro ⟨H4, H5, H6, ⟨%g8, %h8, H8⟩, ⟨%g9, %h9, H9⟩, ⟨%g10, %h10, H10⟩, ⟨%g11, H11⟩, ⟨%g12, H12⟩, ⟨%g13, H13⟩⟩
        have eS : kernelVal.sl.r_16 c arg1 f1 = wSign fun n => arg1.view.read (Elt F) f1 (ix1 n) := by
          dsimp only [kernelVal.sl.r, kernelVal.sl.r_1, kernelVal.sl.r_10, kernelVal.sl.r_11, kernelVal.sl.r_12, kernelVal.sl.r_13, kernelVal.sl.r_14, kernelVal.sl.r_15, kernelVal.sl.r_16, kernelVal.sl.r_17, kernelVal.sl.r_2, kernelVal.sl.r_3, kernelVal.sl.r_4, kernelVal.sl.r_5, kernelVal.sl.r_6, kernelVal.sl.r_7, kernelVal.sl.r_8, kernelVal.sl.r_9, kernelVal.sl.v0, kernelVal.sl.v1, kernelVal.sl.v102, kernelVal.sl.v103, kernelVal.sl.v107, kernelVal.sl.v108, kernelVal.sl.v109, kernelVal.sl.v112, kernelVal.sl.v113, kernelVal.sl.v114, kernelVal.sl.v117, kernelVal.sl.v118, kernelVal.sl.v119, kernelVal.sl.v122, kernelVal.sl.v123, kernelVal.sl.v124, kernelVal.sl.v127, kernelVal.sl.v128, kernelVal.sl.v129, kernelVal.sl.v16, kernelVal.sl.v17, kernelVal.sl.v2, kernelVal.sl.v21, kernelVal.sl.v24, kernelVal.sl.v25, kernelVal.sl.v33, kernelVal.sl.v35, kernelVal.sl.v37, kernelVal.sl.v4, kernelVal.sl.v40, kernelVal.sl.v41, kernelVal.sl.v44, kernelVal.sl.v47, kernelVal.sl.v49, kernelVal.sl.v53, kernelVal.sl.v56, kernelVal.sl.v57, kernelVal.sl.v59, kernelVal.sl.v6, kernelVal.sl.v60, kernelVal.sl.v61, kernelVal.sl.v64, kernelVal.sl.v68, kernelVal.sl.v72, kernelVal.sl.v73, kernelVal.sl.v77, kernelVal.sl.v78, kernelVal.sl.v79, kernelVal.sl.v82, kernelVal.sl.v83, kernelVal.sl.v84, kernelVal.sl.v87, kernelVal.sl.v88, kernelVal.sl.v89, kernelVal.sl.v9, kernelVal.sl.v92, kernelVal.sl.v93, kernelVal.sl.v94, kernelVal.sl.v97, kernelVal.sl.v98, kernelVal.sl.v99]
          dsimp only [wSign, wCol, k0_pay146, k0_pay147, k0_pay148, k0_pay149, k0_pay150, k0_pay151, k0_pay152, k0_pay153, k0_pay154, k0_pay156]
          simp only [smem16 _ _ 0 0 rfl, smem16 _ _ 1 1 rfl, smem16 _ _ 2 2 rfl, smem16 _ _ 3 3 rfl, smem16 _ _ 4 4 rfl, smem16 _ _ 5 5 rfl, smem16 _ _ 6 6 rfl, smem16 _ _ 7 7 rfl, smem16 _ _ 8 8 rfl, smem16 _ _ 9 9 rfl, smem16 _ _ 10 10 rfl, smem16 _ _ 11 11 rfl, smem16 _ _ 12 12 rfl, smem16 _ _ 13 13 rfl, smem16 _ _ 14 14 rfl, smem16 _ _ 15 15 rfl]
          rfl
        have eT : kernelVal.sl.r_17 c arg2 f2 = arg2.view.read (Elt F) f2 (ix1 1) := by
          dsimp only [kernelVal.sl.r, kernelVal.sl.r_1, kernelVal.sl.r_10, kernelVal.sl.r_11, kernelVal.sl.r_12, kernelVal.sl.r_13, kernelVal.sl.r_14, kernelVal.sl.r_15, kernelVal.sl.r_16, kernelVal.sl.r_17, kernelVal.sl.r_2, kernelVal.sl.r_3, kernelVal.sl.r_4, kernelVal.sl.r_5, kernelVal.sl.r_6, kernelVal.sl.r_7, kernelVal.sl.r_8, kernelVal.sl.r_9, kernelVal.sl.v0, kernelVal.sl.v1, kernelVal.sl.v102, kernelVal.sl.v103, kernelVal.sl.v107, kernelVal.sl.v108, kernelVal.sl.v109, kernelVal.sl.v112, kernelVal.sl.v113, kernelVal.sl.v114, kernelVal.sl.v117, kernelVal.sl.v118, kernelVal.sl.v119, kernelVal.sl.v122, kernelVal.sl.v123, kernelVal.sl.v124, kernelVal.sl.v127, kernelVal.sl.v128, kernelVal.sl.v129, kernelVal.sl.v16, kernelVal.sl.v17, kernelVal.sl.v2, kernelVal.sl.v21, kernelVal.sl.v24, kernelVal.sl.v25, kernelVal.sl.v33, kernelVal.sl.v35, kernelVal.sl.v37, kernelVal.sl.v4, kernelVal.sl.v40, kernelVal.sl.v41, kernelVal.sl.v44, kernelVal.sl.v47, kernelVal.sl.v49, kernelVal.sl.v53, kernelVal.sl.v56, kernelVal.sl.v57, kernelVal.sl.v59, kernelVal.sl.v6, kernelVal.sl.v60, kernelVal.sl.v61, kernelVal.sl.v64, kernelVal.sl.v68, kernelVal.sl.v72, kernelVal.sl.v73, kernelVal.sl.v77, kernelVal.sl.v78, kernelVal.sl.v79, kernelVal.sl.v82, kernelVal.sl.v83, kernelVal.sl.v84, kernelVal.sl.v87, kernelVal.sl.v88, kernelVal.sl.v89, kernelVal.sl.v9, kernelVal.sl.v92, kernelVal.sl.v93, kernelVal.sl.v94, kernelVal.sl.v97, kernelVal.sl.v98, kernelVal.sl.v99]
          exact smem2 _ _ 1 1 rfl _ _
        have hU := hT.unit t1 t2 t3
        rw [← eS, ← eT] at hU
        dsimp only [kernelVal.sl.prog.body_3]
        iapply (unitStep c i arg1 harg1 arg2 harg2 arg3 harg3 arg4 harg4 arg5 harg5 arg6 harg6 arg7 harg7 arg8 harg8 arg9 harg9 arg10 harg10 arg11 harg11 arg12 harg12 arg13 harg13 _ _ _ _ t1 _ t2 _ t3 f4 f5 f6 g8 g9 g10 g11 g12 g13 T8 T9 T10 hU h8 h9 h10)
        sl_close
      · iexact HI
      iintro %_ HI
      sl_exec
      sl_step
      iexact HI
    · iexact HI
    iintro %_ HI
    sl_exec
    sl_step
    iexact HI
  · isplitl [H4]; · iexact H4
    isplitl [H5]; · iexact H5
    isplitl [H6]; · iexact H6
    isplitl [H8]
    · iexists _; isplitr; swap; · iexact H8
      ipureintro; intro y hy; exact absurd hy (Nat.not_lt_zero _)
    isplitl [H9]
    · iexists _; isplitr; swap; · iexact H9
      ipureintro; intro y hy; exact absurd hy (Nat.not_lt_zero _)
    isplitl [H10]
    · iexists _; isplitr; swap; · iexact H10
      ipureintro; intro y hy; exact absurd hy (Nat.not_lt_zero _)
    sl_close
  iintro %_ ⟨H4, H5, H6, ⟨%g8, %h8, H8⟩, ⟨%g9, %h9, H9⟩, ⟨%g10, %h10, H10⟩, ⟨%g11, H11⟩, ⟨%g12, H12⟩, ⟨%g13, H13⟩⟩
  sl_exec_parts
  sl_step
  have e10 : arg10.view.read (Elt F) g10 = T10 := funext fun y => h10 y (by
    have a0 : (y 0).val < 1152 := (y 0).isLt
    have a1 : (y 1).val < 512 := (y 1).isLt
    change _ < 9 * 4
    unfold u10; omega)
  have e8 : arg8.view.read (Elt F) g8 = T8 := funext fun y => h8 y (by
    have a0 : (y 0).val < 3 := (y 0).isLt
    have a1 : (y 1).val < 192 := (y 1).isLt
    have a2 : (y 2).val < 512 := (y 2).isLt
    change _ < 9 * 4
    unfold u8; omega)
  have e9 : arg9.view.read (Elt F) g9 = T9 := funext fun y => h9 y (by
    have a0 : (y 0).val < 3 := (y 0).isLt
    have a1 : (y 1).val < 24 := (y 1).isLt
    have a2 : (y 2).val < 512 := (y 2).isLt
    change _ < 9 * 4
    unfold u9; omega)
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro
    have eT : arg10.view.readAt (Elt F) (Rect.unit (s := S1152x512) ![0, 0] S1152x512.size inb_S1152x512_S1152x512_0_0).toLoadRect g10 = T10 := by
      funext x
      rw [← e10, View.readAt_apply]
      congr 1
      funext a
      apply Fin.ext
      fin_cases a
      · change 0 + 1 * (x 0).val = (x 0).val; omega
      · change 0 + 1 * (x 1).val = (x 1).val; omega
    have d : ∀ (m : ℕ) (h : ∀ a : Fin S2880x1152.rank, ![m, 0] a + S320x1152.size a ≤ S2880x1152.size a) (x : S320x512.Idx) (y : S2880x512.Idx), (y 0).val = m + (x 0).val → (y 1).val = (x 1).val →
        k0_pay2 (k0_pay160 (arg2.view.read (Elt F) f2 (ix1 1)) (arg2.view.read (Elt F) f2 (ix1 0))) (arg3.view.readAt (Elt F) (Rect.unit (s := S2880x1152) ![m, 0] S320x1152.size h).toLoadRect f3) T10 x = T7 y := fun m h =>
      hT.dw m _ fun x z q0 q1 => by
        rw [View.readAt_apply]
        congr 1
        funext a
        apply Fin.ext
        fin_cases a
        · change m + 1 * (x 0).val = (z 0).val; omega
        · change 0 + 1 * (x 1).val = (z 1).val; omega
    have eQ : (k0_pay160 (arg2.view.read (Elt F) f2 (ix1 1)) (arg2.view.read (Elt F) f2 (ix1 0))) = kernelVal.sl.r_19 c arg2 f2 := by
      rw [← smem2 arg2.view f2 1 1 rfl inb_S2_S1_1 (by decide), ← smem2 arg2.view f2 0 0 rfl inb_S2_S1_0 (by decide)]
      rfl
    rw [← eT] at d
    have q := dw9 arg7.view f7 T7 (fun m => k0_pay2 (k0_pay160 (arg2.view.read (Elt F) f2 (ix1 1)) (arg2.view.read (Elt F) f2 (ix1 0))) (arg3.view.readAt (Elt F) (Rect.unit (s := S2880x1152) ![320 * m.val, 0] S320x1152.size (fun a => by fin_cases m <;> fin_cases a <;> decide)).toLoadRect f3) (arg10.view.readAt (Elt F) (Rect.unit (s := S1152x512) ![0, 0] S1152x512.size inb_S1152x512_S1152x512_0_0).toLoadRect g10))
      inb_S2880x512_S320x512_0_0 inb_S2880x512_S320x512_320_0 inb_S2880x512_S320x512_640_0 inb_S2880x512_S320x512_960_0 inb_S2880x512_S320x512_1280_0 inb_S2880x512_S320x512_1600_0 inb_S2880x512_S320x512_1920_0 inb_S2880x512_S320x512_2240_0 inb_S2880x512_S320x512_2560_0
      (fun m => d _ _)
    rw [eQ] at q
    dsimp only [kernelVal.sl.v236, kernelVal.sl.v230, kernelVal.sl.H7_3, kernelVal.sl.v234, kernelVal.sl.v229, kernelVal.sl.v228, k0_pay2, k0_pay161, k0_pay162, k0_pay163, k0_pay164, k0_pay165, k0_pay166, k0_pay167] at q ⊢
    exact q
  isplitl [H8]
  · iexists _; isplitr; swap; · iexact H8
    ipureintro; exact e8
  isplitl [H9]
  · iexists _; isplitr; swap; · iexact H9
    ipureintro; exact e9
  sl_close

end Cert.KernelIdeal.Hand
-- ==== Proof.UnitMat.lean ====
module

public import proofs.«01_k».proof.Proof.UnitIdeal
public import proofs.«01_k».proof.Proof.KernelVal
public import Idealize.ShloMosaic.Lib.BitcastFour
public import Idealize.ShloMosaic.Lib.BitcastPair
public import Idealize.ShloMosaic.Lib.ValueIdx
public import Idealize.ShloMosaic.Lib.IdealHost
public import Idealize.ShloMosaic.Lib.Pointwise

@[expose] public section

set_option maxRecDepth 65536

noncomputable section

/-! The rotation matrix of the kernel, element by element, and its product with a tile as a sum over a block. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The parity of the common bits of two indices below 16. -/
def parW (i j : ℕ) : BitVec 32 :=
  let p := BitVec.ofNat 32 (i &&& j)
  let p := p ^^^ (p >>> 2)
  (p ^^^ (p >>> 1)) &&& 1#32

/-- The block rotation: the sign pattern, the random sign of the column, a quarter. -/
def qf (sg : Fin 16 → EReal) (i j : Fin 16) : EReal :=
  ((((1#32 - 2#32 * parW i.val j.val).toInt : ℝ) : EReal) * sg j) * Ideal.ofBits .f32 0x3E800000#32

theorem wCol_apply (z : S128x128.Idx) : wCol z = BitVec.ofNat 32 ((z 1).val % 16) := by
  have key : ∀ c : Fin 128, wCol (ix2 (n0 := 128) 0 c) = BitVec.ofNat 32 (c.val % 16) := by decide +kernel
  exact key (z 1)

theorem rowMod_apply (z : S128x128.Idx) : k0_pay147 z = BitVec.ofNat 32 ((z 0).val % 8) := by
  have key : ∀ r : Fin 128, k0_pay147 (ix2 (n1 := 128) r 0) = BitVec.ofNat 32 (r.val % 8) := by decide +kernel
  exact key (z 0)

theorem rowDiv_apply (z : S128x128.Idx) : k0_pay146 z = BitVec.ofNat 32 ((z 0).val / 8) := by
  have key : ∀ r : Fin 128, k0_pay146 (ix2 (n1 := 128) r 0) = BitVec.ofNat 32 (r.val / 8) := by decide +kernel
  exact key (z 0)

theorem wMask_apply (z : S128x128.Idx) : wMask z = BitVec.ofBool (decide ((z 1).val / 16 = (z 0).val % 8)) := by
  have key : ∀ (k : Fin 8) (c : Fin 128), k0_pay155 (iota .tc S128x128 32 [1] iota_S128x128_d1_w32) (fun _ => BitVec.ofNat 32 k.val) (ix2 (n0 := 128) 0 c) = BitVec.ofBool (decide (c.val / 16 = k.val)) := by decide +kernel
  have e : wMask z = k0_pay155 (iota .tc S128x128 32 [1] iota_S128x128_d1_w32) (fun _ => k0_pay147 z) (ix2 (n0 := 128) 0 (z 1)) := rfl
  rw [e, rowMod_apply]
  exact key ⟨(z 0).val % 8, Nat.mod_lt _ (by decide)⟩ (z 1)

/-- The parity words of the rotation matrix. -/
def wPar : IVec S128x128 32 := k0_pay149 (iota .tc S128x128 32 [1] iota_S128x128_d1_w32) k0_pay146 16#32 (Scalar.cmpi .eq 16#32 0#32) 1#32

theorem wPar_apply (z : S128x128.Idx) : wPar z = parW ((z 0).val / 8) ((z 1).val % 16) := by
  have key : ∀ i j : Fin 16, k0_pay149 (fun _ => BitVec.ofNat 32 j.val) (fun _ => BitVec.ofNat 32 i.val) 16#32 (Scalar.cmpi .eq 16#32 0#32) 1#32 (ix2 (n0 := 128) (n1 := 128) 0 0) = parW i.val j.val := by decide +kernel
  have hk : ∀ j : Fin 16, k0_pay148 (fun _ => BitVec.ofNat 32 j.val) 16#32 (Scalar.cmpi .eq 16#32 0#32) 1#32 (ix2 (n0 := 128) (n1 := 128) 0 0) = BitVec.ofNat 32 j.val := by decide +kernel
  have h0 : (z 0).val / 8 < 16 := by have : (z 0).val < 128 := (z 0).isLt; omega
  have e := key ⟨(z 0).val / 8, h0⟩ ⟨(z 1).val % 16, Nat.mod_lt _ (by decide)⟩
  refine Eq.trans ?_ e
  have e1 := rowDiv_apply z
  have e2 := wCol_apply z
  have e3 := hk ⟨(z 1).val % 16, Nat.mod_lt _ (by decide)⟩
  unfold wPar k0_pay149
  dsimp only [andi, xori, shrsi, broadcast]
  rw [e1, e3]
  rw [show k0_pay148 (iota .tc S128x128 32 [1] iota_S128x128_d1_w32) 16#32 (Scalar.cmpi .eq 16#32 0#32) 1#32 z = _ from e2]

theorem wSign_apply (sg : Fin 16 → EReal) (z : S128x128.Idx) (j : Fin 16) (hj : j.val = (z 1).val % 16) :
    wSign (F := Ideal) sg z = (((1#32 - 2#32 * parW ((z 0).val / 8) j.val).toInt : ℝ) : EReal) * sg j := by
  have hp := wPar_apply z
  have hc := wCol_apply z
  have e : wSign (F := Ideal) sg z = (((1#32 - 2#32 * wPar z).toInt : ℝ) : EReal) *
      (Scalar.select (IntOp.cmpi .eq (wCol z) 15#32) (sg 15) (Scalar.select (IntOp.cmpi .eq (wCol z) 14#32) (sg 14) (Scalar.select (IntOp.cmpi .eq (wCol z) 13#32) (sg 13)
      (Scalar.select (IntOp.cmpi .eq (wCol z) 12#32) (sg 12) (Scalar.select (IntOp.cmpi .eq (wCol z) 11#32) (sg 11) (Scalar.select (IntOp.cmpi .eq (wCol z) 10#32) (sg 10)
      (Scalar.select (IntOp.cmpi .eq (wCol z) 9#32) (sg 9) (Scalar.select (IntOp.cmpi .eq (wCol z) 8#32) (sg 8) (Scalar.select (IntOp.cmpi .eq (wCol z) 7#32) (sg 7)
      (Scalar.select (IntOp.cmpi .eq (wCol z) 6#32) (sg 6) (Scalar.select (IntOp.cmpi .eq (wCol z) 5#32) (sg 5) (Scalar.select (IntOp.cmpi .eq (wCol z) 4#32) (sg 4)
      (Scalar.select (IntOp.cmpi .eq (wCol z) 3#32) (sg 3) (Scalar.select (IntOp.cmpi .eq (wCol z) 2#32) (sg 2) (Scalar.select (IntOp.cmpi .eq (wCol z) 1#32) (sg 1) (sg 0)))))))))))))))) := rfl
  rw [e, hp, hc, ← hj]
  congr 1
  fin_cases j <;> rfl

/-- The rotated tile, element `i` of block `k`, as a sum over the block. -/
theorem hV_apply (sg : Fin 16 → EReal) (v254 : Vec Ideal S1x128x128 .bf16) (z : S128x128.Idx) (i : Fin 16) (k : ℕ) (hz : (z 0).val = 8 * i.val + k) (hk : k < 8) (d : Fin 16 → EReal)
    (hd : ∀ (j : Fin 16) (y : S1x128x128.Idx), (y 1).val = 16 * k + j.val → (y 2).val = (z 1).val → d j = v254 y) :
    k0_pay3 (F := Ideal) (k0_pay158 wMask (wSign sg) k0_pay157) v254 z = ∑ j : Fin 16, qf sg i j * d j := by
  have e : k0_pay3 (F := Ideal) (k0_pay158 wMask (wSign sg) k0_pay157) v254 z
      = Ideal.ofBits .f32 0x00000000#32 + ∑ c : Fin 128, k0_pay158 (F := Ideal) wMask (wSign sg) k0_pay157 (ix2 (n0 := 128) (z 0) c) * v254 (ix3 0 c (z 1)) := by
    unfold k0_pay3
    pointwise
  rw [e, c_0, EReal.coe_zero, zero_add]
  have hA : ∀ c : Fin 128, k0_pay158 (F := Ideal) wMask (wSign sg) k0_pay157 (ix2 (n0 := 128) (z 0) c)
      = if c.val / 16 = k then qf sg i ⟨c.val % 16, Nat.mod_lt _ (by decide)⟩ else 0 := by
    intro c
    have e : k0_pay158 (F := Ideal) wMask (wSign sg) k0_pay157 (ix2 (n0 := 128) (z 0) c)
        = Scalar.select (wMask (ix2 (n0 := 128) (z 0) c)) (wSign (F := Ideal) sg (ix2 (n0 := 128) (z 0) c) * Ideal.ofBits .f32 0x3E800000#32) (Ideal.ofBits .f32 0x00000000#32) := rfl
    rw [e, wMask_apply, sel_ofBool, wSign_apply sg _ ⟨c.val % 16, Nat.mod_lt _ (by decide)⟩ rfl, c_0, EReal.coe_zero]
    have h1 : (z 0).val % 8 = k := by omega
    have h2 : (z 0).val / 8 = i.val := by omega
    change (if c.val / 16 = (z 0).val % 8 then ((((1#32 - 2#32 * parW ((z 0).val / 8) (c.val % 16)).toInt : ℝ) : EReal) * _) * _ else 0) = _
    rw [h1, h2]
    rfl
  simp only [hA, ite_mul, zero_mul]
  rw [← Finset.sum_filter]
  refine (Finset.sum_bij (fun (j : Fin 16) _ => (⟨16 * k + j.val, by have := j.isLt; omega⟩ : Fin 128)) ?_ ?_ ?_ ?_).symm
  · intro j _; simp only [Finset.mem_filter, Finset.mem_univ, _root_.true_and]; omega
  · intro a _ b _ h; simp only [Fin.mk.injEq] at h; exact Fin.ext (by omega)
  · intro c hc
    simp only [Finset.mem_filter, Finset.mem_univ, _root_.true_and] at hc
    exact ⟨⟨c.val % 16, Nat.mod_lt _ (by decide)⟩, Finset.mem_univ _, Fin.ext (by simp only; omega)⟩
  · intro j _
    rw [hd j (ix3 0 ⟨16 * k + j.val, by have := j.isLt; omega⟩ (z 1)) rfl rfl]
    congr 2
    exact Fin.ext (by simp only; omega)

end Cert.KernelIdeal.Hand
-- ==== Proof.UnitNib.lean ====
module

public import proofs.«01_k».proof.Proof.UnitMat
public import proofs.«01_k».proof.Proof.KernelVal
public import Idealize.ShloMosaic.Lib.BitcastFour
public import Idealize.ShloMosaic.Lib.BitcastPair
public import Idealize.ShloMosaic.Lib.ValueIdx
public import Idealize.ShloMosaic.Lib.IdealHost
public import Idealize.ShloMosaic.Lib.Pointwise

@[expose] public section

set_option maxRecDepth 65536

noncomputable section

/-! The packed words of a unit, code by code. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The code of element `i` of a block: from the block's largest magnitude `a`, its values `d` and its random bytes `b`. -/
def NIB (sg : Fin 16 → EReal) (ts a : EReal) (d : Fin 16 → EReal) (b : Fin 16 → BitVec 8) (i : Fin 16) : BitVec 4 :=
  codeR (wR (Sc a ts) ts (∑ j : Fin 16, qf sg i j * d j)) (b i)

theorem slice_apply {α : Type} (o : ℕ) (v : S128x128.Idx → α) (h) (x : S8x128.Idx) (y : S128x128.Idx) (h0 : (y 0).val = o + (x 0).val) (h1 : (y 1).val = (x 1).val) :
    extractStridedSlice S8x128 ![o, 0] v h x = v y := by
  unfold extractStridedSlice
  congr 1
  funext a
  apply Fin.ext
  fin_cases a
  · exact h0.symm
  · exact (Nat.zero_add _).trans h1.symm

section Words

variable (sg : Fin 16 → EReal) (ts : EReal) (v254 : Vec Ideal S1x128x128 .bf16) (v260 : Vec Ideal S8x128 .f32) (v301 : Vec Ideal S1x128x128 .i8)

theorem nib_word (hts : 0 < ts) (x : S8x128.Idx) (i : Fin 16) (d : Fin 16 → EReal) (b : Fin 16 → BitVec 8)
    (hd : ∀ (j : Fin 16) (y : S1x128x128.Idx), (y 1).val = 16 * (x 0).val + j.val → (y 2).val = (x 1).val → d j = v254 y)
    (rr : IVec S8x128 32) (hrr : rr x = rrS (b i)) (o : ℕ) (ho : o = 8 * i.val) (h) :
    nibV (extractStridedSlice S8x128 ![o, 0] (k0_pay3 (F := Ideal) (k0_pay158 wMask (wSign sg) k0_pay157) v254) h) (k0_pay9 (k0_pay6 (F := Ideal) ts v260)) rr x
      = nibS (∑ j : Fin 16, qf sg i j * d j) (rS (Sc (v260 x) ts) ts) (rrS (b i)) := by
  have hx : (x 0).val < 8 := (x 0).isLt
  rw [nibV_apply, pay9_apply, hrr]
  let y : S128x128.Idx := ix2 (n0 := 128) (n1 := 128) ⟨8 * i.val + (x 0).val, by have := i.isLt; omega⟩ (x 1)
  rw [slice_apply o _ h x y (by rw [ho]; rfl) rfl, hV_apply sg v254 y i (x 0).val rfl hx d hd]

theorem rr_word (x : S8x128.Idx) (q : Fin 4) (b : Fin 16 → BitVec 8)
    (hb : ∀ (j : Fin 16) (y : S1x128x128.Idx), (y 1).val = 16 * (x 0).val + j.val → (y 2).val = (x 1).val → b j = v301 y) (c : Fin 4 → Fin 16) (hc : ∀ j, (c j).val = 4 * q.val + j.val) :
    rrV0 (wq (F := Ideal) v301 q) x = rrS (b (c 0)) ∧ rrV1 (wq (F := Ideal) v301 q) x = rrS (b (c 1)) ∧ rrV2 (wq (F := Ideal) v301 q) x = rrS (b (c 2)) ∧ rrV3 (wq (F := Ideal) v301 q) x = rrS (b (c 3)) := by
  have hw := wq_apply v301 q x (fun j => b (c j)) (fun j y h1 h2 => hb (c j) y (by rw [h1, hc j]; omega) h2)
  obtain ⟨r0, r1, r2, r3⟩ := rr_bytes (b (c 0)) (b (c 1)) (b (c 2)) (b (c 3))
  rw [← hw] at r0 r1 r2 r3
  exact ⟨r0, r1, r2, r3⟩

variable (hts : 0 < ts) (x : S8x128.Idx) (d : Fin 16 → EReal) (b : Fin 16 → BitVec 8)
    (hd : ∀ (j : Fin 16) (y : S1x128x128.Idx), (y 1).val = 16 * (x 0).val + j.val → (y 2).val = (x 1).val → d j = v254 y)
    (hb : ∀ (j : Fin 16) (y : S1x128x128.Idx), (y 1).val = 16 * (x 0).val + j.val → (y 2).val = (x 1).val → b j = v301 y)

include hts hd hb in
theorem uLo_apply : uLo (F := Ideal) wMask (wSign sg) k0_pay157 ts v254 v260 v301 x
    = pk (NIB sg ts (v260 x) d b 0) (NIB sg ts (v260 x) d b 1) (NIB sg ts (v260 x) d b 2) (NIB sg ts (v260 x) d b 3) (NIB sg ts (v260 x) d b 4) (NIB sg ts (v260 x) d b 5) (NIB sg ts (v260 x) d b 6) (NIB sg ts (v260 x) d b 7) := by
  obtain ⟨p0, p1, p2, p3⟩ := rr_word v301 x 0 b hb ![0, 1, 2, 3] (by decide)
  obtain ⟨p4, p5, p6, p7⟩ := rr_word v301 x 1 b hb ![4, 5, 6, 7] (by decide)
  have n0 := nib_word sg ts v254 v260 hts x 0 d b hd _ p0 0 rfl slices_S128x128_o0_0_S8x128
  have n1 := nib_word sg ts v254 v260 hts x 1 d b hd _ p1 8 rfl slices_S128x128_o8_0_S8x128
  have n2 := nib_word sg ts v254 v260 hts x 2 d b hd _ p2 16 rfl slices_S128x128_o16_0_S8x128
  have n3 := nib_word sg ts v254 v260 hts x 3 d b hd _ p3 24 rfl slices_S128x128_o24_0_S8x128
  have n4 := nib_word sg ts v254 v260 hts x 4 d b hd _ p4 32 rfl slices_S128x128_o32_0_S8x128
  have n5 := nib_word sg ts v254 v260 hts x 5 d b hd _ p5 40 rfl slices_S128x128_o40_0_S8x128
  have n6 := nib_word sg ts v254 v260 hts x 6 d b hd _ p6 48 rfl slices_S128x128_o48_0_S8x128
  have n7 := nib_word sg ts v254 v260 hts x 7 d b hd _ p7 56 rfl slices_S128x128_o56_0_S8x128
  unfold uLo wordLo k0_pay125
  rw [shapeCast_self]
  unfold k0_pay124
  rw [nib0_eq, nib1_eq, nib2_eq, nib3_eq, nib4_eq, nib5_eq, nib6_eq, nib7_eq]
  have e := word_of (Sc (v260 x) ts) ts (Sc_nonneg _ _) hts
    (fun e => ∑ j : Fin 16, qf sg (Fin.castLE (by decide) e) j * d j) (fun e => b (Fin.castLE (by decide) e)) (fun e => nibS (∑ j : Fin 16, qf sg (Fin.castLE (by decide) e) j * d j) (rS (Sc (v260 x) ts) ts) (rrS (b (Fin.castLE (by decide) e)))) (fun _ => rfl) _ rfl
  refine Eq.trans ?_ e
  dsimp only [andi, addi, ori, shli, broadcast]
  rw [n0, n1, n2, n3, n4, n5, n6, n7]
  rfl

include hts hd hb in
theorem uHi_apply : uHi (F := Ideal) wMask (wSign sg) k0_pay157 ts v254 v260 v301 x
    = pk (NIB sg ts (v260 x) d b 8) (NIB sg ts (v260 x) d b 9) (NIB sg ts (v260 x) d b 10) (NIB sg ts (v260 x) d b 11) (NIB sg ts (v260 x) d b 12) (NIB sg ts (v260 x) d b 13) (NIB sg ts (v260 x) d b 14) (NIB sg ts (v260 x) d b 15) := by
  obtain ⟨p0, p1, p2, p3⟩ := rr_word v301 x 2 b hb ![8, 9, 10, 11] (by decide)
  obtain ⟨p4, p5, p6, p7⟩ := rr_word v301 x 3 b hb ![12, 13, 14, 15] (by decide)
  have n0 := nib_word sg ts v254 v260 hts x 8 d b hd _ p0 64 rfl slices_S128x128_o64_0_S8x128
  have n1 := nib_word sg ts v254 v260 hts x 9 d b hd _ p1 72 rfl slices_S128x128_o72_0_S8x128
  have n2 := nib_word sg ts v254 v260 hts x 10 d b hd _ p2 80 rfl slices_S128x128_o80_0_S8x128
  have n3 := nib_word sg ts v254 v260 hts x 11 d b hd _ p3 88 rfl slices_S128x128_o88_0_S8x128
  have n4 := nib_word sg ts v254 v260 hts x 12 d b hd _ p4 96 rfl slices_S128x128_o96_0_S8x128
  have n5 := nib_word sg ts v254 v260 hts x 13 d b hd _ p5 104 rfl slices_S128x128_o104_0_S8x128
  have n6 := nib_word sg ts v254 v260 hts x 14 d b hd _ p6 112 rfl slices_S128x128_o112_0_S8x128
  have n7 := nib_word sg ts v254 v260 hts x 15 d b hd _ p7 120 rfl slices_S128x128_o120_0_S8x128
  unfold uHi wordHi k0_pay127
  rw [shapeCast_self]
  unfold k0_pay126
  rw [nib8_eq, nib9_eq, nib10_eq, nib11_eq, nib12_eq, nib13_eq, nib14_eq, nib15_eq]
  have e := word_of (Sc (v260 x) ts) ts (Sc_nonneg _ _) hts
    (fun e => ∑ j : Fin 16, qf sg (Fin.natAdd 8 e) j * d j) (fun e => b (Fin.natAdd 8 e)) (fun e => nibS (∑ j : Fin 16, qf sg (Fin.natAdd 8 e) j * d j) (rS (Sc (v260 x) ts) ts) (rrS (b (Fin.natAdd 8 e)))) (fun _ => rfl) _ rfl
  refine Eq.trans ?_ e
  dsimp only [andi, addi, ori, shli, broadcast]
  rw [n0, n1, n2, n3, n4, n5, n6, n7]
  rfl

end Words

end Cert.KernelIdeal.Hand
-- ==== Proof.UnitDec.lean ====
module

public import proofs.«01_k».proof.Proof.UnitNib
public import proofs.«01_k».proof.Proof.KernelVal
public import Idealize.ShloMosaic.Lib.BitcastFour
public import Idealize.ShloMosaic.Lib.BitcastPair
public import Idealize.ShloMosaic.Lib.ValueIdx
public import Idealize.ShloMosaic.Lib.IdealHost
public import Idealize.ShloMosaic.Lib.Pointwise

@[expose] public section

set_option maxRecDepth 65536

noncomputable section

/-! The bytes of a unit and their decoding, code by code. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- What a code stands for, as the kernel reads it. -/
def decK (n : BitVec 32) : EReal :=
  let k := IntOp.andi n 7#32
  let m : EReal := Scalar.select (IntOp.cmpi .slt k 4#32) (Ideal.ofBits .f32 0x3F000000#32 * (((k.toInt : ℝ)) : EReal))
    (((Scalar.select (IntOp.cmpi .slt k 6#32) (k - 2#32) (2#32 * k - 8#32)).toInt : ℝ) : EReal)
  Scalar.select (IntOp.cmpi .sge n 8#32) (Ideal.ofBits .f32 0x00000000#32 - m) m

theorem pay135_apply (w : Vec Ideal S8x128 .i32) (z : S64x128.Idx) :
    k0_pay135 (F := Ideal) (k0_pay129 w) (k0_pay130 w) (k0_pay131 w) (k0_pay132 w) (k0_pay133 w) k0_pay134 z = decK (k0_pay129 (F := Ideal) w z) := rfl

theorem pay143_apply (w : Vec Ideal S8x128 .i32) (z : S64x128.Idx) :
    k0_pay143 (F := Ideal) (k0_pay141 w) (k0_pay142 w) z = decK (k0_pay129 (F := Ideal) w z) := rfl

theorem interleave_apply (A B : IVec S32x128 32) (z : S64x128.Idx) (y : S32x128.Idx) (h0 : (y 0).val = (z 0).val / 2) (h1 : (y 1).val = (z 1).val) :
    shapeCast S64x128 (concatenate S32x2x128 1 [⟨S32x1x128, shapeCast S32x1x128 A shapeCasts_S32x128_S32x1x128⟩, ⟨S32x1x128, shapeCast S32x1x128 B shapeCasts_S32x128_S32x1x128⟩] concatenates_S32x1x128_S32x1x128_S32x2x128_d1) shapeCasts_S32x2x128_S64x128 z
      = if (z 0).val % 2 = 0 then A y else B y := by
  have hz : (z 0).val < 64 := (z 0).isLt
  pointwise
  have ey : y = ix2 (n0 := 32) (n1 := 128) ⟨(z 0).val / 2, by omega⟩ (z 1) := by
    funext a; apply Fin.ext; fin_cases a
    · exact h0
    · exact h1
  rw [ey]
  by_cases hp : (z 0).val % 2 = 0
  · rw [if_pos hp, dif_pos (by omega)]
  · rw [if_neg hp, dif_neg (by omega)]

theorem cat8_apply (P : Fin 8 → FVec Ideal S16x128 .bf16) (x : S128x128.Idx) (k : Fin 8) (y : S16x128.Idx) (h0 : (x 0).val = 16 * k.val + (y 0).val) (h1 : (y 1).val = (x 1).val) (hc) :
    (concatenate S128x128 0 [⟨S16x128, P 0⟩, ⟨S16x128, P 1⟩, ⟨S16x128, P 2⟩, ⟨S16x128, P 3⟩, ⟨S16x128, P 4⟩, ⟨S16x128, P 5⟩, ⟨S16x128, P 6⟩, ⟨S16x128, P 7⟩] hc : FVec Ideal S128x128 .bf16) x = P k y := by
  have hy : (y 0).val < 16 := (y 0).isLt
  refine concatenate_ofFn_apply (t := S128x128) (s₁ := S16x128) 0 P hc rfl 16 rfl x k (by omega) y (by change (y 0).val = (x 0).val % 16; omega) ?_
  intro c hne
  fin_cases c
  · exact absurd rfl hne
  · exact h1

theorem bcRow (s : FVec Ideal S1x128 .f32) (hb) (y : S16x128.Idx) : broadcastTo S16x128 s hb y = s (ix2 0 (y 1)) := by
  pointwise

theorem slice16 {α : Type} (o : ℕ) (v : S64x128.Idx → α) (h) (x : S16x128.Idx) (y : S64x128.Idx) (h0 : (y 0).val = o + (x 0).val) (h1 : (y 1).val = (x 1).val) :
    extractStridedSlice S16x128 ![o, 0] v h x = v y := by
  unfold extractStridedSlice
  congr 1
  funext a
  apply Fin.ext
  fin_cases a
  · exact h0.symm
  · exact (Nat.zero_add _).trans h1.symm

/-- Sixteen decoded rows times their scale. -/
def decRow (D : FVec Ideal S64x128 .bf16) (o : ℕ) (h : S64x128.Slices ![o, 0] S16x128) (s : Vec Ideal S1x128 .f32) : FVec Ideal S16x128 .bf16 :=
  mulf (extractStridedSlice S16x128 ![o, 0] D h) (truncf .bf16 (broadcastTo S16x128 (shapeCast S1x128 s shapeCasts_S1x128_S1x128) broadcasts_S1x128_S16x128) bitsLt_bf16_f32)

theorem decRow_apply (D : FVec Ideal S64x128 .bf16) (o : ℕ) (h) (s : Vec Ideal S1x128 .f32) (y : S16x128.Idx) (z : S64x128.Idx) (h0 : (z 0).val = o + (y 0).val) (h1 : (z 1).val = (y 1).val) :
    decRow D o h s y = D z * s (ix2 (n0 := 1) 0 (y 1)) := by
  change extractStridedSlice S16x128 ![o, 0] D h y * broadcastTo S16x128 (shapeCast S1x128 s shapeCasts_S1x128_S1x128) broadcasts_S1x128_S16x128 y = _
  rw [slice16 o D h y z h0 h1, bcRow, shapeCast_self]

theorem e136 (a b : IVec S64x128 32) (c : IVec S64x128 1) (d : FVec Ideal S64x128 .f32) (e : IVec S64x128 1) (f : IVec S64x128 32) (s : Vec Ideal S1x128 .f32) :
    k0_pay136 (F := Ideal) a b c d e f s = decRow (k0_pay135 a b c d e f) 0 slices_S64x128_o0_0_S16x128 s := by
  rfl

theorem e137 (a b : IVec S64x128 32) (c : IVec S64x128 1) (d : FVec Ideal S64x128 .f32) (e : IVec S64x128 1) (f : IVec S64x128 32) (s : Vec Ideal S1x128 .f32) :
    k0_pay137 (F := Ideal) a b c d e f s = decRow (k0_pay135 a b c d e f) 16 slices_S64x128_o16_0_S16x128 s := by
  rfl

theorem e138 (a b : IVec S64x128 32) (c : IVec S64x128 1) (d : FVec Ideal S64x128 .f32) (e : IVec S64x128 1) (f : IVec S64x128 32) (s : Vec Ideal S1x128 .f32) :
    k0_pay138 (F := Ideal) a b c d e f s = decRow (k0_pay135 a b c d e f) 32 slices_S64x128_o32_0_S16x128 s := by
  rfl

theorem e139 (a b : IVec S64x128 32) (c : IVec S64x128 1) (d : FVec Ideal S64x128 .f32) (e : IVec S64x128 1) (f : IVec S64x128 32) (s : Vec Ideal S1x128 .f32) :
    k0_pay139 (F := Ideal) a b c d e f s = decRow (k0_pay135 a b c d e f) 48 slices_S64x128_o48_0_S16x128 s := by
  rfl

theorem e144 (a : IVec S64x128 32) (d : FVec Ideal S64x128 .f32) (s : Vec Ideal S1x128 .f32) :
    k0_pay144 (F := Ideal) a d s = decRow (k0_pay143 a d) 0 slices_S64x128_o0_0_S16x128 s := by
  rfl

theorem e145 (a : IVec S64x128 32) (d : FVec Ideal S64x128 .f32) (s : Vec Ideal S1x128 .f32) :
    k0_pay145 (F := Ideal) a d s = decRow (k0_pay143 a d) 16 slices_S64x128_o16_0_S16x128 s := by
  rfl

/-- The decoded tile, element by element. -/
theorem tileDec_apply (wA wB : Vec Ideal S8x128 .i32) (s : Fin 8 → Vec Ideal S1x128 .f32) (x : S128x128.Idx) (k : Fin 8) (hk : k.val = (x 0).val / 16) (z : S64x128.Idx) (hz : (z 0).val = (x 0).val % 64) (hz1 : (z 1).val = (x 1).val) :
    tileDec (F := Ideal) wA wB (s 0) (s 1) (s 2) (s 3) (s 4) (s 5) (s 6) (s 7) x
      = decK (k0_pay129 (F := Ideal) (if (x 0).val < 64 then wA else wB) z) * s k (ix2 (n0 := 1) 0 (x 1)) := by
  have hx : (x 0).val < 128 := (x 0).isLt
  let y : S16x128.Idx := ix2 (n0 := 16) (n1 := 128) ⟨(x 0).val % 16, by omega⟩ (x 1)
  have hy : (y 0).val = (x 0).val % 16 := rfl
  let P : Fin 8 → FVec Ideal S16x128 .bf16 := ![
    decRow (k0_pay135 (k0_pay129 wA) (k0_pay130 wA) (k0_pay131 wA) (k0_pay132 wA) (k0_pay133 wA) k0_pay134) 0 slices_S64x128_o0_0_S16x128 (s 0),
    decRow (k0_pay135 (k0_pay129 wA) (k0_pay130 wA) (k0_pay131 wA) (k0_pay132 wA) (k0_pay133 wA) k0_pay134) 16 slices_S64x128_o16_0_S16x128 (s 1),
    decRow (k0_pay135 (k0_pay129 wA) (k0_pay130 wA) (k0_pay131 wA) (k0_pay132 wA) (k0_pay133 wA) k0_pay134) 32 slices_S64x128_o32_0_S16x128 (s 2),
    decRow (k0_pay135 (k0_pay129 wA) (k0_pay130 wA) (k0_pay131 wA) (k0_pay132 wA) (k0_pay133 wA) k0_pay134) 48 slices_S64x128_o48_0_S16x128 (s 3),
    decRow (k0_pay143 (k0_pay141 wB) (k0_pay142 wB)) 0 slices_S64x128_o0_0_S16x128 (s 4), decRow (k0_pay143 (k0_pay141 wB) (k0_pay142 wB)) 16 slices_S64x128_o16_0_S16x128 (s 5),
    decRow (k0_pay143 (k0_pay141 wB) (k0_pay142 wB)) 32 slices_S64x128_o32_0_S16x128 (s 6), decRow (k0_pay143 (k0_pay141 wB) (k0_pay142 wB)) 48 slices_S64x128_o48_0_S16x128 (s 7)]
  have e : tileDec (F := Ideal) wA wB (s 0) (s 1) (s 2) (s 3) (s 4) (s 5) (s 6) (s 7)
      = (concatenate S128x128 0 [⟨S16x128, P 0⟩, ⟨S16x128, P 1⟩, ⟨S16x128, P 2⟩, ⟨S16x128, P 3⟩, ⟨S16x128, P 4⟩, ⟨S16x128, P 5⟩, ⟨S16x128, P 6⟩, ⟨S16x128, P 7⟩] concatenates_S16x128_S16x128_S16x128_S16x128_S16x128_S16x128_S16x128_S16x128_S128x128_d0 : FVec Ideal S128x128 .bf16) := by
    unfold tileDec k0_pay159
    rw [e136, e137, e138, e139, e144, e145]
    dsimp only
    simp only [shapeCast_self]
    rfl
  rw [e, cat8_apply P x k y (by rw [hk, hy]; omega) rfl]
  have q : ∀ w o h s', (z 0).val = o + (y 0).val → decRow (k0_pay135 (k0_pay129 w) (k0_pay130 w) (k0_pay131 w) (k0_pay132 w) (k0_pay133 w) k0_pay134) o h s' y = decK (k0_pay129 (F := Ideal) w z) * s' (ix2 (n0 := 1) 0 (x 1)) := by
    intro w o h s' ho
    rw [decRow_apply _ o h s' y z ho hz1, pay135_apply]
    rfl
  have q' : ∀ w o h s', (z 0).val = o + (y 0).val → decRow (k0_pay143 (k0_pay141 w) (k0_pay142 w)) o h s' y = decK (k0_pay129 (F := Ideal) w z) * s' (ix2 (n0 := 1) 0 (x 1)) := by
    intro w o h s' ho
    rw [decRow_apply _ o h s' y z ho hz1, pay143_apply]
    rfl
  by_cases hlt : (x 0).val < 64
  · rw [if_pos hlt]
    rcases (by omega : k.val = 0 ∨ k.val = 1 ∨ k.val = 2 ∨ k.val = 3) with h | h | h | h
    · obtain rfl : k = 0 := Fin.ext h
      exact q _ _ _ _ (by rw [hz, hy]; omega)
    · obtain rfl : k = 1 := Fin.ext h
      exact q _ _ _ _ (by rw [hz, hy]; omega)
    · obtain rfl : k = 2 := Fin.ext h
      exact q _ _ _ _ (by rw [hz, hy]; omega)
    · obtain rfl : k = 3 := Fin.ext h
      exact q _ _ _ _ (by rw [hz, hy]; omega)
  · rw [if_neg hlt]
    rcases (by omega : k.val = 4 ∨ k.val = 5 ∨ k.val = 6 ∨ k.val = 7) with h | h | h | h
    · obtain rfl : k = 4 := Fin.ext h
      exact q' _ _ _ _ (by rw [hz, hy]; omega)
    · obtain rfl : k = 5 := Fin.ext h
      exact q' _ _ _ _ (by rw [hz, hy]; omega)
    · obtain rfl : k = 6 := Fin.ext h
      exact q' _ _ _ _ (by rw [hz, hy]; omega)
    · obtain rfl : k = 7 := Fin.ext h
      exact q' _ _ _ _ (by rw [hz, hy]; omega)

section Bytes

variable (sg : Fin 16 → EReal) (ts : EReal) (v254 : Vec Ideal S1x128x128 .bf16) (v260 : Vec Ideal S8x128 .f32) (v301 : Vec Ideal S1x128x128 .i8)
variable (hts : 0 < ts) (k l : ℕ) (a : EReal) (d : Fin 16 → EReal) (b : Fin 16 → BitVec 8)
    (ha : ∀ x : S8x128.Idx, (x 0).val = k → (x 1).val = l → a = v260 x)
    (hd : ∀ (j : Fin 16) (y : S1x128x128.Idx), (y 1).val = 16 * k + j.val → (y 2).val = l → d j = v254 y)
    (hb : ∀ (j : Fin 16) (y : S1x128x128.Idx), (y 1).val = 16 * k + j.val → (y 2).val = l → b j = v301 y)

include hts ha hd hb in
theorem row_byte (half : Fin 2) (y : S32x128.Idx) (hk : k = 4 * half.val + (y 0).val / 8) (hl : (y 1).val = l) (i0 i1 : Fin 16) (h0 : i0.val = 2 * ((y 0).val % 8)) (h1 : i1.val = i0.val + 1) (hbc) :
    bitcast S32x128 8 (rowsOf (F := Ideal) (uLo wMask (wSign sg) k0_pay157 ts v254 v260 v301) (uHi wMask (wSign sg) k0_pay157 ts v254 v260 v301) half) hbc y
      = NIB sg ts a d b i1 ++ NIB sg ts a d b i0 := by
  have hy : (y 0).val < 32 := (y 0).isLt
  have hh := half.isLt
  let p : S8x128.Idx := ix2 (n0 := 8) (n1 := 128) ⟨(y 0).val / 4, by omega⟩ (y 1)
  let x : S8x128.Idx := ix2 (n0 := 8) (n1 := 128) ⟨4 * half.val + (y 0).val / 4 / 2, by omega⟩ (y 1)
  have hx : (x 0).val = k := by change 4 * half.val + (y 0).val / 4 / 2 = k; omega
  have e := ha x hx hl
  rw [bc8 _ hbc y p rfl rfl]
  have er : rowsOf (F := Ideal) (uLo wMask (wSign sg) k0_pay157 ts v254 v260 v301) (uHi wMask (wSign sg) k0_pay157 ts v254 v260 v301) half p
      = (if (y 0).val / 4 % 2 = 0 then uLo wMask (wSign sg) k0_pay157 ts v254 v260 v301 else uHi wMask (wSign sg) k0_pay157 ts v254 v260 v301) x := rfl
  rw [er]
  have elo := uLo_apply sg ts v254 v260 v301 hts x d b (fun j w q1 q2 => hd j w (by rw [q1, hx]) (q2.trans hl)) (fun j w q1 q2 => hb j w (by rw [q1, hx]) (q2.trans hl))
  have ehi := uHi_apply sg ts v254 v260 v301 hts x d b (fun j w q1 q2 => hd j w (by rw [q1, hx]) (q2.trans hl)) (fun j w q1 q2 => hb j w (by rw [q1, hx]) (q2.trans hl))
  rw [← e] at elo ehi
  by_cases hp : (y 0).val / 4 % 2 = 0
  · rw [if_pos hp, elo]
    obtain ⟨b0, b1, b2, b3⟩ := pk_byte (NIB sg ts a d b 0) (NIB sg ts a d b 1) (NIB sg ts a d b 2) (NIB sg ts a d b 3) (NIB sg ts a d b 4) (NIB sg ts a d b 5) (NIB sg ts a d b 6) (NIB sg ts a d b 7)
    rcases (by omega : (y 0).val % 4 = 0 ∨ (y 0).val % 4 = 1 ∨ (y 0).val % 4 = 2 ∨ (y 0).val % 4 = 3) with h | h | h | h
    · obtain rfl : i0 = 0 := Fin.ext (by change _ = 0; omega)
      obtain rfl : i1 = 1 := Fin.ext h1
      rw [h]; exact b0
    · obtain rfl : i0 = 2 := Fin.ext (by change _ = 2; omega)
      obtain rfl : i1 = 3 := Fin.ext h1
      rw [h]; exact b1
    · obtain rfl : i0 = 4 := Fin.ext (by change _ = 4; omega)
      obtain rfl : i1 = 5 := Fin.ext h1
      rw [h]; exact b2
    · obtain rfl : i0 = 6 := Fin.ext (by change _ = 6; omega)
      obtain rfl : i1 = 7 := Fin.ext h1
      rw [h]; exact b3
  · rw [if_neg hp, ehi]
    obtain ⟨b0, b1, b2, b3⟩ := pk_byte (NIB sg ts a d b 8) (NIB sg ts a d b 9) (NIB sg ts a d b 10) (NIB sg ts a d b 11) (NIB sg ts a d b 12) (NIB sg ts a d b 13) (NIB sg ts a d b 14) (NIB sg ts a d b 15)
    rcases (by omega : (y 0).val % 4 = 0 ∨ (y 0).val % 4 = 1 ∨ (y 0).val % 4 = 2 ∨ (y 0).val % 4 = 3) with h | h | h | h
    · obtain rfl : i0 = 8 := Fin.ext (by change _ = 8; omega)
      obtain rfl : i1 = 9 := Fin.ext h1
      rw [h]; exact b0
    · obtain rfl : i0 = 10 := Fin.ext (by change _ = 10; omega)
      obtain rfl : i1 = 11 := Fin.ext h1
      rw [h]; exact b1
    · obtain rfl : i0 = 12 := Fin.ext (by change _ = 12; omega)
      obtain rfl : i1 = 13 := Fin.ext h1
      rw [h]; exact b2
    · obtain rfl : i0 = 14 := Fin.ext (by change _ = 14; omega)
      obtain rfl : i1 = 15 := Fin.ext h1
      rw [h]; exact b3

include hts ha hd hb in
/-- Element `i` of a block, decoded. -/
theorem nib64 (half : Fin 2) (z : S64x128.Idx) (hk : k = 4 * half.val + (z 0).val / 16) (hl : (z 1).val = l) (i : Fin 16) (hi : i.val = (z 0).val % 16) :
    k0_pay129 (F := Ideal) (rowsOf (F := Ideal) (uLo wMask (wSign sg) k0_pay157 ts v254 v260 v301) (uHi wMask (wSign sg) k0_pay157 ts v254 v260 v301) half) z
      = (NIB sg ts a d b i).setWidth 32 := by
  have hz : (z 0).val < 64 := (z 0).isLt
  let y : S32x128.Idx := ix2 (n0 := 32) (n1 := 128) ⟨(z 0).val / 2, by omega⟩ (z 1)
  have hy0 : (y 0).val = (z 0).val / 2 := rfl
  unfold k0_pay129
  rw [interleave_apply _ _ z y rfl rfl]
  have eb := row_byte sg ts v254 v260 v301 hts k l a d b ha hd hb half y (by rw [hk, hy0]; omega) hl ⟨2 * ((y 0).val % 8), by omega⟩ ⟨2 * ((y 0).val % 8) + 1, by omega⟩ rfl rfl bitcasts_S8x128_w32_S32x128_w8
  by_cases hp : (z 0).val % 2 = 0
  · rw [if_pos hp]
    dsimp only [andi, extui, broadcast]
    rw [eb]
    have ei : i = ⟨2 * ((y 0).val % 8), by omega⟩ := Fin.ext (by simp only [hy0]; omega)
    rw [← ei]
    exact (byte_parts _ _).1
  · rw [if_neg hp]
    dsimp only [shrsi, extui, broadcast]
    rw [eb]
    have ei : i = ⟨2 * ((y 0).val % 8) + 1, by omega⟩ := Fin.ext (by simp only [hy0]; omega)
    rw [← ei]
    exact (byte_parts _ _).2.1

end Bytes

end Cert.KernelIdeal.Hand
-- ==== Proof.UnitTgt.lean ====
module

public import proofs.«01_k».proof.Proof.UnitDec
public import proofs.«01_k».proof.Proof.KernelVal
public import Idealize.ShloMosaic.Lib.BitcastFour
public import Idealize.ShloMosaic.Lib.BitcastPair
public import Idealize.ShloMosaic.Lib.ValueIdx
public import Idealize.ShloMosaic.Lib.IdealHost
public import Idealize.ShloMosaic.Lib.Pointwise

@[expose] public section

set_option maxRecDepth 65536

noncomputable section

/-! What the kernel leaves in its arrays, column by column. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- One column of the three arrays that quantisation reads: a block's largest magnitude, its values, its random bytes. -/
structure Col where
  a : Fin 72 → EReal
  d : Fin 72 → Fin 16 → EReal
  b : Fin 72 → Fin 16 → BitVec 8

/-- The code, the scale and the dequantised value of element `i` of block `n` of a column. -/
def Col.nib (sg : Fin 16 → EReal) (ts : EReal) (c : Col) (n : Fin 72) (i : Fin 16) : BitVec 4 := NIB sg ts (c.a n) (c.d n) (c.b n) i
@[inherit_doc Col.nib] def Col.sc (ts : EReal) (c : Col) (n : Fin 72) : EReal := Sc (c.a n) ts
@[inherit_doc Col.nib] def Col.val (sg : Fin 16 → EReal) (ts : EReal) (c : Col) (n : Fin 72) (i : Fin 16) : EReal := decK ((c.nib sg ts n i).setWidth 32) * c.sc ts n

/-- Column `L` of a grid point's three arrays. -/
def colOf (X4 : S3x384x512.Idx → EReal) (X5 : S3x384x512.Idx → BitVec 8) (X6 : S72x512.Idx → EReal) (L : Fin 512) : Col where
  a n := X6 (ix2 n L)
  d n j := X4 (ix3 (n0 := 3) (n1 := 384) ⟨n.val / 24, by omega⟩ ⟨16 * (n.val % 24) + j.val, by omega⟩ L)
  b n j := X5 (ix3 (n0 := 3) (n1 := 384) ⟨n.val / 24, by omega⟩ ⟨16 * (n.val % 24) + j.val, by omega⟩ L)

section Targets

variable (sg : Fin 16 → EReal) (ts : EReal) (X4 : S3x384x512.Idx → EReal) (X5 : S3x384x512.Idx → BitVec 8) (X6 : S72x512.Idx → EReal)

/-- What the four arrays hold, column by column. -/
def G8 (y : S3x192x512.Idx) : BitVec 8 :=
  (colOf X4 X5 X6 (y 2)).nib sg ts ⟨24 * (y 0).val + (y 1).val / 8, by have h0 : (y 0).val < 3 := (y 0).isLt; have h1 : (y 1).val < 192 := (y 1).isLt; omega⟩ ⟨2 * ((y 1).val % 8) + 1, by omega⟩
    ++ (colOf X4 X5 X6 (y 2)).nib sg ts ⟨24 * (y 0).val + (y 1).val / 8, by have h0 : (y 0).val < 3 := (y 0).isLt; have h1 : (y 1).val < 192 := (y 1).isLt; omega⟩ ⟨2 * ((y 1).val % 8), by omega⟩
@[inherit_doc G8] def G9 (y : S3x24x512.Idx) : EReal :=
  (colOf X4 X5 X6 (y 2)).sc ts ⟨24 * (y 0).val + (y 1).val, by have h0 : (y 0).val < 3 := (y 0).isLt; have h1 : (y 1).val < 24 := (y 1).isLt; omega⟩
@[inherit_doc G8] def G10 (y : S1152x512.Idx) : EReal :=
  (colOf X4 X5 X6 (y 1)).val sg ts ⟨(y 0).val / 16, by have h0 : (y 0).val < 1152 := (y 0).isLt; omega⟩ ⟨(y 0).val % 16, by omega⟩

theorem unitT_of (hts : 0 < ts) (t1 : Fin k0_t1_loop.trips) (t2 : Fin k0_t2_loop.trips) (t3 : Fin k0_t3_loop.trips)
    (v254 : Vec Ideal S1x128x128 .bf16) (v260 : Vec Ideal S8x128 .f32) (v301 : Vec Ideal S1x128x128 .i8)
    (h4 : ∀ (x : S1x128x128.Idx) (y : S3x384x512.Idx), (y 0).val = t2.val → (y 1).val = 128 * t3.val + (x 1).val → (y 2).val = 128 * t1.val + (x 2).val → v254 x = X4 y)
    (h5 : ∀ (x : S1x128x128.Idx) (y : S3x384x512.Idx), (y 0).val = t2.val → (y 1).val = 128 * t3.val + (x 1).val → (y 2).val = 128 * t1.val + (x 2).val → v301 x = X5 y)
    (h6 : ∀ (x : S8x128.Idx) (y : S72x512.Idx), (y 0).val = 24 * t2.val + 8 * t3.val + (x 0).val → (y 1).val = 128 * t1.val + (x 1).val → v260 x = X6 y) :
    UnitT (F := Ideal) wMask (wSign sg) k0_pay157 ts t1 t2 t3 v254 v260 v301 (G8 sg ts X4 X5 X6) (G9 ts X4 X5 X6) (G10 sg ts X4 X5 X6) := by
  have c1 : t1.val < 4 := t1.isLt
  have c2 : t2.val < 3 := t2.isLt
  have c3 : t3.val < 3 := t3.isLt
  have hcol : ∀ (k : ℕ) (hk : k < 8) (l : ℕ) (hl : l < 128) (n : Fin 72) (hn : n.val = 24 * t2.val + 8 * t3.val + k) (L : Fin 512) (hL : L.val = 128 * t1.val + l),
      (∀ x : S8x128.Idx, (x 0).val = k → (x 1).val = l → (colOf X4 X5 X6 L).a n = v260 x)
      ∧ (∀ (j : Fin 16) (y : S1x128x128.Idx), (y 1).val = 16 * k + j.val → (y 2).val = l → (colOf X4 X5 X6 L).d n j = v254 y)
      ∧ (∀ (j : Fin 16) (y : S1x128x128.Idx), (y 1).val = 16 * k + j.val → (y 2).val = l → (colOf X4 X5 X6 L).b n j = v301 y) := by
    intro k hk l hl n hn L hL
    refine ⟨fun x q0 q1 => (h6 x _ ?_ ?_).symm, fun j y q1 q2 => (h4 y _ ?_ ?_ ?_).symm, fun j y q1 q2 => (h5 y _ ?_ ?_ ?_).symm⟩
    · change n.val = _; omega
    · change L.val = _; omega
    · change n.val / 24 = _; omega
    · change 16 * (n.val % 24) + j.val = _; omega
    · change L.val = _; omega
    · change n.val / 24 = _; omega
    · change 16 * (n.val % 24) + j.val = _; omega
    · change L.val = _; omega
  constructor
  · intro half x y e0 e1 e2
    have hx1 : (x 1).val < 32 := (x 1).isLt
    have hx2 : (x 2).val < 128 := (x 2).isLt
    have hh := half.isLt
    obtain ⟨ga, gd, gb⟩ := hcol (4 * half.val + (x 1).val / 8) (by omega) (x 2).val hx2 ⟨24 * (y 0).val + (y 1).val / 8, by have h0 : (y 0).val < 3 := (y 0).isLt; have h1 : (y 1).val < 192 := (y 1).isLt; omega⟩ (by simp only; omega) (y 2) e2
    have r := row_byte sg ts v254 v260 v301 hts _ _ _ _ _ ga gd gb half (ix2 (n0 := 32) (n1 := 128) (x 1) (x 2)) rfl rfl ⟨2 * ((y 1).val % 8), by omega⟩ ⟨2 * ((y 1).val % 8) + 1, by omega⟩ (by change 2 * ((y 1).val % 8) = 2 * ((x 1).val % 8); omega) rfl bitcasts_S8x128_w32_S32x128_w8
    refine Eq.trans ?_ r
    unfold k0_pay128
    generalize bitcast S32x128 8 _ bitcasts_S8x128_w32_S32x128_w8 = u
    pointwise
  · intro x y e0 e1 e2
    have hx1 : (x 1).val < 8 := (x 1).isLt
    have hx2 : (x 2).val < 128 := (x 2).isLt
    obtain ⟨ga, -, -⟩ := hcol (x 1).val hx1 (x 2).val hx2 ⟨24 * (y 0).val + (y 1).val, by have h0 : (y 0).val < 3 := (y 0).isLt; have h1 : (y 1).val < 24 := (y 1).isLt; omega⟩ (by simp only; omega) (y 2) e2
    have e : k0_pay7 (F := Ideal) (k0_pay4 ts v260) x = k0_pay4 (F := Ideal) ts v260 (ix2 (n0 := 8) (n1 := 128) (x 1) (x 2)) := by
      unfold k0_pay7
      generalize k0_pay4 (F := Ideal) ts v260 = u
      pointwise
    rw [e, pay4_apply]
    unfold G9 Col.sc
    rw [ga (ix2 (n0 := 8) (n1 := 128) (x 1) (x 2)) rfl rfl]
  · intro x y e0 e1
    have hx0 : (x 0).val < 128 := (x 0).isLt
    have hx1 : (x 1).val < 128 := (x 1).isLt
    obtain ⟨ga, gd, gb⟩ := hcol ((x 0).val / 16) (by omega) (x 1).val hx1 ⟨(y 0).val / 16, by have h0 : (y 0).val < 1152 := (y 0).isLt; omega⟩ (by simp only; omega) (y 1) e1
    let z : S64x128.Idx := ix2 (n0 := 64) (n1 := 128) ⟨(x 0).val % 64, by omega⟩ (x 1)
    rw [tileDec_apply (wA := _) (wB := _) (s := sRow ts v260) (x := x) (k := ⟨(x 0).val / 16, by omega⟩) (hk := rfl) (z := z) (hz := rfl) (hz1 := rfl)]
    let half : Fin 2 := ⟨(x 0).val / 64, by omega⟩
    have hw : (if (x 0).val < 64 then rowsOf (F := Ideal) (uLo wMask (wSign sg) k0_pay157 ts v254 v260 v301) (uHi wMask (wSign sg) k0_pay157 ts v254 v260 v301) 0 else rowsOf (F := Ideal) (uLo wMask (wSign sg) k0_pay157 ts v254 v260 v301) (uHi wMask (wSign sg) k0_pay157 ts v254 v260 v301) 1)
        = rowsOf (F := Ideal) (uLo wMask (wSign sg) k0_pay157 ts v254 v260 v301) (uHi wMask (wSign sg) k0_pay157 ts v254 v260 v301) half := by
      by_cases h : (x 0).val < 64
      · rw [if_pos h, show half = 0 from Fin.ext (by change (x 0).val / 64 = 0; omega)]
      · rw [if_neg h, show half = 1 from Fin.ext (by change (x 0).val / 64 = 1; omega)]
    rw [hw, nib64 sg ts v254 v260 v301 hts _ _ _ _ _ ga gd gb half z (by change (x 0).val / 16 = 4 * ((x 0).val / 64) + ((x 0).val % 64) / 16; omega) rfl ⟨(y 0).val % 16, by omega⟩ (by change (y 0).val % 16 = ((x 0).val % 64) % 16; omega)]
    have es : sRow (F := Ideal) ts v260 ⟨(x 0).val / 16, by omega⟩ (ix2 (n0 := 1) 0 (x 1)) = Sc (v260 (ix2 (n0 := 8) (n1 := 128) ⟨(x 0).val / 16, by omega⟩ (x 1))) ts := by
      unfold sRow k0_pay8
      rw [shapeCast_self]
      rfl
    rw [es, ← ga (ix2 (n0 := 8) (n1 := 128) ⟨(x 0).val / 16, by omega⟩ (x 1)) rfl rfl]
    rfl

end Targets

end Cert.KernelIdeal.Hand
-- ==== Proof.Grid.lean ====
module

public import proofs.«01_k».proof.Proof.UnitTgt
public import Idealize.ShloMosaic.Lib.Pipeline.ValueKit
public import Idealize.ShloMosaic.Lib.Pointwise

@[expose] public section

set_option maxRecDepth 65536

noncomputable section

/-! What one grid point leaves in its three result blocks. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- A row of `xv` against a column of dequantised values, scaled by the two tensor scales. -/
def rowCol (sg : Fin 16 → EReal) (ts0 ts1 : EReal) (x : Fin 1152 → EReal) (c : Col) : EReal :=
  (∑ k : Fin 1152, x k * c.val sg ts1 ⟨k.val / 16, by omega⟩ ⟨k.val % 16, by omega⟩) * (ts0 * ts1)

/-- The product's block. -/
def G7 (sg : Fin 16 → EReal) (ts0 ts1 : EReal) (X3 : S2880x1152.Idx → EReal) (X4 : S3x384x512.Idx → EReal) (X5 : S3x384x512.Idx → BitVec 8) (X6 : S72x512.Idx → EReal)
    (y : S2880x512.Idx) : EReal :=
  rowCol sg ts0 ts1 (fun k => X3 (ix2 (n0 := 2880) (n1 := 1152) (y 0) k)) (colOf X4 X5 X6 (y 1))

/-- The column functions are what the kernel's blocks hold. -/
theorem kernelT (X1 : S16.Idx → EReal) (X2 : S2.Idx → EReal) (X3 : S2880x1152.Idx → EReal) (X4 : S3x384x512.Idx → EReal) (X5 : S3x384x512.Idx → BitVec 8) (X6 : S72x512.Idx → EReal)
    (hts : 0 < X2 (ix1 1)) :
    KernelT (F := Ideal) X1 X2 X3 X4 X5 X6 (G7 (fun n => X1 (ix1 n)) (X2 (ix1 0)) (X2 (ix1 1)) X3 X4 X5 X6)
      (G8 (fun n => X1 (ix1 n)) (X2 (ix1 1)) X4 X5 X6) (G9 (X2 (ix1 1)) X4 X5 X6) (G10 (fun n => X1 (ix1 n)) (X2 (ix1 1)) X4 X5 X6) where
  unit t1 t2 t3 := by
    have o1 := k0_off1_eq t1 t2 t3
    have o2 := k0_off2_eq t1 t2 t3
    refine unitT_of _ _ X4 X5 X6 hts t1 t2 t3 _ _ _ ?_ ?_ ?_
    · intro x y e0 e1 e2
      refine congrArg X4 (funext fun a => Fin.ext ?_)
      have hx : (x 0).val < 1 := (x 0).isLt
      rw [Rect.emb_apply]
      change k0_off1 t1 t2 t3 a + 1 * (x a).val = _
      rw [o1]
      match a with
      | ⟨0, _⟩ => change t2.val + 1 * (x 0).val = (y 0).val; omega
      | ⟨1, _⟩ => change 128 * t3.val + 1 * (x 1).val = (y 1).val; omega
      | ⟨2, _⟩ => change 128 * t1.val + 1 * (x 2).val = (y 2).val; omega
    · intro x y e0 e1 e2
      refine congrArg X5 (funext fun a => Fin.ext ?_)
      have hx : (x 0).val < 1 := (x 0).isLt
      rw [Rect.emb_apply]
      change k0_off1 t1 t2 t3 a + 1 * (x a).val = _
      rw [o1]
      match a with
      | ⟨0, _⟩ => change t2.val + 1 * (x 0).val = (y 0).val; omega
      | ⟨1, _⟩ => change 128 * t3.val + 1 * (x 1).val = (y 1).val; omega
      | ⟨2, _⟩ => change 128 * t1.val + 1 * (x 2).val = (y 2).val; omega
    · intro x y e0 e1
      refine congrArg X6 (funext fun a => Fin.ext ?_)
      rw [Rect.emb_apply]
      change k0_off2 t1 t2 t3 a + 1 * (x a).val = _
      rw [o2]
      match a with
      | ⟨0, _⟩ => change 24 * t2.val + 8 * t3.val + 1 * (x 0).val = (y 0).val; omega
      | ⟨1, _⟩ => change 128 * t1.val + 1 * (x 1).val = (y 1).val; omega
  dw m v hv x y e0 e1 := by
    have e : k0_pay2 (F := Ideal) (k0_pay160 (X2 (ix1 1)) (X2 (ix1 0))) v (G10 (fun n => X1 (ix1 n)) (X2 (ix1 1)) X4 X5 X6) x
        = (∑ k : Fin 1152, v (ix2 (n0 := 320) (n1 := 1152) (x 0) k) * G10 (fun n => X1 (ix1 n)) (X2 (ix1 1)) X4 X5 X6 (ix2 (n0 := 1152) (n1 := 512) k (x 1)))
          * (X2 (ix1 0) * X2 (ix1 1)) := by
      unfold k0_pay2 k0_pay160
      generalize G10 (fun n => X1 (ix1 n)) (X2 (ix1 1)) X4 X5 X6 = w
      pointwise
    rw [e]
    unfold G7 rowCol
    congr 1
    refine Finset.sum_congr rfl fun k _ => ?_
    rw [hv (ix2 (n0 := 320) (n1 := 1152) (x 0) k) (ix2 (n0 := 2880) (n1 := 1152) (y 0) k) e0 rfl]
    have : y 1 = x 1 := Fin.ext e1
    rw [this]
    rfl

/-- `kernelVal` with every buffer owned at its contents. -/
theorem kernelOwnsVal (c : Dev nD) (i : grid0.Coords) (arg1 : Memref sig .tc .smem S16 .f32) (harg1 : arg1.IsWhole) (arg2 : Memref sig .tc .smem S2 .f32) (harg2 : arg2.IsWhole) (arg3 : Memref sig .tc .vmem S2880x1152 .bf16) (harg3 : arg3.IsWhole) (arg4 : Memref sig .tc .vmem S3x384x512 .bf16) (harg4 : arg4.IsWhole) (arg5 : Memref sig .tc .vmem S3x384x512 .i8) (harg5 : arg5.IsWhole) (arg6 : Memref sig .tc .vmem S72x512 .f32) (harg6 : arg6.IsWhole) (arg7 : Memref sig .tc .vmem S2880x512 .f32) (harg7 : arg7.IsWhole) (arg8 : Memref sig .tc .vmem S3x192x512 .i8) (harg8 : arg8.IsWhole) (arg9 : Memref sig .tc .vmem S3x24x512 .fp8e4m3) (harg9 : arg9.IsWhole) (arg10 : Memref sig .tc .vmem S1152x512 .bf16) (harg10 : arg10.IsWhole) (arg11 : Memref sig .tc .vmem S72x512 .f32) (harg11 : arg11.IsWhole) (arg12 : Memref sig .tc .vmem S288x128 .i32) (harg12 : arg12.IsWhole) (arg13 : Memref sig .tc .vmem S144x128 .i32) (harg13 : arg13.IsWhole)
    (X1 : S16.Idx → Elt Ideal .f32) (X2 : S2.Idx → Elt Ideal .f32) (X3 : S2880x1152.Idx → Elt Ideal .bf16) (X4 : S3x384x512.Idx → Elt Ideal .bf16) (X5 : S3x384x512.Idx → Elt Ideal .i8) (X6 : S72x512.Idx → Elt Ideal .f32) (T7 : S2880x512.Idx → Elt Ideal .f32) (T8 : S3x192x512.Idx → Elt Ideal .i8) (T9 : S3x24x512.Idx → Elt Ideal .fp8e4m3) (T10 : S1152x512.Idx → Elt Ideal .bf16)
    (hT : KernelT (F := Ideal) X1 X2 X3 X4 X5 X6 T7 T8 T9 T10) :
    (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) : sProp 𝕄)
      ⊢ wp frame (wpE (defs₀ (F := Ideal)) Variants.none c none) Set.univ (cc0_nvfp4_main (F := Ideal) i arg1 harg1 arg2 harg2 arg3 harg3 arg4 harg4 arg5 harg5 arg6 harg6 arg7 harg7 arg8 harg8 arg9 harg9 arg10 harg10 arg11 harg11 arg12 harg12 arg13 harg13)
          fun _ => iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare T7 ∗ owns (c : Thread nD τ) arg8 fullShare T8 ∗ owns (c : Thread nD τ) arg9 fullShare T9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) := by
  simp only [owns_pt (F := Ideal) harg1, owns_pt (F := Ideal) harg2, owns_pt (F := Ideal) harg3, owns_pt (F := Ideal) harg4, owns_pt (F := Ideal) harg5, owns_pt (F := Ideal) harg6, owns_pt (F := Ideal) harg7, owns_pt (F := Ideal) harg8, owns_pt (F := Ideal) harg9, owns_pt (F := Ideal) harg10, owns_pt (F := Ideal) harg11, owns_pt (F := Ideal) harg12, owns_pt (F := Ideal) harg13]
  iintro ⟨⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩⟩
  iapply (wp_wand_r)
  isplitl [H1 H2 H3 H4 H5 H6 H7 H8 H9 H10 H11 H12 H13]
  · iapply (kernelVal c i arg1 harg1 arg2 harg2 arg3 harg3 arg4 harg4 arg5 harg5 arg6 harg6 arg7 harg7 arg8 harg8 arg9 harg9 arg10 harg10 arg11 harg11 arg12 harg12 arg13 harg13 f1 f2 f3 f4 f5 f6 f7 f8 f9 f10 f11 f12 f13 X1 X2 X3 X4 X5 X6 e1 e2 e3 e4 e5 e6 T7 T8 T9 T10 hT)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %_ ⟨H1, H2, H3, H4, H5, H6, ⟨%g7, %q7, H7⟩, ⟨%g8, %q8, H8⟩, ⟨%g9, %q9, H9⟩, ⟨%g10, H10⟩, ⟨%g11, H11⟩, ⟨%g12, H12⟩, ⟨%g13, H13⟩⟩
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists g7; isplitr; · ipureintro; exact q7
    iexact H7
  isplitl [H8]
  · iexists g8; isplitr; · ipureintro; exact q8
    iexact H8
  isplitl [H9]
  · iexists g9; isplitr; · ipureintro; exact q9
    iexact H9
  isplitl [H10]
  · iexists _; iexists g10; isplitr; · ipureintro; rfl
    iexact H10
  isplitl [H11]
  · iexists _; iexists g11; isplitr; · ipureintro; rfl
    iexact H11
  isplitl [H12]
  · iexists _; iexists g12; isplitr; · ipureintro; rfl
    iexact H12
  iexists _; iexists g13; isplitr; · ipureintro; rfl
  iexact H13

end Cert.KernelIdeal.Hand
-- ==== Proof.Cols.lean ====
module

public import proofs.«01_k».proof.Proof.Grid

@[expose] public section

set_option maxRecDepth 65536

noncomputable section

/-! The three results as functions of the columns. -/

namespace Cert.KernelIdeal.Hand

open Cert.KernelIdeal Cert.KernelIdeal.Gen
open Idealize.ShloMosaic Idealize.ShloMosaic.TcCoe

/-! ## The results, column by column -/

/-- The three results, of the columns `C`. -/
def Q7 (sg : Fin 16 → EReal) (ts0 ts1 : EReal) (X : S2880x1152.Idx → EReal) (C : Fin 5760 → Col) (y : S2880x5760.Idx) : EReal :=
  rowCol sg ts0 ts1 (fun k => X (ix2 (n0 := 2880) (n1 := 1152) (y 0) k)) (C (y 1))
@[inherit_doc Q7] def Q8 (sg : Fin 16 → EReal) (ts1 : EReal) (C : Fin 5760 → Col) (y : S3x192x5760.Idx) : BitVec 8 :=
  (C (y 2)).nib sg ts1 ⟨24 * (y 0).val + (y 1).val / 8, by have h0 : (y 0).val < 3 := (y 0).isLt; have h1 : (y 1).val < 192 := (y 1).isLt; omega⟩ ⟨2 * ((y 1).val % 8) + 1, by omega⟩
    ++ (C (y 2)).nib sg ts1 ⟨24 * (y 0).val + (y 1).val / 8, by have h0 : (y 0).val < 3 := (y 0).isLt; have h1 : (y 1).val < 192 := (y 1).isLt; omega⟩ ⟨2 * ((y 1).val % 8), by omega⟩
@[inherit_doc Q7] def Q9 (ts1 : EReal) (C : Fin 5760 → Col) (y : S3x24x5760.Idx) : EReal :=
  (C (y 2)).sc ts1 ⟨24 * (y 0).val + (y 1).val, by have h0 : (y 0).val < 3 := (y 0).isLt; have h1 : (y 1).val < 24 := (y 1).isLt; omega⟩

/-- Column `L` of the three whole arrays that quantisation reads. -/
def colA (A3 : S3x384x5760.Idx → EReal) (A4 : S3x384x5760.Idx → BitVec 8) (A5 : S72x5760.Idx → EReal) (L : Fin 5760) : Col where
  a n := A5 (ix2 n L)
  d n j := A3 (ix3 (n0 := 3) (n1 := 384) ⟨n.val / 24, by omega⟩ ⟨16 * (n.val % 24) + j.val, by omega⟩ L)
  b n j := A4 (ix3 (n0 := 3) (n1 := 384) ⟨n.val / 24, by omega⟩ ⟨16 * (n.val % 24) + j.val, by omega⟩ L)

end Cert.KernelIdeal.Hand
-- ==== Proof.Blocks.lean ====
module

public import proofs.«01_k».proof.Proof.Cols
public import proofs.«01_k».proof.Proof.IFrame
public import Idealize.ShloMosaic.Lib.Pipeline.ValueKit
public import Idealize.ShloMosaic.Lib.Pointwise

@[expose] public section

set_option maxRecDepth 65536

noncomputable section

/-! The blocks the kernel's windows move, and what its body leaves at a grid point. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Window BodyObligationLoose)

local notation "𝕄" => MT nD τ sig Unit (Elt Ideal) ℕ (UR sig nD τ) ℕ

variable (m : (ℓ : Loc nD τ sig) → Buf (Elt Ideal) ℓ) (ρ : Dev nD → PrngReg)

/-- The signs, the two tensor scales and the columns a device is given. -/
def sgM (c : Dev nD) (n : Fin 16) : EReal := (m ((c : Thread nD τ).loc main_arg0) : S16.Idx → EReal) (ix1 n)
@[inherit_doc sgM] def tsM (c : Dev nD) (n : Fin 2) : EReal := (m ((c : Thread nD τ).loc main_arg1) : S2.Idx → EReal) (ix1 n)
@[inherit_doc sgM] def colM (c : Dev nD) : Fin 5760 → Col :=
  colA (m ((c : Thread nD τ).loc main_arg3)) (m ((c : Thread nD τ).loc main_arg4)) (m ((c : Thread nD τ).loc main_arg5))

/-- What the three result arrays end up holding. -/
def R7 (c : Dev nD) : S2880x5760.Idx → EReal := Q7 (sgM m c) (tsM m c 0) (tsM m c 1) (m ((c : Thread nD τ).loc main_arg2)) (colM m c)
@[inherit_doc R7] def R8 (c : Dev nD) : S3x192x5760.Idx → BitVec 8 := Q8 (sgM m c) (tsM m c 1) (colM m c)
@[inherit_doc R7] def R9 (c : Dev nD) : S3x24x5760.Idx → EReal := Q9 (tsM m c 1) (colM m c)

/-! ## The windows' blocks -/

theorem index_3 : ∀ t : Fin grid0.N, win0_3.index t = ![0, 0, t.val] := by decide +kernel
theorem xs_3 : ∀ t : Fin grid0.N, win0_3.xsize (grid0.coords t) 2 = min 512 (5760 - 512 * t.val) := by decide +kernel
theorem xs_3_0 : ∀ t : Fin grid0.N, win0_3.xsize (grid0.coords t) 0 = 3 := by decide +kernel
theorem xs_3_1 : ∀ t : Fin grid0.N, win0_3.xsize (grid0.coords t) 1 = 384 := by decide +kernel
theorem index_4 : ∀ t : Fin grid0.N, win0_4.index t = ![0, 0, t.val] := by decide +kernel
theorem xs_4 : ∀ t : Fin grid0.N, win0_4.xsize (grid0.coords t) 2 = min 512 (5760 - 512 * t.val) := by decide +kernel
theorem xs_4_0 : ∀ t : Fin grid0.N, win0_4.xsize (grid0.coords t) 0 = 3 := by decide +kernel
theorem xs_4_1 : ∀ t : Fin grid0.N, win0_4.xsize (grid0.coords t) 1 = 384 := by decide +kernel
theorem index_5 : ∀ t : Fin grid0.N, win0_5.index t = ![0, t.val] := by decide +kernel
theorem xs_5 : ∀ t : Fin grid0.N, win0_5.xsize (grid0.coords t) 1 = min 512 (5760 - 512 * t.val) := by decide +kernel
theorem xs_5_0 : ∀ t : Fin grid0.N, win0_5.xsize (grid0.coords t) 0 = 72 := by decide +kernel
theorem index_6 : ∀ t : Fin grid0.N, win0_6.index t = ![0, t.val] := by decide +kernel
theorem xs_6 : ∀ t : Fin grid0.N, win0_6.xsize (grid0.coords t) 1 = min 512 (5760 - 512 * t.val) := by decide +kernel
theorem xs_6_0 : ∀ t : Fin grid0.N, win0_6.xsize (grid0.coords t) 0 = 2880 := by decide +kernel
theorem index_7 : ∀ t : Fin grid0.N, win0_7.index t = ![0, 0, t.val] := by decide +kernel
theorem xs_7 : ∀ t : Fin grid0.N, win0_7.xsize (grid0.coords t) 2 = min 512 (5760 - 512 * t.val) := by decide +kernel
theorem xs_7_0 : ∀ t : Fin grid0.N, win0_7.xsize (grid0.coords t) 0 = 3 := by decide +kernel
theorem xs_7_1 : ∀ t : Fin grid0.N, win0_7.xsize (grid0.coords t) 1 = 192 := by decide +kernel
theorem index_8 : ∀ t : Fin grid0.N, win0_8.index t = ![0, 0, t.val] := by decide +kernel
theorem xs_8 : ∀ t : Fin grid0.N, win0_8.xsize (grid0.coords t) 2 = min 512 (5760 - 512 * t.val) := by decide +kernel
theorem xs_8_0 : ∀ t : Fin grid0.N, win0_8.xsize (grid0.coords t) 0 = 3 := by decide +kernel
theorem xs_8_1 : ∀ t : Fin grid0.N, win0_8.xsize (grid0.coords t) 1 = 24 := by decide +kernel

/-- A fetched block, read inside the array. -/
theorem fill_3 (c : Dev nD) (t : Fin grid0.N) (d : S3x384x512.Idx → EReal) (x : S3x384x512.Idx) (y : S3x384x5760.Idx) (h0 : (y 0).val = (x 0).val) (h1 : (y 1).val = (x 1).val) (h2 : (y 2).val = 512 * t.val + (x 2).val) :
    (win0_3.fill (grid0.coords t) d (iblk m c 3 t) : S3x384x512.Idx → EReal) x = (m ((c : Thread nD τ).loc main_arg3) : S3x384x5760.Idx → EReal) y := by
  have hy : (y 2).val < 5760 := (y 2).isLt
  have hx : (x 2).val < 512 := (x 2).isLt
  have hm : win0_3.moved (grid0.coords t) x = true := (win0_3.moved_iff _ x).mpr fun a => by
    match a with
    | ⟨0, _⟩ => change (x 0).val < win0_3.xsize (grid0.coords t) 0; rw [xs_3_0 t]; exact (x 0).isLt
    | ⟨1, _⟩ => change (x 1).val < win0_3.xsize (grid0.coords t) 1; rw [xs_3_1 t]; exact (x 1).isLt
    | ⟨2, _⟩ => change (x 2).val < win0_3.xsize (grid0.coords t) 2; rw [xs_3 t]; omega
  unfold Window.fill
  rw [dif_pos hm]
  unfold iblk
  refine congrArg (m ((c : Thread nD τ).loc main_arg3)) (funext fun a => Fin.ext ?_)
  have e := index_3 t
  match a with
  | ⟨0, _⟩ => change win0_3.index t 0 * win0_3.size 0 + 1 * (x 0).val = (y 0).val; rw [e]; change 0 * 3 + 1 * (x 0).val = (y 0).val; omega
  | ⟨1, _⟩ => change win0_3.index t 1 * win0_3.size 1 + 1 * (x 1).val = (y 1).val; rw [e]; change 0 * 384 + 1 * (x 1).val = (y 1).val; omega
  | ⟨2, _⟩ => change win0_3.index t 2 * win0_3.size 2 + 1 * (x 2).val = (y 2).val; rw [e]; change t.val * 512 + 1 * (x 2).val = (y 2).val; omega

/-- A fetched block, read inside the array. -/
theorem fill_4 (c : Dev nD) (t : Fin grid0.N) (d : S3x384x512.Idx → BitVec 8) (x : S3x384x512.Idx) (y : S3x384x5760.Idx) (h0 : (y 0).val = (x 0).val) (h1 : (y 1).val = (x 1).val) (h2 : (y 2).val = 512 * t.val + (x 2).val) :
    (win0_4.fill (grid0.coords t) d (iblk m c 4 t) : S3x384x512.Idx → BitVec 8) x = (m ((c : Thread nD τ).loc main_arg4) : S3x384x5760.Idx → BitVec 8) y := by
  have hy : (y 2).val < 5760 := (y 2).isLt
  have hx : (x 2).val < 512 := (x 2).isLt
  have hm : win0_4.moved (grid0.coords t) x = true := (win0_4.moved_iff _ x).mpr fun a => by
    match a with
    | ⟨0, _⟩ => change (x 0).val < win0_4.xsize (grid0.coords t) 0; rw [xs_4_0 t]; exact (x 0).isLt
    | ⟨1, _⟩ => change (x 1).val < win0_4.xsize (grid0.coords t) 1; rw [xs_4_1 t]; exact (x 1).isLt
    | ⟨2, _⟩ => change (x 2).val < win0_4.xsize (grid0.coords t) 2; rw [xs_4 t]; omega
  unfold Window.fill
  rw [dif_pos hm]
  unfold iblk
  refine congrArg (m ((c : Thread nD τ).loc main_arg4)) (funext fun a => Fin.ext ?_)
  have e := index_4 t
  match a with
  | ⟨0, _⟩ => change win0_4.index t 0 * win0_4.size 0 + 1 * (x 0).val = (y 0).val; rw [e]; change 0 * 3 + 1 * (x 0).val = (y 0).val; omega
  | ⟨1, _⟩ => change win0_4.index t 1 * win0_4.size 1 + 1 * (x 1).val = (y 1).val; rw [e]; change 0 * 384 + 1 * (x 1).val = (y 1).val; omega
  | ⟨2, _⟩ => change win0_4.index t 2 * win0_4.size 2 + 1 * (x 2).val = (y 2).val; rw [e]; change t.val * 512 + 1 * (x 2).val = (y 2).val; omega

/-- A fetched block, read inside the array. -/
theorem fill_5 (c : Dev nD) (t : Fin grid0.N) (d : S72x512.Idx → EReal) (x : S72x512.Idx) (y : S72x5760.Idx) (h0 : (y 0).val = (x 0).val) (h1 : (y 1).val = 512 * t.val + (x 1).val) :
    (win0_5.fill (grid0.coords t) d (iblk m c 5 t) : S72x512.Idx → EReal) x = (m ((c : Thread nD τ).loc main_arg5) : S72x5760.Idx → EReal) y := by
  have hy : (y 1).val < 5760 := (y 1).isLt
  have hx : (x 1).val < 512 := (x 1).isLt
  have hm : win0_5.moved (grid0.coords t) x = true := (win0_5.moved_iff _ x).mpr fun a => by
    match a with
    | ⟨0, _⟩ => change (x 0).val < win0_5.xsize (grid0.coords t) 0; rw [xs_5_0 t]; exact (x 0).isLt
    | ⟨1, _⟩ => change (x 1).val < win0_5.xsize (grid0.coords t) 1; rw [xs_5 t]; omega
  unfold Window.fill
  rw [dif_pos hm]
  unfold iblk
  refine congrArg (m ((c : Thread nD τ).loc main_arg5)) (funext fun a => Fin.ext ?_)
  have e := index_5 t
  match a with
  | ⟨0, _⟩ => change win0_5.index t 0 * win0_5.size 0 + 1 * (x 0).val = (y 0).val; rw [e]; change 0 * 72 + 1 * (x 0).val = (y 0).val; omega
  | ⟨1, _⟩ => change win0_5.index t 1 * win0_5.size 1 + 1 * (x 1).val = (y 1).val; rw [e]; change t.val * 512 + 1 * (x 1).val = (y 1).val; omega

/-- Inside the array, a grid point's columns are the arrays'. -/
theorem col_fill (c : Dev nD) (t : Fin grid0.N) (d3 : S3x384x512.Idx → EReal) (d4 : S3x384x512.Idx → BitVec 8) (d5 : S72x512.Idx → EReal)
    (l : Fin 512) (L : Fin 5760) (h : L.val = 512 * t.val + l.val) :
    colOf (win0_3.fill (grid0.coords t) d3 (iblk m c 3 t)) (win0_4.fill (grid0.coords t) d4 (iblk m c 4 t)) (win0_5.fill (grid0.coords t) d5 (iblk m c 5 t)) l
      = colM m c L := by
  unfold colOf colM colA
  congr 1
  · funext n; exact fill_5 m c t d5 _ _ rfl h
  · funext n j; exact fill_3 m c t d3 _ _ rfl rfl h
  · funext n j; exact fill_4 m c t d4 _ _ rfl rfl h

variable (U7 : Dev nD → S2880x5760.Idx → Elt Ideal .f32) (U8 : Dev nD → S3x192x5760.Idx → Elt Ideal .i8) (U9 : Dev nD → S3x24x5760.Idx → Elt Ideal .fp8e4m3)

/-- What the body leaves in window 6, filled with the array's own block, is itself. -/
theorem out_6 (c : Dev nD) (t : Fin grid0.N) (T : S2880x512.Idx → EReal)
    (h : ∀ (x : S2880x512.Idx) (y : S2880x5760.Idx), (y 0).val = (x 0).val → (y 1).val = 512 * t.val + (x 1).val → T x = U7 c y) :
    (win0_6.fill (grid0.coords t) T (fun j => (U7 c) ((win0_6.blk t).view.emb j)) : S2880x512.Idx → EReal) = T := by
  funext x
  unfold Window.fill
  split
  · rename_i hm
    refine (h x _ ?_ ?_).symm
    all_goals have e := index_6 t
    · change win0_6.index t 0 * win0_6.size 0 + 1 * (x 0).val = _; rw [e]; change 0 * 2880 + 1 * (x 0).val = _; omega
    · change win0_6.index t 1 * win0_6.size 1 + 1 * (x 1).val = _; rw [e]; change t.val * 512 + 1 * (x 1).val = _; omega
  · rfl

/-- What the body leaves in window 7, filled with the array's own block, is itself. -/
theorem out_7 (c : Dev nD) (t : Fin grid0.N) (T : S3x192x512.Idx → BitVec 8)
    (h : ∀ (x : S3x192x512.Idx) (y : S3x192x5760.Idx), (y 0).val = (x 0).val → (y 1).val = (x 1).val → (y 2).val = 512 * t.val + (x 2).val → T x = U8 c y) :
    (win0_7.fill (grid0.coords t) T (fun j => (U8 c) ((win0_7.blk t).view.emb j)) : S3x192x512.Idx → BitVec 8) = T := by
  funext x
  unfold Window.fill
  split
  · rename_i hm
    refine (h x _ ?_ ?_ ?_).symm
    all_goals have e := index_7 t
    · change win0_7.index t 0 * win0_7.size 0 + 1 * (x 0).val = _; rw [e]; change 0 * 3 + 1 * (x 0).val = _; omega
    · change win0_7.index t 1 * win0_7.size 1 + 1 * (x 1).val = _; rw [e]; change 0 * 192 + 1 * (x 1).val = _; omega
    · change win0_7.index t 2 * win0_7.size 2 + 1 * (x 2).val = _; rw [e]; change t.val * 512 + 1 * (x 2).val = _; omega
  · rfl

/-- What the body leaves in window 8, filled with the array's own block, is itself. -/
theorem out_8 (c : Dev nD) (t : Fin grid0.N) (T : S3x24x512.Idx → EReal)
    (h : ∀ (x : S3x24x512.Idx) (y : S3x24x5760.Idx), (y 0).val = (x 0).val → (y 1).val = (x 1).val → (y 2).val = 512 * t.val + (x 2).val → T x = U9 c y) :
    (win0_8.fill (grid0.coords t) T (fun j => (U9 c) ((win0_8.blk t).view.emb j)) : S3x24x512.Idx → EReal) = T := by
  funext x
  unfold Window.fill
  split
  · rename_i hm
    refine (h x _ ?_ ?_ ?_).symm
    all_goals have e := index_8 t
    · change win0_8.index t 0 * win0_8.size 0 + 1 * (x 0).val = _; rw [e]; change 0 * 3 + 1 * (x 0).val = _; omega
    · change win0_8.index t 1 * win0_8.size 1 + 1 * (x 1).val = _; rw [e]; change 0 * 24 + 1 * (x 1).val = _; omega
    · change win0_8.index t 2 * win0_8.size 2 + 1 * (x 2).val = _; rw [e]; change t.val * 512 + 1 * (x 2).val = _; omega
  · rfl

/-! ## The proof data -/

/-- The product's block, filled out past the array's end. -/
def aft6 (c : Dev nD) (t : Fin grid0.N) : S2880x512.Idx → Elt Ideal .f32 := win0_6.fill (grid0.coords t) (fun _ => (Scalar.ofBits (F := Ideal) .f32 0#32 : Elt Ideal .f32)) (fun j => U7 c ((win0_6.blk t).view.emb j))

theorem aft6_cut (c : Dev nD) (t : Fin grid0.N) : win0_6.cut (grid0.coords t) (aft6 U7 c t) = (fun j => U7 c ((win0_6.blk t).view.emb j)) := win0_6.cut_fill _ _ _

def kdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => win0_3.fill (grid0.coords t) (fun _ => (0 : EReal)) (iblk m c 3 t)
    | ⟨4, _⟩ => win0_4.fill (grid0.coords t) (fun _ => 0#8) (iblk m c 4 t)
    | ⟨5, _⟩ => win0_5.fill (grid0.coords t) (fun _ => (0 : EReal)) (iblk m c 5 t)
    | ⟨6, _⟩ => aft6 U7 c t
    | ⟨7, _⟩ => win0_7.fill (grid0.coords t) (fun _ => 0#8) (fun j => U8 c ((win0_7.blk t).view.emb j))
    | ⟨8, _⟩ => win0_8.fill (grid0.coords t) (fun _ => (0 : EReal)) (fun j => U9 c ((win0_8.blk t).view.emb j))
  Φ _ := Pipeline.ΦA spec0 c
  q _ := fullShare
  owed _ := 0

theorem kA_eq (c : Dev nD) (w : Fin cfg0.W) : (kdats m U7 U8 U9 0 c).A w = V m c (Pipeline.arrRef spec0 w) := by dsimp only [kdats]

theorem after_6 (c : Dev nD) (t : Fin cfg0.N) : (kdats m U7 U8 U9 0 c).after 6 t = aft6 U7 c t := rfl
theorem after_7 (c : Dev nD) (t : Fin cfg0.N) : (kdats m U7 U8 U9 0 c).after 7 t = win0_7.fill (grid0.coords t) (fun _ => 0#8) (fun j => U8 c ((win0_7.blk t).view.emb j)) := rfl
theorem after_8 (c : Dev nD) (t : Fin cfg0.N) : (kdats m U7 U8 U9 0 c).after 8 t = win0_8.fill (grid0.coords t) (fun _ => (0 : EReal)) (fun j => U9 c ((win0_8.blk t).view.emb j)) := rfl

theorem before_0 (c : Dev nD) (t : Fin cfg0.N) (d) : (kdats m U7 U8 U9 0 c).before 0 t d = iblk m c 0 t := before0_0_of m (kdats m U7 U8 U9 0 c) (kA_eq m U7 U8 U9 c 0) (fun _ => rfl) t d
theorem before_1 (c : Dev nD) (t : Fin cfg0.N) (d) : (kdats m U7 U8 U9 0 c).before 1 t d = iblk m c 1 t := before0_1_of m (kdats m U7 U8 U9 0 c) (kA_eq m U7 U8 U9 c 1) (fun _ => rfl) t d
theorem before_2 (c : Dev nD) (t : Fin cfg0.N) (d) : (kdats m U7 U8 U9 0 c).before 2 t d = iblk m c 2 t := before0_2_of m (kdats m U7 U8 U9 0 c) (kA_eq m U7 U8 U9 c 2) (fun _ => rfl) t d
theorem before_3 (c : Dev nD) (t : Fin cfg0.N) (d) : (kdats m U7 U8 U9 0 c).before 3 t d = win0_3.fill (grid0.coords t) d (iblk m c 3 t) := by
  unfold Dat.before; rw [if_pos (fetch0_3 t)]; rfl
theorem before_4 (c : Dev nD) (t : Fin cfg0.N) (d) : (kdats m U7 U8 U9 0 c).before 4 t d = win0_4.fill (grid0.coords t) d (iblk m c 4 t) := by
  unfold Dat.before; rw [if_pos (fetch0_4 t)]; rfl
theorem before_5 (c : Dev nD) (t : Fin cfg0.N) (d) : (kdats m U7 U8 U9 0 c).before 5 t d = win0_5.fill (grid0.coords t) d (iblk m c 5 t) := by
  unfold Dat.before; rw [if_pos (fetch0_5 t)]; rfl

/-- The uncut arguments' blocks are the arguments. -/
theorem iblk_0 (c : Dev nD) (t : Fin cfg0.N) (n : Fin 16) : (iblk m c 0 t : S16.Idx → EReal) (ix1 n) = sgM m c n := by
  unfold sgM iblk
  refine congrArg (m ((c : Thread nD τ).loc main_arg0)) (funext fun a => Fin.ext ?_)
  have e := (by decide +kernel : ∀ t : Fin grid0.N, win0_0.index t = ![0]) t
  match a with
  | ⟨0, _⟩ => change win0_0.index t 0 * 16 + 1 * n.val = n.val; rw [e]; change 0 * 16 + 1 * n.val = n.val; omega
theorem iblk_1 (c : Dev nD) (t : Fin cfg0.N) (n : Fin 2) : (iblk m c 1 t : S2.Idx → EReal) (ix1 n) = tsM m c n := by
  unfold tsM iblk
  refine congrArg (m ((c : Thread nD τ).loc main_arg1)) (funext fun a => Fin.ext ?_)
  have e := (by decide +kernel : ∀ t : Fin grid0.N, win0_1.index t = ![0]) t
  match a with
  | ⟨0, _⟩ => change win0_1.index t 0 * 2 + 1 * n.val = n.val; rw [e]; change 0 * 2 + 1 * n.val = n.val; omega
theorem iblk_2 (c : Dev nD) (t : Fin cfg0.N) : (iblk m c 2 t : S2880x1152.Idx → EReal) = (m ((c : Thread nD τ).loc main_arg2) : S2880x1152.Idx → EReal) := by
  funext x
  unfold iblk
  refine congrArg (m ((c : Thread nD τ).loc main_arg2)) (funext fun a => Fin.ext ?_)
  have e := (by decide +kernel : ∀ t : Fin grid0.N, win0_2.index t = ![0, 0]) t
  match a with
  | ⟨0, _⟩ => change win0_2.index t 0 * 2880 + 1 * (x 0).val = (x 0).val; rw [e]; change 0 * 2880 + 1 * (x 0).val = (x 0).val; omega
  | ⟨1, _⟩ => change win0_2.index t 1 * 1152 + 1 * (x 1).val = (x 1).val; rw [e]; change 0 * 1152 + 1 * (x 1).val = (x 1).val; omega

/-- What the body leaves at a point: contents that inside the arrays are the results'. -/
theorem point (h7 : U7 = R7 m) (h8 : U8 = R8 m) (h9 : U9 = R9 m) (c : Dev nD) (t : Fin cfg0.N) (hts : 0 < tsM m c 1) (d3 : S3x384x512.Idx → EReal) (d4 : S3x384x512.Idx → BitVec 8) (d5 : S72x512.Idx → EReal) :
    ∃ (T7 : S2880x512.Idx → EReal) (T8 : S3x192x512.Idx → BitVec 8) (T9 : S3x24x512.Idx → EReal) (T10 : S1152x512.Idx → EReal),
      KernelT (F := Ideal) (iblk m c 0 t) (iblk m c 1 t) (iblk m c 2 t) (win0_3.fill (grid0.coords t) d3 (iblk m c 3 t)) (win0_4.fill (grid0.coords t) d4 (iblk m c 4 t)) (win0_5.fill (grid0.coords t) d5 (iblk m c 5 t)) T7 T8 T9 T10
      ∧ (win0_6.fill (grid0.coords t) T7 (fun j => (U7 c) ((win0_6.blk t).view.emb j)) : S2880x512.Idx → EReal) = T7
      ∧ (win0_7.fill (grid0.coords t) T8 (fun j => (U8 c) ((win0_7.blk t).view.emb j)) : S3x192x512.Idx → BitVec 8) = T8
      ∧ (win0_8.fill (grid0.coords t) T9 (fun j => (U9 c) ((win0_8.blk t).view.emb j)) : S3x24x512.Idx → EReal) = T9 := by
  subst h7 h8 h9
  have e0 : (fun n => (iblk m c 0 t : S16.Idx → EReal) (ix1 n)) = sgM m c := funext fun n => iblk_0 m c t n
  have e1 := iblk_1 m c t 1
  have e10 := iblk_1 m c t 0
  have e2 := iblk_2 m c t
  refine ⟨(G7 (fun n => (iblk m c 0 t : S16.Idx → EReal) (ix1 n)) ((iblk m c 1 t : S2.Idx → EReal) (ix1 0)) ((iblk m c 1 t : S2.Idx → EReal) (ix1 1)) (iblk m c 2 t) (win0_3.fill (grid0.coords t) d3 (iblk m c 3 t)) (win0_4.fill (grid0.coords t) d4 (iblk m c 4 t)) (win0_5.fill (grid0.coords t) d5 (iblk m c 5 t))),
      (G8 (fun n => (iblk m c 0 t : S16.Idx → EReal) (ix1 n)) ((iblk m c 1 t : S2.Idx → EReal) (ix1 1)) (win0_3.fill (grid0.coords t) d3 (iblk m c 3 t)) (win0_4.fill (grid0.coords t) d4 (iblk m c 4 t)) (win0_5.fill (grid0.coords t) d5 (iblk m c 5 t))),
      (G9 ((iblk m c 1 t : S2.Idx → EReal) (ix1 1)) (win0_3.fill (grid0.coords t) d3 (iblk m c 3 t)) (win0_4.fill (grid0.coords t) d4 (iblk m c 4 t)) (win0_5.fill (grid0.coords t) d5 (iblk m c 5 t))),
      (G10 (fun n => (iblk m c 0 t : S16.Idx → EReal) (ix1 n)) ((iblk m c 1 t : S2.Idx → EReal) (ix1 1)) (win0_3.fill (grid0.coords t) d3 (iblk m c 3 t)) (win0_4.fill (grid0.coords t) d4 (iblk m c 4 t)) (win0_5.fill (grid0.coords t) d5 (iblk m c 5 t))),
      kernelT _ _ _ _ _ _ (lt_of_lt_of_eq hts e1.symm), ?_, ?_, ?_⟩
  · refine out_6 (R7 m) c t _ fun x y h0 h1 => ?_
    unfold G7 R7 Q7
    rw [col_fill m c t _ _ _ (x 1) (y 1) h1, e0, e1, e10, e2]
    simp only [show y 0 = x 0 from Fin.ext h0]
  · refine out_7 (R8 m) c t _ fun x y h0 h1 h2 => ?_
    unfold G8 R8 Q8
    rw [col_fill m c t _ _ _ (x 2) (y 2) h2, e0, e1]
    have q0 : y 0 = x 0 := Fin.ext h0
    have q1 : y 1 = x 1 := Fin.ext h1
    simp only [q0, q1]
  · refine out_8 (R9 m) c t _ fun x y h0 h1 h2 => ?_
    unfold G9 R9 Q9
    rw [col_fill m c t _ _ _ (x 2) (y 2) h2, e1]
    have q0 : y 0 = x 0 := Fin.ext h0
    have q1 : y 1 = x 1 := Fin.ext h1
    simp only [q0, q1]

end Cert.KernelIdeal.Hand
-- ==== Proof.Results.lean ====
module

public import proofs.«01_k».proof.Proof.Blocks
public import proofs.«01_k».proof.Proof.IFrame
public import Idealize.ShloMosaic.Lib.Pipeline.ValueKit
public import Idealize.ShloMosaic.Lib.Pointwise

@[expose] public section

set_option maxRecDepth 65536

noncomputable section

/-! The kernel's run: what its three result arrays hold at its end, column by column. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Window BodyObligationLoose)

local notation "𝕄" => MT nD τ sig Unit (Elt Ideal) ℕ (UR sig nD τ) ℕ

variable (m : (ℓ : Loc nD τ sig) → Buf (Elt Ideal) ℓ) (ρ : Dev nD → PrngReg)

variable (U7 : Dev nD → S2880x5760.Idx → Elt Ideal .f32) (U8 : Dev nD → S3x192x5760.Idx → Elt Ideal .i8) (U9 : Dev nD → S3x24x5760.Idx → Elt Ideal .fp8e4m3)

/-- What the body left in window 6's buffer is what the point must leave there. -/
theorem leave_6 (c : Dev nD) (t : Fin cfg0.N) (T7 : S2880x512.Idx → EReal) (h : win0_6.fill (grid0.coords t) T7 (fun j => U7 c ((win0_6.blk t).view.emb j)) = T7) :
    (owns (c : Thread nD τ) (ms0_6 t) fullShare T7 : sProp 𝕄) ⊢ iprop(∃ d, owns (c : Thread nD τ) (stage0_6 (cfg0.slots t 6)) fullShare ((win0 6).fill (grid0.coords t) d ((win0 6).cut (grid0.coords t) ((kdats m U7 U8 U9 0 c).after 6 t)))) := by
  have e : (win0 6).fill (grid0.coords t) T7 ((win0 6).cut (grid0.coords t) ((kdats m U7 U8 U9 0 c).after 6 t)) = T7 := by
    rw [after_6]
    exact (congrArg (win0_6.fill (grid0.coords t) T7) (aft6_cut U7 c t)).trans h
  iintro H
  iexists T7
  rw [e]
  iexact H

/-- What the body left in window 7's buffer is what the point must leave there. -/
theorem leave_7 (c : Dev nD) (t : Fin cfg0.N) (T8 : S3x192x512.Idx → BitVec 8) (h : win0_7.fill (grid0.coords t) T8 (fun j => U8 c ((win0_7.blk t).view.emb j)) = T8) :
    (owns (c : Thread nD τ) (ms0_7 t) fullShare T8 : sProp 𝕄) ⊢ iprop(∃ d, owns (c : Thread nD τ) (stage0_7 (cfg0.slots t 7)) fullShare ((win0 7).fill (grid0.coords t) d ((win0 7).cut (grid0.coords t) ((kdats m U7 U8 U9 0 c).after 7 t)))) := by
  have e : (win0 7).fill (grid0.coords t) T8 ((win0 7).cut (grid0.coords t) ((kdats m U7 U8 U9 0 c).after 7 t)) = T8 := by
    rw [after_7]
    exact (congrArg (win0_7.fill (grid0.coords t) T8) (win0_7.cut_fill (grid0.coords t) _ _)).trans h
  iintro H
  iexists T8
  rw [e]
  iexact H

/-- What the body left in window 8's buffer is what the point must leave there. -/
theorem leave_8 (c : Dev nD) (t : Fin cfg0.N) (T9 : S3x24x512.Idx → EReal) (h : win0_8.fill (grid0.coords t) T9 (fun j => U9 c ((win0_8.blk t).view.emb j)) = T9) :
    (owns (c : Thread nD τ) (ms0_8 t) fullShare T9 : sProp 𝕄) ⊢ iprop(∃ d, owns (c : Thread nD τ) (stage0_8 (cfg0.slots t 8)) fullShare ((win0 8).fill (grid0.coords t) d ((win0 8).cut (grid0.coords t) ((kdats m U7 U8 U9 0 c).after 8 t)))) := by
  have e : (win0 8).fill (grid0.coords t) T9 ((win0 8).cut (grid0.coords t) ((kdats m U7 U8 U9 0 c).after 8 t)) = T9 := by
    rw [after_8]
    exact (congrArg (win0_8.fill (grid0.coords t) T9) (win0_8.cut_fill (grid0.coords t) _ _)).trans h
  iintro H
  iexists T9
  rw [e]
  iexact H

theorem kbody_obligation (hU7 : U7 = R7 m) (hU8 : U8 = R8 m) (hU9 : U9 = R9 m) (hts : ∀ c, 0 < tsM m c 1) (c : Dev nD) : BodyObligationLoose (kdats m U7 U8 U9 0 c) (defs₀ (F := Ideal)) Variants.none () Set.univ := fun t => by
  rw [bigSep_W0, bigSep_W0, defs₀_row]
  simp only
  unfold bodyAt0
  rw [show (kdats m U7 U8 U9 0 c).Φ t.succ = Pipeline.ΦA spec0 c from rfl, show (kdats m U7 U8 U9 0 c).Φ t.castSucc = Pipeline.ΦA spec0 c from rfl,
    show (kdats m U7 U8 U9 0 c).owesAt () t.succ = (kdats m U7 U8 U9 0 c).owesAt () t.castSucc from rfl, scratch_eq]
  iintro ⟨⟨⟨H10, H11, H12, H13⟩, Hg⟩, HO, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩⟩
  rw [before_0, before_1, before_2, before_3, before_4, before_5]
  obtain ⟨T7, T8, T9, T10, hT, h7, h8, h9⟩ := point m U7 U8 U9 hU7 hU8 hU9 c t (hts c) d3 d4 d5
  iapply (wp_wand_r)
  isplitl [H1 H2 H3 H4 H5 H6 H7 H8 H9 H10 H11 H12 H13]
  · iapply (kernelOwnsVal c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) (ms0_7 t) (hstage0_7 ((cfg0.slots t 7).cast nbuf0_7)) (ms0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _)
      (iblk m c 0 t) (iblk m c 1 t) (iblk m c 2 t) (win0_3.fill (grid0.coords t) d3 (iblk m c 3 t)) (win0_4.fill (grid0.coords t) d4 (iblk m c 4 t)) (win0_5.fill (grid0.coords t) d5 (iblk m c 5 t))
      T7 T8 T9 T10 hT)
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexact H10
    isplitl [H11]; · iexact H11
    isplitl [H12]; · iexact H12
    iexact H13
  iintro %_ ⟨H1, H2, H3, H4, H5, H6, H7, H8, H9, H10, H11, H12, H13⟩
  isplitl [H10 H11 H12 H13 Hg]
  · isplitl [H10 H11 H12 H13]
    · isplitl [H10]; · iexact H10
      isplitl [H11]; · iexact H11
      isplitl [H12]; · iexact H12
      iexact H13
    iexact Hg
  isplitl [HO]; · iexact HO
  isplitl [H1]; · iexact H1
  isplitl [H2]; · iexact H2
  isplitl [H3]; · iexact H3
  isplitl [H4]
  · iexists d3
    change _ ⊢ owns (c : Thread nD τ) (win0_3.stage (cfg0.slots t 3)) fullShare (win0_3.fill (grid0.coords t) d3 (win0_3.cut (grid0.coords t) (win0_3.fill (grid0.coords t) (fun _ => (0 : EReal)) (iblk m c 3 t))))
    rw [Window.cut_fill]; try iexact H4
  isplitl [H5]
  · iexists d4
    change _ ⊢ owns (c : Thread nD τ) (win0_4.stage (cfg0.slots t 4)) fullShare (win0_4.fill (grid0.coords t) d4 (win0_4.cut (grid0.coords t) (win0_4.fill (grid0.coords t) (fun _ => 0#8) (iblk m c 4 t))))
    rw [Window.cut_fill]; try iexact H5
  isplitl [H6]
  · iexists d5
    change _ ⊢ owns (c : Thread nD τ) (win0_5.stage (cfg0.slots t 5)) fullShare (win0_5.fill (grid0.coords t) d5 (win0_5.cut (grid0.coords t) (win0_5.fill (grid0.coords t) (fun _ => (0 : EReal)) (iblk m c 5 t))))
    rw [Window.cut_fill]; try iexact H6
  isplitl [H7]
  · iapply (leave_6 m U7 U8 U9 c t T7 h7)
    iexact H7
  isplitl [H8]
  · iapply (leave_7 m U7 U8 U9 c t T8 h8)
    iexact H8
  · iapply (leave_8 m U7 U8 U9 c t T9 h9)
    iexact H9

set_option backward.isDefEq.respectTransparency.types false in
/-- Every run ends, with the arrays as the library computes them and every semaphore counter at zero. -/
theorem krun (hU7 : U7 = R7 m) (hU8 : U8 = R8 m) (hU9 : U9 = R9 m) (hts : ∀ c, 0 < tsM m c 1) :
    θ_run defs (onTc (τ := τ) (main (F := Ideal))) (s₀ m ρ) (fun r => Pipeline.FramePost cfgs (kdats m U7 U8 U9) 0 (V m) r ∧ r.2.sem = fun _ => 0) :=
  Pipeline.θ_run_frame cfgs (kdats m U7 U8 U9) (0 : Fin 1) launch0 defs₀ Variants.none m ρ main
    (hbody := fun c => kbody_obligation m U7 U8 U9 hU7 hU8 hU9 hts c) (hshare := fun c => (kdats m U7 U8 U9 0 c).share_full fun _ => rfl)
    (howed := fun _ _ => rfl) (V := V m) (hmain := hmain m Variants.none) (hA := kA_eq m U7 U8 U9) (hΦ := fun _ _ => rfl)
    (Q' := _) (hQ' := fun _ h => h)

theorem arr_6 (c : Dev nD) : (kdats m U7 U8 U9 0 c).arrAt 6 cfg0.N = U7 c := by
  refine (kdats m U7 U8 U9 0 c).arrAt_eq_of_covers 6 _ (by decide +kernel) fun t _ y => ?_
  rw [after_6]
  refine Eq.trans (cast_eq _ _) ?_
  exact congrFun (aft6_cut U7 c t) y

theorem arr_7 (c : Dev nD) : (kdats m U7 U8 U9 0 c).arrAt 7 cfg0.N = U8 c := by
  refine (kdats m U7 U8 U9 0 c).arrAt_eq_of_covers 7 _ (by decide +kernel) fun t _ y => ?_
  rw [after_7]
  refine Eq.trans (cast_eq _ _) ?_
  exact win0_7.fill_xinj (grid0.coords t) _ (fun j => U8 c ((win0_7.blk t).view.emb j)) y

theorem arr_8 (c : Dev nD) : (kdats m U7 U8 U9 0 c).arrAt 8 cfg0.N = U9 c := by
  refine (kdats m U7 U8 U9 0 c).arrAt_eq_of_covers 8 _ (by decide +kernel) fun t _ y => ?_
  rw [after_8]
  refine Eq.trans (cast_eq _ _) ?_
  exact win0_8.fill_xinj (grid0.coords t) _ (fun j => U9 c ((win0_8.blk t).view.emb j)) y

/-- The kernel's results, and its arguments kept. -/
theorem kernelRun_value (hts : ∀ c, 0 < tsM m c 1) :
    θ_run defs (onTc (τ := τ) (main (F := Ideal))) ⟨m, fun _ => 0, ρ⟩ (fun r => ∀ c : Dev nD,
      r.2.mem ((c.tc : Thread nD τ).loc main_v0_0) = R7 m c
      ∧ r.2.mem ((c.tc : Thread nD τ).loc main_v0_1) = R8 m c
      ∧ r.2.mem ((c.tc : Thread nD τ).loc main_v0_2) = R9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 6).trans (arr_6 m (R7 m) (R8 m) (R9 m) c), ((h.1 c).1 7).trans (arr_7 m (R7 m) (R8 m) (R9 m) c), ((h.1 c).1 8).trans (arr_8 m (R7 m) (R8 m) (R9 m) c),
      ((h.1 c).1 0).trans ((kdats m (R7 m) (R8 m) (R9 m) 0 c).arrAt_in 0 rfl _), ((h.1 c).1 1).trans ((kdats m (R7 m) (R8 m) (R9 m) 0 c).arrAt_in 1 rfl _),
      ((h.1 c).1 2).trans ((kdats m (R7 m) (R8 m) (R9 m) 0 c).arrAt_in 2 rfl _), ((h.1 c).1 3).trans ((kdats m (R7 m) (R8 m) (R9 m) 0 c).arrAt_in 3 rfl _),
      ((h.1 c).1 4).trans ((kdats m (R7 m) (R8 m) (R9 m) 0 c).arrAt_in 4 rfl _), ((h.1 c).1 5).trans ((kdats m (R7 m) (R8 m) (R9 m) 0 c).arrAt_in 5 rfl _)⟩) (krun m ρ (R7 m) (R8 m) (R9 m) rfl rfl rfl hts)

end Cert.KernelIdeal.Hand
-- ==== Proof.RefHost.lean ====
module

public import proofs.«01_k».proof.Proof.Gen.ReferenceIdeal.Value
public import proofs.«01_k».proof.Proof.UnitMat
public import Idealize.ShloMosaic.Lib.IdealHost
public import Idealize.ShloMosaic.Lib.Pointwise

@[expose] public section

set_option maxRecDepth 65536

noncomputable section

/-! What the reference computes before its one kernel: the rotated blocks. -/

namespace Cert.ReferenceIdeal.Hand

open Cert.ReferenceIdeal Cert.ReferenceIdeal.Gen
open Idealize.ShloMosaic Idealize.ShloMosaic.TcCoe Idealize.ShloMosaic.Tactic
open Idealize.SL.Sem
open Cert.KernelIdeal.Hand (qf parW)

variable (m : (ℓ : Loc nD τ sig) → Buf (Elt Ideal) ℓ)

/-- The parity of a bitwise product, either way. -/
theorem par_eq : ∀ i j : Fin 16, IntOp.andi (IntOp.ctpop (IntOp.andi (BitVec.ofNat 32 i.val) (BitVec.ofNat 32 j.val))) 1#32 = parW i.val j.val := by
  decide +kernel

/-- The rotation's matrix. -/
def qM (sg : S16.Idx → EReal) : FVec Ideal S16x16 .f32 :=
  mulf (mulf (sitofp .f32 (subi (broadcastInDim S16x16 ![] bcast_S_S16x16 (constantI S_ 32 1#32))
    (muli (broadcastInDim S16x16 ![] bcast_S_S16x16 (constantI S_ 32 2#32))
      (andi (ctpop (andi (broadcastInDim S16x16 ![0, 1] bcast_S16x1_S16x16_0_1 (broadcastInDim S16x1 ![0] bcast_S16_S16x1_0 (iotaInDim S16 32 0)))
        (broadcastInDim S16x16 ![0, 1] bcast_S1x16_S16x16_0_1 (broadcastInDim S1x16 ![1] bcast_S16_S1x16_1 (iotaInDim S16 32 0)))))
        (broadcastInDim S16x16 ![] bcast_S_S16x16 (constantI S_ 32 1#32))))))
    (broadcastInDim S16x16 ![0, 1] bcast_S1x16_S16x16_0_1 (broadcastInDim S1x16 ![1] bcast_S16_S1x16_1 sg)))
    (broadcastInDim S16x16 ![] bcast_S_S16x16 (constant S_ .f32 0x3E800000#32))

theorem V_q (c : Dev nD) : (V m c main_v18 : S16x16.Idx → EReal) = qM (m ((c : Thread nD τ).loc main_arg0)) := by
  dsimp only [V, hostOps0]
  simp only [StableHlo.after_cons, StableHlo.after_nil]
  rfl

/-- The rotated blocks. -/
def vM (q : FVec Ideal S16x16 .f32) (d : S3x384x5760.Idx → EReal) : FVec Ideal S72x16x5760 .f32 :=
  transpose S72x16x5760 [0, 2, 1] ((Host.dotGeneral dot_S72x16x5760_S16x16_S72x5760x16_1_1_02_0_n_n (some ContractPrecision.fp32) : FVec Ideal S72x16x5760 .f32 → FVec Ideal S16x16 .f32 → FVec Ideal S72x5760x16 .f32)
    (shapeCast S72x16x5760 d shapeCasts_S3x384x5760_S72x16x5760) q) transposes_S72x5760x16_S72x16x5760_0_2_1

theorem V_v (c : Dev nD) : (V m c main_v22 : S72x16x5760.Idx → EReal) = vM (qM (m ((c : Thread nD τ).loc main_arg0))) (m ((c : Thread nD τ).loc main_arg3)) := by
  dsimp only [V, hostOps0]
  simp only [StableHlo.after_cons, StableHlo.after_nil]
  rfl

theorem V_b (c : Dev nD) : (V m c main_v23 : S72x16x5760.Idx → BitVec 8) = shapeCast S72x16x5760 (m ((c : Thread nD τ).loc main_arg4) : S3x384x5760.Idx → BitVec 8) shapeCasts_S3x384x5760_S72x16x5760 := by
  dsimp only [V, hostOps0]
  simp only [StableHlo.after_cons, StableHlo.after_nil]
  rw [StableHlo.reshape_result]
  rfl

theorem qM_apply (sg : S16.Idx → EReal) (x : S16x16.Idx) : qM sg x = qf (fun n => sg (ix1 n)) (x 0) (x 1) := by
  unfold qM
  pointwise
  change _ = ((((1#32 - 2#32 * parW (x 0).val (x 1).val).toInt : ℝ) : EReal) * sg (ix1 (x 1))) * Ideal.ofBits .f32 0x3E800000#32
  rw [← par_eq (x 0) (x 1)]
  rfl

theorem vM_apply (q : FVec Ideal S16x16 .f32) (d : S3x384x5760.Idx → EReal) (x : S72x16x5760.Idx) :
    vM q d x = ∑ j : Fin 16, q (ix2 (n0 := 16) (n1 := 16) (x 1) j) * d (ix3 (n0 := 3) (n1 := 384) ⟨(x 0).val / 24, by have h : (x 0).val < 72 := (x 0).isLt; omega⟩ ⟨16 * ((x 0).val % 24) + j.val, by omega⟩ (x 2)) := by
  unfold vM
  pointwise
  refine Finset.sum_congr rfl fun j _ => ?_
  rw [mul_comm]
  congr 2
  refine congrArg (fun z => ix3 _ z _) (Fin.ext ?_)
  exact congrArg (· + j.val) (Nat.mul_comm _ _)

end Cert.ReferenceIdeal.Hand
-- ==== Proof.RefVal.lean ====
module

public import proofs.«01_k».proof.Proof.RefHost
public import proofs.«01_k».proof.Proof.Grid

@[expose] public section

set_option maxRecDepth 65536

noncomputable section

/-! The reference's kernel, one element at a time. -/

namespace Cert.ReferenceIdeal.Hand

open Cert.ReferenceIdeal Cert.ReferenceIdeal.Gen
open Idealize.ShloMosaic Idealize.ShloMosaic.TcCoe Idealize.ShloMosaic.Tactic
open Cert.KernelIdeal.Hand (qf parW Sc wR refS codeR decK)

theorem pay4_apply (t : EReal) (a : S72x5760.Idx → EReal) (x : S72x5760.Idx) : (k0_pay4 (F := Ideal) t a : S72x5760.Idx → EReal) x = Sc (a x) t := rfl

theorem pay5_apply (t : EReal) (a : S72x5760.Idx → EReal) (v : S72x16x5760.Idx → EReal) (x : S72x16x5760.Idx) :
    (k0_pay5 (F := Ideal) t a v : S72x16x5760.Idx → EReal) x = wR (Sc (a (ix2 (n0 := 72) (n1 := 5760) (x 0) (x 2))) t) t (v x) := by
  unfold k0_pay5
  have h4 : ∀ x, (k0_pay4 (F := Ideal) t a : S72x5760.Idx → EReal) x = Sc (a x) t := pay4_apply t a
  generalize (k0_pay4 (F := Ideal) t a) = S at h4 ⊢
  pointwise
  rw [h4, wR]
  by_cases h : Sc (a (ix2 (n0 := 72) (n1 := 5760) (x 0) (x 2))) t = 0
  · rw [if_pos h, if_pos h]
  · rw [if_neg h, if_neg h, if_neg h]

theorem sel_dec {α : Type} (p : Prop) [Decidable p] (a b : α) : Scalar.select (BitVec.ofBool (decide p)) a b = if p then a else b := by
  by_cases h : p <;> simp [Scalar.select, h]

/-- One element's code from its quotient, its magnitude, its step and its random byte. -/
def wordS (w m st : EReal) (b : BitVec 8) : BitVec 32 :=
  let t := Ideal.div m st
  let u := (((b.setWidth 32).toInt : ℝ) : EReal)
  let f := Ideal.liftRound Int.floor t
  let q := (f + ((((BitVec.ofBool (decide ((u + Ideal.ofBits .f32 0x3F000000#32) * Ideal.ofBits .f32 0x3B800000#32 < t - f))).setWidth 32).toInt : ℝ) : EReal)) * st
  Ideal.fptosi 32 (Scalar.select (BitVec.ofBool (decide (q < Ideal.ofBits .f32 0x40000000#32))) (Ideal.ofBits .f32 0x40000000#32 * q) (Scalar.select (BitVec.ofBool (decide (q < Ideal.ofBits .f32 0x40800000#32))) (q + Ideal.ofBits .f32 0x40000000#32) (q * Ideal.ofBits .f32 0x3F000000#32 + Ideal.ofBits .f32 0x40800000#32)))
    + (BitVec.ofBool (decide (w < Ideal.ofBits .f32 0x00000000#32)) &&& BitVec.ofBool (decide (Ideal.ofBits .f32 0x00000000#32 < q))).setWidth 32 * 8#32

theorem wordS_eq (w m st : EReal) (b : BitVec 8) (hm : m = min (max w (-w)) (Ideal.ofBits .f32 0x40C00000#32))
    (hs : st = if m < Ideal.ofBits .f32 0x40000000#32 then Ideal.ofBits .f32 0x3F000000#32 else if m < Ideal.ofBits .f32 0x40800000#32 then Ideal.ofBits .f32 0x3F800000#32 else Ideal.ofBits .f32 0x40000000#32) :
    wordS w m st b = refS w b := by
  subst hm
  subst hs
  unfold wordS refS
  simp only [sel_dec]

theorem pay8_apply (w : S72x16x5760.Idx → EReal) (m st : S72x16x5760.Idx → EReal) (b : S72x16x5760.Idx → BitVec 8)
    (x : S72x8x2x5760.Idx) (z : S72x16x5760.Idx) (h0 : (z 0).val = (x 0).val) (h1 : (z 1).val = 2 * (x 1).val + (x 2).val) (h2 : (z 2).val = (x 3).val) :
    k0_pay8 (F := Ideal) w m st b x = wordS (w z) (m z) (st z) (b z) := by
  have e : k0_pay8 (F := Ideal) w m st b = shapeCast S72x8x2x5760 (fun z => wordS (w z) (m z) (st z) (b z)) shapeCasts_S72x16x5760_S72x8x2x5760 := by
    unfold k0_pay8
    rw [shapeCast_self]
    rfl
  rw [e]
  generalize hK : (fun z => wordS (w z) (m z) (st z) (b z)) = K
  have hz : wordS (w z) (m z) (st z) (b z) = K z := congrFun hK z
  rw [hz]
  pointwise
  refine congrArg K (funext fun a => ?_)
  match a with
  | ⟨0, _⟩ => exact Fin.ext h0.symm
  | ⟨1, _⟩ => exact Fin.ext (show (x 1).val * 2 + (x 2).val = (z 1).val by omega)
  | ⟨2, _⟩ => exact Fin.ext h2.symm

theorem pay9_apply (w m st : S72x16x5760.Idx → EReal) (b : S72x16x5760.Idx → BitVec 8) (x : S72x8x5760.Idx) :
    k0_pay9 (F := Ideal) w m st b x = k0_pay8 (F := Ideal) w m st b (ix4 (n0 := 72) (n1 := 8) (n2 := 2) (n3 := 5760) (x 0) (x 1) 0 (x 2)) := by
  unfold k0_pay9
  generalize k0_pay8 (F := Ideal) w m st b = A
  pointwise

theorem pay10_apply (w m st : S72x16x5760.Idx → EReal) (b : S72x16x5760.Idx → BitVec 8) (x : S72x8x5760.Idx) :
    k0_pay10 (F := Ideal) w m st b x = k0_pay8 (F := Ideal) w m st b (ix4 (n0 := 72) (n1 := 8) (n2 := 2) (n3 := 5760) (x 0) (x 1) 1 (x 2)) := by
  unfold k0_pay10
  generalize k0_pay8 (F := Ideal) w m st b = A
  pointwise

/-- What a code stands for, as the reference reads it. -/
def decB (k : BitVec 32) : EReal :=
  let b0 := IntOp.cmpi .ne (IntOp.andi k 1#32) 0#32
  let b1 := IntOp.cmpi .ne (IntOp.andi k 2#32) 0#32
  let b2 := IntOp.cmpi .ne (IntOp.andi k 4#32) 0#32
  let b3 := IntOp.cmpi .ne (IntOp.andi k 8#32) 0#32
  let m := Scalar.select b2 (Scalar.select b1 (Scalar.select b0 (Ideal.ofBits .f32 0x40C00000#32) (Ideal.ofBits .f32 0x40800000#32)) (Scalar.select b0 (Ideal.ofBits .f32 0x40400000#32) (Ideal.ofBits .f32 0x40000000#32)))
    (Scalar.select b1 (Scalar.select b0 (Ideal.ofBits .f32 0x3FC00000#32) (Ideal.ofBits .f32 0x3F800000#32)) (Scalar.select b0 (Ideal.ofBits .f32 0x3F000000#32) (Ideal.ofBits .f32 0x00000000#32)))
  Scalar.select b3 (Ideal.ofBits .f32 0x00000000#32 - m) m

theorem pay12_apply (A B : IVec S72x8x5760 32) (x : S72x8x5760.Idx) :
    (k0_pay12 (F := Ideal) A B 4#32 : S72x8x5760.Idx → EReal) x = decB (IntOp.andi (k0_pay11 A B 4#32 x) 15#32) := rfl

theorem inter_apply (D D' : S72x8x5760.Idx → EReal) (x : S72x16x5760.Idx) (z : S72x8x5760.Idx)
    (h0 : (z 0).val = (x 0).val) (h1 : (z 1).val = (x 1).val / 2) (h2 : (z 2).val = (x 2).val) :
    shapeCast S72x16x5760 (concatenate S72x8x2x5760 2 [⟨S72x8x1x5760, shapeCast S72x8x1x5760 D shapeCasts_S72x8x5760_S72x8x1x5760⟩, ⟨S72x8x1x5760, shapeCast S72x8x1x5760 D' shapeCasts_S72x8x5760_S72x8x1x5760⟩] concatenates_S72x8x1x5760_S72x8x1x5760_S72x8x2x5760_d2) shapeCasts_S72x8x2x5760_S72x16x5760 x
      = if (x 1).val % 2 = 0 then D z else D' z := by
  pointwise
  have ez : z = ix3 (n0 := 72) (n1 := 8) (n2 := 5760) (x 0) ⟨(x 1).val / 2, by have h : (x 1).val < 16 := (x 1).isLt; omega⟩ (x 2) := by
    funext a
    match a with
    | ⟨0, _⟩ => exact Fin.ext h0
    | ⟨1, _⟩ => exact Fin.ext h1
    | ⟨2, _⟩ => exact Fin.ext h2
  rw [ez]
  by_cases h : (x 1).val % 2 = 0
  · rw [if_pos h, dif_pos (show (x 1).val % 2 < 1 by omega)]
  · rw [if_neg h, dif_neg (show ¬ (x 1).val % 2 < 1 by omega)]

theorem pay14_apply (W : IVec S72x8x5760 32) (D : S72x8x5760.Idx → EReal) (x : S72x16x5760.Idx) (z : S72x8x5760.Idx)
    (h0 : (z 0).val = (x 0).val) (h1 : (z 1).val = (x 1).val / 2) (h2 : (z 2).val = (x 2).val) :
    (k0_pay14 (F := Ideal) W D k0_pay13 : S72x16x5760.Idx → EReal) x = if (x 1).val % 2 = 0 then D z else decB (IntOp.shrsi .vector (W z) 4#32) :=
  inter_apply D (fun z => decB (IntOp.shrsi .vector (W z) 4#32)) x z h0 h1 h2

theorem pay1_apply (t0 t1 : EReal) (E S : S72x16x5760.Idx → EReal) (X : S2880x1152.Idx → EReal) (x : S2880x5760.Idx) :
    (k0_pay1 (F := Ideal) t1 E S X t0 : S2880x5760.Idx → EReal) x
      = (∑ k : Fin 1152, X (ix2 (n0 := 2880) (n1 := 1152) (x 0) k) * (E (ix3 (n0 := 72) (n1 := 16) (n2 := 5760) ⟨k.val / 16, by omega⟩ ⟨k.val % 16, by omega⟩ (x 1)) * S (ix3 (n0 := 72) (n1 := 16) (n2 := 5760) ⟨k.val / 16, by omega⟩ ⟨k.val % 16, by omega⟩ (x 1)))) * (t0 * t1) := by
  unfold k0_pay1
  pointwise

theorem pay15_apply (S : S72x5760.Idx → EReal) (x : S72x16x5760.Idx) : (k0_pay15 (F := Ideal) S : S72x16x5760.Idx → EReal) x = S (ix2 (n0 := 72) (n1 := 5760) (x 0) (x 2)) := by
  unfold k0_pay15
  pointwise

theorem pay2_apply (W : IVec S72x8x5760 32) (x : S3x192x5760.Idx) (z : S72x8x5760.Idx)
    (h0 : (z 0).val = 24 * (x 0).val + (x 1).val / 8) (h1 : (z 1).val = (x 1).val % 8) (h2 : (z 2).val = (x 2).val) : k0_pay2 W x = (W z).setWidth 8 := by
  unfold k0_pay2
  pointwise
  refine congrArg (fun y => (W y).setWidth 8) (funext fun a => ?_)
  match a with
  | ⟨0, _⟩ => exact Fin.ext (show (x 0).val * 24 + (x 1).val / 8 = (z 0).val by omega)
  | ⟨1, _⟩ => exact Fin.ext h1.symm
  | ⟨2, _⟩ => exact Fin.ext h2.symm

theorem pay3_apply (S : S72x5760.Idx → EReal) (x : S3x24x5760.Idx) (z : S72x5760.Idx)
    (h0 : (z 0).val = 24 * (x 0).val + (x 1).val) (h2 : (z 1).val = (x 2).val) : (k0_pay3 (F := Ideal) S : S3x24x5760.Idx → EReal) x = S z := by
  unfold k0_pay3
  pointwise
  refine congrArg S (funext fun a => ?_)
  match a with
  | ⟨0, _⟩ => exact Fin.ext (show (x 0).val * 24 + (x 1).val = (z 0).val by omega)
  | ⟨1, _⟩ => exact Fin.ext h2.symm

end Cert.ReferenceIdeal.Hand
-- ==== Proof.RefRun.lean ====
module

public import proofs.«01_k».proof.Proof.Gen.ReferenceIdeal.Value

@[expose] public section

set_option maxRecDepth 65536

noncomputable section

/-! What the reference's one kernel leaves in its three arrays. -/

namespace Cert.ReferenceIdeal.Hand

open Cert.ReferenceIdeal Cert.ReferenceIdeal.Gen Cert.ReferenceIdeal.Value Idealize.ShloMosaic Idealize.ShloMosaic.TcCoe Idealize.SL.Sem

variable {F : FTy → Type} [FloatOps F]

/-- Place `k` of the two-word argument. -/
def word (k : Fin 2) : S2.Idx := fun a => match a with | ⟨0, _⟩ => k

theorem hz2 : (![0, 0] : Fin 2 → Nat) = fun _ => 0 := funext fun a => by fin_cases a <;> rfl
theorem hz3 : (![0, 0, 0] : Fin 3 → Nat) = fun _ => 0 := funext fun a => by fin_cases a <;> rfl

/-- The codes' bytes as words, of the kernel's first four operands. -/
def GW (v : Vec F S72x16x5760 .f32) (s : Vec F S2 .f32) (b : Vec F S72x16x5760 .i8) (a : Vec F S72x5760 .f32) : IVec S72x8x5760 32 :=
  k0_pay11 (k0_pay9 (k0_pay5 (s (word 1)) a v) (k0_pay6 (s (word 1)) a v) (k0_pay7 (s (word 1)) a v) b)
    (k0_pay10 (k0_pay5 (s (word 1)) a v) (k0_pay6 (s (word 1)) a v) (k0_pay7 (s (word 1)) a v) b) 4#32

/-- What the three stores write, of the five operands. -/
def G5 (v : Vec F S72x16x5760 .f32) (s : Vec F S2 .f32) (b : Vec F S72x16x5760 .i8) (a : Vec F S72x5760 .f32) (x : Vec F S2880x1152 .bf16) : FVec F S2880x5760 .f32 :=
  k0_pay1 (s (word 1))
    (k0_pay14 (GW v s b a)
      (k0_pay12 (k0_pay9 (k0_pay5 (s (word 1)) a v) (k0_pay6 (s (word 1)) a v) (k0_pay7 (s (word 1)) a v) b)
        (k0_pay10 (k0_pay5 (s (word 1)) a v) (k0_pay6 (s (word 1)) a v) (k0_pay7 (s (word 1)) a v) b) 4#32) k0_pay13)
    (k0_pay15 (k0_pay4 (s (word 1)) a)) x (s (word 0))
@[inherit_doc G5] def G6 (v : Vec F S72x16x5760 .f32) (s : Vec F S2 .f32) (b : Vec F S72x16x5760 .i8) (a : Vec F S72x5760 .f32) : IVec S3x192x5760 8 :=
  k0_pay2 (GW v s b a)
@[inherit_doc G5] def G7 (s : Vec F S2 .f32) (a : Vec F S72x5760 .f32) : FVec F S3x24x5760 .fp8e4m3 :=
  k0_pay3 (k0_pay4 (s (word 1)) a)

section Out
variable (c : Dev nD) (arg0 : Memref sig .tc .vmem S72x16x5760 .f32) (h0 : arg0.IsWhole) (arg1 : Memref sig .tc .smem S2 .f32) (h1 : arg1.IsWhole) (arg2 : Memref sig .tc .vmem S72x16x5760 .i8) (h2 : arg2.IsWhole) (arg3 : Memref sig .tc .vmem S72x5760 .f32) (h3 : arg3.IsWhole) (arg4 : Memref sig .tc .vmem S2880x1152 .bf16) (h4 : arg4.IsWhole) (arg5 : Memref sig .tc .vmem S2880x5760 .f32) (h5 : arg5.IsWhole) (arg6 : Memref sig .tc .vmem S3x192x5760 .i8) (h6 : arg6.IsWhole) (arg7 : Memref sig .tc .vmem S3x24x5760 .fp8e4m3) (h7 : arg7.IsWhole)
  (x0 : Vec F S72x16x5760 .f32) (x1 : Vec F S2 .f32) (x2 : Vec F S72x16x5760 .i8) (x3 : Vec F S72x5760 .f32) (x4 : Vec F S2880x1152 .bf16)

abbrev ld0 : Vec F S72x16x5760 .f32 := View.readAt (Elt F) arg0.view (Rect.unit ![0, 0, 0] S72x16x5760.size inb_S72x16x5760_S72x16x5760_0_0_0).toLoadRect (h0.unread x0)
abbrev ld2 : Vec F S72x16x5760 .i8 := View.readAt (Elt F) arg2.view (Rect.unit ![0, 0, 0] S72x16x5760.size inb_S72x16x5760_S72x16x5760_0_0_0).toLoadRect (h2.unread x2)
abbrev ld3 : Vec F S72x5760 .f32 := View.readAt (Elt F) arg3.view (Rect.unit ![0, 0] S72x5760.size inb_S72x5760_S72x5760_0_0).toLoadRect (h3.unread x3)
abbrev ld4 : Vec F S2880x1152 .bf16 := View.readAt (Elt F) arg4.view (Rect.unit ![0, 0] S2880x1152.size inb_S2880x1152_S2880x1152_0_0).toLoadRect (h4.unread x4)
abbrev lw0 : Elt F .f32 := View.readAt (Elt F) arg1.view (Rect.unit (s := S2) ![0] S1.size inb_S2_S1_0).toLoadRect (h1.unread x1) (Shape.Idx.first (numel1_S1.symm ▸ Nat.one_pos))
abbrev lw1 : Elt F .f32 := View.readAt (Elt F) arg1.view (Rect.unit (s := S2) ![1] S1.size inb_S2_S1_1).toLoadRect (h1.unread x1) (Shape.Idx.first (numel1_S1.symm ▸ Nat.one_pos))

theorem ld0_eq : ld0 arg0 h0 x0 = x0 := by rw [ld0, View.readAt_eq_ld, h0.read_unread, View.ld_unit_zero hz3]
theorem ld2_eq : ld2 arg2 h2 x2 = x2 := by rw [ld2, View.readAt_eq_ld, h2.read_unread, View.ld_unit_zero hz3]
theorem ld3_eq : ld3 arg3 h3 x3 = x3 := by rw [ld3, View.readAt_eq_ld, h3.read_unread, View.ld_unit_zero hz2]
theorem ld4_eq : ld4 arg4 h4 x4 = x4 := by rw [ld4, View.readAt_eq_ld, h4.read_unread, View.ld_unit_zero hz2]

/-- The two words as the body loads them. -/
def ws : Vec F S2 .f32 := fun i => if (i 0).val = 0 then lw0 arg1 h1 x1 else lw1 arg1 h1 x1

theorem ws_eq : ws arg1 h1 x1 = x1 := by
  funext i
  unfold ws
  have hi : (i 0).val < 2 := (i 0).isLt
  split
  · rename_i h
    rw [lw0, View.readAt_eq_ld, h1.read_unread]
    exact congrArg x1 (funext fun a => by match a with | ⟨0, _⟩ => exact Fin.ext h.symm)
  · rename_i h
    rw [lw1, View.readAt_eq_ld, h1.read_unread]
    exact congrArg x1 (funext fun a => by match a with | ⟨0, _⟩ => exact Fin.ext (show 1 = (i 0).val by omega))

theorem out5_eq : out0_A_5 c arg0 h0 arg1 h1 arg2 h2 arg3 h3 arg4 h4 arg5 h5 arg6 h6 arg7 h7 x0 x1 x2 x3 x4 = G5 x0 x1 x2 x3 x4 := by
  unfold out0_A_5
  rw [View.read_writes_junk_eq_canon]
  show View.canon ([⟨Rect.unit ![0, 0] S2880x5760.size inb_S2880x5760_S2880x5760_0_0, G5 (ld0 arg0 h0 x0) (ws arg1 h1 x1) (ld2 arg2 h2 x2) (ld3 arg3 h3 x3) (ld4 arg4 h4 x4)⟩] : List (View.Piece (Elt F) S2880x5760 .f32)) = _
  rw [View.canon_unit_zero hz2, ld0_eq, ld2_eq, ld3_eq, ld4_eq, ws_eq]

theorem out6_eq : out0_A_6 c arg0 h0 arg1 h1 arg2 h2 arg3 h3 arg4 h4 arg5 h5 arg6 h6 arg7 h7 x0 x1 x2 x3 x4 = G6 x0 x1 x2 x3 := by
  unfold out0_A_6
  rw [View.read_writes_junk_eq_canon]
  show View.canon ([⟨Rect.unit ![0, 0, 0] S3x192x5760.size inb_S3x192x5760_S3x192x5760_0_0_0, G6 (ld0 arg0 h0 x0) (ws arg1 h1 x1) (ld2 arg2 h2 x2) (ld3 arg3 h3 x3)⟩] : List (View.Piece (Elt F) S3x192x5760 .i8)) = _
  rw [View.canon_unit_zero hz3, ld0_eq, ld2_eq, ld3_eq, ws_eq]

theorem out7_eq : out0_A_7 c arg0 h0 arg1 h1 arg2 h2 arg3 h3 arg4 h4 arg5 h5 arg6 h6 arg7 h7 x0 x1 x2 x3 x4 = G7 x1 x3 := by
  unfold out0_A_7
  rw [View.read_writes_junk_eq_canon]
  show View.canon ([⟨Rect.unit ![0, 0, 0] S3x24x5760.size inb_S3x24x5760_S3x24x5760_0_0_0, G7 (ws arg1 h1 x1) (ld3 arg3 h3 x3)⟩] : List (View.Piece (Elt F) S3x24x5760 .fp8e4m3)) = _
  rw [View.canon_unit_zero hz3, ld3_eq, ws_eq]

end Out

variable (m : (ℓ : Loc nD τ sig) → Buf (Elt F) ℓ) (ρ : Dev nD → PrngReg)

theorem idx0 : ∀ t : Fin cfg0.N, win0_0.index t (0 : Fin 3) = 0 ∧ win0_0.index t (1 : Fin 3) = 0 ∧ win0_0.index t (2 : Fin 3) = 0 := (by decide +kernel : ∀ t : Fin grid0.N, _)
theorem emb0 (t : Fin cfg0.N) (j : S72x16x5760.Idx) : ((cfg0.win 0).blk t).view.emb j = j := by
  obtain ⟨e0, e1, e2⟩ := idx0 t
  funext a; apply Fin.ext
  match a with
  | ⟨0, _⟩ => show win0_0.index t (0 : Fin 3) * 72 + 1 * (j 0).val = (j 0).val; omega
  | ⟨1, _⟩ => show win0_0.index t (1 : Fin 3) * 16 + 1 * (j 1).val = (j 1).val; omega
  | ⟨2, _⟩ => show win0_0.index t (2 : Fin 3) * 5760 + 1 * (j 2).val = (j 2).val; omega
theorem iblk0_eq (c : Dev nD) (t : Fin cfg0.N) : iblk m c 0 t = V m c main_v22 := by
  funext j; show V m c main_v22 (((cfg0.win 0).blk t).view.emb j) = V m c main_v22 j; rw [emb0]
theorem idx1 : ∀ t : Fin cfg0.N, win0_1.index t (0 : Fin 1) = 0 := (by decide +kernel : ∀ t : Fin grid0.N, _)
theorem emb1 (t : Fin cfg0.N) (j : S2.Idx) : ((cfg0.win 1).blk t).view.emb j = j := by
  have e0 := idx1 t
  funext a; apply Fin.ext
  match a with
  | ⟨0, _⟩ => show win0_1.index t (0 : Fin 1) * 2 + 1 * (j 0).val = (j 0).val; omega
theorem iblk1_eq (c : Dev nD) (t : Fin cfg0.N) : iblk m c 1 t = V m c main_arg1 := by
  funext j; show V m c main_arg1 (((cfg0.win 1).blk t).view.emb j) = V m c main_arg1 j; rw [emb1]
theorem idx2 : ∀ t : Fin cfg0.N, win0_2.index t (0 : Fin 3) = 0 ∧ win0_2.index t (1 : Fin 3) = 0 ∧ win0_2.index t (2 : Fin 3) = 0 := (by decide +kernel : ∀ t : Fin grid0.N, _)
theorem emb2 (t : Fin cfg0.N) (j : S72x16x5760.Idx) : ((cfg0.win 2).blk t).view.emb j = j := by
  obtain ⟨e0, e1, e2⟩ := idx2 t
  funext a; apply Fin.ext
  match a with
  | ⟨0, _⟩ => show win0_2.index t (0 : Fin 3) * 72 + 1 * (j 0).val = (j 0).val; omega
  | ⟨1, _⟩ => show win0_2.index t (1 : Fin 3) * 16 + 1 * (j 1).val = (j 1).val; omega
  | ⟨2, _⟩ => show win0_2.index t (2 : Fin 3) * 5760 + 1 * (j 2).val = (j 2).val; omega
theorem iblk2_eq (c : Dev nD) (t : Fin cfg0.N) : iblk m c 2 t = V m c main_v23 := by
  funext j; show V m c main_v23 (((cfg0.win 2).blk t).view.emb j) = V m c main_v23 j; rw [emb2]
theorem idx3 : ∀ t : Fin cfg0.N, win0_3.index t (0 : Fin 2) = 0 ∧ win0_3.index t (1 : Fin 2) = 0 := (by decide +kernel : ∀ t : Fin grid0.N, _)
theorem emb3 (t : Fin cfg0.N) (j : S72x5760.Idx) : ((cfg0.win 3).blk t).view.emb j = j := by
  obtain ⟨e0, e1⟩ := idx3 t
  funext a; apply Fin.ext
  match a with
  | ⟨0, _⟩ => show win0_3.index t (0 : Fin 2) * 72 + 1 * (j 0).val = (j 0).val; omega
  | ⟨1, _⟩ => show win0_3.index t (1 : Fin 2) * 5760 + 1 * (j 1).val = (j 1).val; omega
theorem iblk3_eq (c : Dev nD) (t : Fin cfg0.N) : iblk m c 3 t = V m c main_arg5 := by
  funext j; show V m c main_arg5 (((cfg0.win 3).blk t).view.emb j) = V m c main_arg5 j; rw [emb3]
theorem idx4 : ∀ t : Fin cfg0.N, win0_4.index t (0 : Fin 2) = 0 ∧ win0_4.index t (1 : Fin 2) = 0 := (by decide +kernel : ∀ t : Fin grid0.N, _)
theorem emb4 (t : Fin cfg0.N) (j : S2880x1152.Idx) : ((cfg0.win 4).blk t).view.emb j = j := by
  obtain ⟨e0, e1⟩ := idx4 t
  funext a; apply Fin.ext
  match a with
  | ⟨0, _⟩ => show win0_4.index t (0 : Fin 2) * 2880 + 1 * (j 0).val = (j 0).val; omega
  | ⟨1, _⟩ => show win0_4.index t (1 : Fin 2) * 1152 + 1 * (j 1).val = (j 1).val; omega
theorem iblk4_eq (c : Dev nD) (t : Fin cfg0.N) : iblk m c 4 t = V m c main_arg2 := by
  funext j; show V m c main_arg2 (((cfg0.win 4).blk t).view.emb j) = V m c main_arg2 j; rw [emb4]
theorem idx5 : ∀ t : Fin cfg0.N, win0_5.index t (0 : Fin 2) = 0 ∧ win0_5.index t (1 : Fin 2) = 0 := (by decide +kernel : ∀ t : Fin grid0.N, _)
theorem emb5 (t : Fin cfg0.N) (j : S2880x5760.Idx) : ((cfg0.win 5).blk t).view.emb j = j := by
  obtain ⟨e0, e1⟩ := idx5 t
  funext a; apply Fin.ext
  match a with
  | ⟨0, _⟩ => show win0_5.index t (0 : Fin 2) * 2880 + 1 * (j 0).val = (j 0).val; omega
  | ⟨1, _⟩ => show win0_5.index t (1 : Fin 2) * 5760 + 1 * (j 1).val = (j 1).val; omega
theorem cut5_eq (t : Fin cfg0.N) (X : Vec F S2880x5760 .f32) : (cfg0.win 5).cut (grid0.coords t) X = ((cfg0.win 5).blk t).view.read (Elt F) X := by
  funext j
  show X j = X (((cfg0.win 5).blk t).view.emb j)
  rw [emb5]
theorem covered5 (i : S2880x5760.Idx) : ∃ t : Fin cfg0.N, (cfg0.win 5).flush t = true ∧ i ∈ ((cfg0.win 5).blk t).view.set :=
  ⟨(⟨0, by decide⟩ : Fin cfg0.N), flush0_5 _, by
    have h := ((cfg0.win 5).blk (⟨0, by decide⟩ : Fin cfg0.N)).view.emb_mem_set i; rwa [emb5] at h⟩
theorem final5 (c : Dev nD) : (dats m 0 c).arrAt 5 cfg0.N = G5 (V m c main_v22) (V m c main_arg1) (V m c main_v23) (V m c main_arg5) (V m c main_arg2) :=
  (dats m 0 c).arrAt_eq_of_cover 5 (G5 (V m c main_v22) (V m c main_arg1) (V m c main_v23) (V m c main_arg5) (V m c main_arg2)) (fun t _ => by
    rw [flushed5_A, out5_eq, iblk0_eq, iblk1_eq, iblk2_eq, iblk3_eq, iblk4_eq]
    exact cut5_eq t _) covered5

theorem idx6 : ∀ t : Fin cfg0.N, win0_6.index t (0 : Fin 3) = 0 ∧ win0_6.index t (1 : Fin 3) = 0 ∧ win0_6.index t (2 : Fin 3) = 0 := (by decide +kernel : ∀ t : Fin grid0.N, _)
theorem emb6 (t : Fin cfg0.N) (j : S3x192x5760.Idx) : ((cfg0.win 6).blk t).view.emb j = j := by
  obtain ⟨e0, e1, e2⟩ := idx6 t
  funext a; apply Fin.ext
  match a with
  | ⟨0, _⟩ => show win0_6.index t (0 : Fin 3) * 3 + 1 * (j 0).val = (j 0).val; omega
  | ⟨1, _⟩ => show win0_6.index t (1 : Fin 3) * 192 + 1 * (j 1).val = (j 1).val; omega
  | ⟨2, _⟩ => show win0_6.index t (2 : Fin 3) * 5760 + 1 * (j 2).val = (j 2).val; omega
theorem cut6_eq (t : Fin cfg0.N) (X : Vec F S3x192x5760 .i8) : (cfg0.win 6).cut (grid0.coords t) X = ((cfg0.win 6).blk t).view.read (Elt F) X := by
  funext j
  show X j = X (((cfg0.win 6).blk t).view.emb j)
  rw [emb6]
theorem covered6 (i : S3x192x5760.Idx) : ∃ t : Fin cfg0.N, (cfg0.win 6).flush t = true ∧ i ∈ ((cfg0.win 6).blk t).view.set :=
  ⟨(⟨0, by decide⟩ : Fin cfg0.N), flush0_6 _, by
    have h := ((cfg0.win 6).blk (⟨0, by decide⟩ : Fin cfg0.N)).view.emb_mem_set i; rwa [emb6] at h⟩
theorem final6 (c : Dev nD) : (dats m 0 c).arrAt 6 cfg0.N = G6 (V m c main_v22) (V m c main_arg1) (V m c main_v23) (V m c main_arg5) :=
  (dats m 0 c).arrAt_eq_of_cover 6 (G6 (V m c main_v22) (V m c main_arg1) (V m c main_v23) (V m c main_arg5)) (fun t _ => by
    rw [flushed6_A, out6_eq, iblk0_eq, iblk1_eq, iblk2_eq, iblk3_eq]
    exact cut6_eq t _) covered6

theorem idx7 : ∀ t : Fin cfg0.N, win0_7.index t (0 : Fin 3) = 0 ∧ win0_7.index t (1 : Fin 3) = 0 ∧ win0_7.index t (2 : Fin 3) = 0 := (by decide +kernel : ∀ t : Fin grid0.N, _)
theorem emb7 (t : Fin cfg0.N) (j : S3x24x5760.Idx) : ((cfg0.win 7).blk t).view.emb j = j := by
  obtain ⟨e0, e1, e2⟩ := idx7 t
  funext a; apply Fin.ext
  match a with
  | ⟨0, _⟩ => show win0_7.index t (0 : Fin 3) * 3 + 1 * (j 0).val = (j 0).val; omega
  | ⟨1, _⟩ => show win0_7.index t (1 : Fin 3) * 24 + 1 * (j 1).val = (j 1).val; omega
  | ⟨2, _⟩ => show win0_7.index t (2 : Fin 3) * 5760 + 1 * (j 2).val = (j 2).val; omega
theorem cut7_eq (t : Fin cfg0.N) (X : Vec F S3x24x5760 .fp8e4m3) : (cfg0.win 7).cut (grid0.coords t) X = ((cfg0.win 7).blk t).view.read (Elt F) X := by
  funext j
  show X j = X (((cfg0.win 7).blk t).view.emb j)
  rw [emb7]
theorem covered7 (i : S3x24x5760.Idx) : ∃ t : Fin cfg0.N, (cfg0.win 7).flush t = true ∧ i ∈ ((cfg0.win 7).blk t).view.set :=
  ⟨(⟨0, by decide⟩ : Fin cfg0.N), flush0_7 _, by
    have h := ((cfg0.win 7).blk (⟨0, by decide⟩ : Fin cfg0.N)).view.emb_mem_set i; rwa [emb7] at h⟩
theorem final7 (c : Dev nD) : (dats m 0 c).arrAt 7 cfg0.N = G7 (V m c main_arg1) (V m c main_arg5) :=
  (dats m 0 c).arrAt_eq_of_cover 7 (G7 (V m c main_arg1) (V m c main_arg5)) (fun t _ => by
    rw [flushed7_A, out7_eq, iblk1_eq, iblk3_eq]
    exact cut7_eq t _) covered7

end Cert.ReferenceIdeal.Hand
-- ==== Proof.RefCol.lean ====
module

public import proofs.«01_k».proof.Proof.RefVal
public import proofs.«01_k».proof.Proof.RefRun
public import proofs.«01_k».proof.Proof.Cols

@[expose] public section

set_option maxRecDepth 65536

noncomputable section

/-! The reference's three results, column by column. -/

namespace Cert.ReferenceIdeal.Hand

open Cert.ReferenceIdeal Cert.ReferenceIdeal.Gen
open Idealize.ShloMosaic Idealize.ShloMosaic.TcCoe Idealize.ShloMosaic.Tactic
open Idealize.SL.Sem
open Cert.KernelIdeal.Hand (qf parW Sc wR refS refS_eq codeR decK Col colA Q7 Q8 Q9 NIB rowCol c_of c_0 c_1 c_2 c_4 c_6 c_1_2)

theorem c_3 : Ideal.ofBits .f32 0x40400000#32 = ((3 : ℝ) : EReal) := by
  rw [c_of 0x40400000#32 128 4194304 (by decide) (by decide) (by decide) (by decide) (by decide)]; norm_num
theorem c_3_2 : Ideal.ofBits .f32 0x3FC00000#32 = ((3 / 2 : ℝ) : EReal) := by
  rw [c_of 0x3FC00000#32 127 4194304 (by decide) (by decide) (by decide) (by decide) (by decide)]; norm_num

/-- The eight magnitudes. -/
theorem mag_0 : Ideal.ofBits .f32 0x00000000#32 = Ideal.ofBits .f32 0x3F000000#32 * (((0 : ℤ) : ℝ) : EReal) := by
  simp only [c_0, c_1, c_2, c_3, c_4, c_6, c_1_2, c_3_2, ← EReal.coe_mul]
  norm_num
theorem mag_1 : Ideal.ofBits .f32 0x3F000000#32 = Ideal.ofBits .f32 0x3F000000#32 * (((1 : ℤ) : ℝ) : EReal) := by
  simp only [c_0, c_1, c_2, c_3, c_4, c_6, c_1_2, c_3_2, ← EReal.coe_mul]
  norm_num
theorem mag_2 : Ideal.ofBits .f32 0x3F800000#32 = Ideal.ofBits .f32 0x3F000000#32 * (((2 : ℤ) : ℝ) : EReal) := by
  simp only [c_0, c_1, c_2, c_3, c_4, c_6, c_1_2, c_3_2, ← EReal.coe_mul]
  norm_num
theorem mag_3 : Ideal.ofBits .f32 0x3FC00000#32 = Ideal.ofBits .f32 0x3F000000#32 * (((3 : ℤ) : ℝ) : EReal) := by
  simp only [c_0, c_1, c_2, c_3, c_4, c_6, c_1_2, c_3_2, ← EReal.coe_mul]
  norm_num
theorem mag_4 : Ideal.ofBits .f32 0x40000000#32 = (((2 : ℤ) : ℝ) : EReal) := by
  simp only [c_0, c_1, c_2, c_3, c_4, c_6, c_1_2, c_3_2, ← EReal.coe_mul]
  norm_num
theorem mag_5 : Ideal.ofBits .f32 0x40400000#32 = (((3 : ℤ) : ℝ) : EReal) := by
  simp only [c_0, c_1, c_2, c_3, c_4, c_6, c_1_2, c_3_2, ← EReal.coe_mul]
  norm_num
theorem mag_6 : Ideal.ofBits .f32 0x40800000#32 = (((4 : ℤ) : ℝ) : EReal) := by
  simp only [c_0, c_1, c_2, c_3, c_4, c_6, c_1_2, c_3_2, ← EReal.coe_mul]
  norm_num
theorem mag_7 : Ideal.ofBits .f32 0x40C00000#32 = (((6 : ℤ) : ℝ) : EReal) := by
  simp only [c_0, c_1, c_2, c_3, c_4, c_6, c_1_2, c_3_2, ← EReal.coe_mul]
  norm_num

theorem decB_lit (n : BitVec 32) (b0 b1 b2 b3 : BitVec 1) (h0 : IntOp.cmpi .ne (IntOp.andi n 1#32) 0#32 = b0) (h1 : IntOp.cmpi .ne (IntOp.andi n 2#32) 0#32 = b1)
    (h2 : IntOp.cmpi .ne (IntOp.andi n 4#32) 0#32 = b2) (h3 : IntOp.cmpi .ne (IntOp.andi n 8#32) 0#32 = b3) :
    decB n = (let m : EReal := Scalar.select b2 (Scalar.select b1 (Scalar.select b0 (Ideal.ofBits .f32 0x40C00000#32) (Ideal.ofBits .f32 0x40800000#32)) (Scalar.select b0 (Ideal.ofBits .f32 0x40400000#32) (Ideal.ofBits .f32 0x40000000#32))) (Scalar.select b1 (Scalar.select b0 (Ideal.ofBits .f32 0x3FC00000#32) (Ideal.ofBits .f32 0x3F800000#32)) (Scalar.select b0 (Ideal.ofBits .f32 0x3F000000#32) (Ideal.ofBits .f32 0x00000000#32))); Scalar.select b3 (Ideal.ofBits .f32 0x00000000#32 - m) m) := by
  subst h0 h1 h2 h3; rfl

theorem decK_lit (n : BitVec 32) (c4 c8 : BitVec 1) (i j : ℤ) (h4 : IntOp.cmpi .slt (IntOp.andi n 7#32) 4#32 = c4) (h8 : IntOp.cmpi .sge n 8#32 = c8)
    (hi : (IntOp.andi n 7#32).toInt = i) (hj : (Scalar.select (IntOp.cmpi .slt (IntOp.andi n 7#32) 6#32) (IntOp.andi n 7#32 - 2#32) (2#32 * IntOp.andi n 7#32 - 8#32)).toInt = j) :
    decK n = (let m : EReal := Scalar.select c4 (Ideal.ofBits .f32 0x3F000000#32 * ((i : ℝ) : EReal)) ((j : ℝ) : EReal); Scalar.select c8 (Ideal.ofBits .f32 0x00000000#32 - m) m) := by
  subst h4 h8 hi hj; rfl

theorem codes : ∀ n : BitVec 4, n = 0#4 ∨ n = 1#4 ∨ n = 2#4 ∨ n = 3#4 ∨ n = 4#4 ∨ n = 5#4 ∨ n = 6#4 ∨ n = 7#4 ∨ n = 8#4 ∨ n = 9#4 ∨ n = 10#4 ∨ n = 11#4 ∨ n = 12#4 ∨ n = 13#4 ∨ n = 14#4 ∨ n = 15#4 := by decide +kernel

/-- The reference's reading of a code and the kernel's agree. -/
theorem dec_eq (n : BitVec 4) : decB (n.setWidth 32) = decK (n.setWidth 32) := by
  rcases codes n with rfl | rfl | rfl | rfl | rfl | rfl | rfl | rfl | rfl | rfl | rfl | rfl | rfl | rfl | rfl | rfl
  · exact (decB_lit _ 0#1 0#1 0#1 0#1 (by decide +kernel) (by decide +kernel) (by decide +kernel) (by decide +kernel)).trans (Eq.trans mag_0 (decK_lit _ 1#1 0#1 0 (-2) (by decide +kernel) (by decide +kernel) (by decide +kernel) (by decide +kernel)).symm)
  · exact (decB_lit _ 1#1 0#1 0#1 0#1 (by decide +kernel) (by decide +kernel) (by decide +kernel) (by decide +kernel)).trans (Eq.trans mag_1 (decK_lit _ 1#1 0#1 1 (-1) (by decide +kernel) (by decide +kernel) (by decide +kernel) (by decide +kernel)).symm)
  · exact (decB_lit _ 0#1 1#1 0#1 0#1 (by decide +kernel) (by decide +kernel) (by decide +kernel) (by decide +kernel)).trans (Eq.trans mag_2 (decK_lit _ 1#1 0#1 2 (0) (by decide +kernel) (by decide +kernel) (by decide +kernel) (by decide +kernel)).symm)
  · exact (decB_lit _ 1#1 1#1 0#1 0#1 (by decide +kernel) (by decide +kernel) (by decide +kernel) (by decide +kernel)).trans (Eq.trans mag_3 (decK_lit _ 1#1 0#1 3 (1) (by decide +kernel) (by decide +kernel) (by decide +kernel) (by decide +kernel)).symm)
  · exact (decB_lit _ 0#1 0#1 1#1 0#1 (by decide +kernel) (by decide +kernel) (by decide +kernel) (by decide +kernel)).trans (Eq.trans mag_4 (decK_lit _ 0#1 0#1 4 (2) (by decide +kernel) (by decide +kernel) (by decide +kernel) (by decide +kernel)).symm)
  · exact (decB_lit _ 1#1 0#1 1#1 0#1 (by decide +kernel) (by decide +kernel) (by decide +kernel) (by decide +kernel)).trans (Eq.trans mag_5 (decK_lit _ 0#1 0#1 5 (3) (by decide +kernel) (by decide +kernel) (by decide +kernel) (by decide +kernel)).symm)
  · exact (decB_lit _ 0#1 1#1 1#1 0#1 (by decide +kernel) (by decide +kernel) (by decide +kernel) (by decide +kernel)).trans (Eq.trans mag_6 (decK_lit _ 0#1 0#1 6 (4) (by decide +kernel) (by decide +kernel) (by decide +kernel) (by decide +kernel)).symm)
  · exact (decB_lit _ 1#1 1#1 1#1 0#1 (by decide +kernel) (by decide +kernel) (by decide +kernel) (by decide +kernel)).trans (Eq.trans mag_7 (decK_lit _ 0#1 0#1 7 (6) (by decide +kernel) (by decide +kernel) (by decide +kernel) (by decide +kernel)).symm)
  · exact (decB_lit _ 0#1 0#1 0#1 1#1 (by decide +kernel) (by decide +kernel) (by decide +kernel) (by decide +kernel)).trans (Eq.trans (congrArg (Ideal.ofBits .f32 0x00000000#32 - ·) mag_0) (decK_lit _ 1#1 1#1 0 (-2) (by decide +kernel) (by decide +kernel) (by decide +kernel) (by decide +kernel)).symm)
  · exact (decB_lit _ 1#1 0#1 0#1 1#1 (by decide +kernel) (by decide +kernel) (by decide +kernel) (by decide +kernel)).trans (Eq.trans (congrArg (Ideal.ofBits .f32 0x00000000#32 - ·) mag_1) (decK_lit _ 1#1 1#1 1 (-1) (by decide +kernel) (by decide +kernel) (by decide +kernel) (by decide +kernel)).symm)
  · exact (decB_lit _ 0#1 1#1 0#1 1#1 (by decide +kernel) (by decide +kernel) (by decide +kernel) (by decide +kernel)).trans (Eq.trans (congrArg (Ideal.ofBits .f32 0x00000000#32 - ·) mag_2) (decK_lit _ 1#1 1#1 2 (0) (by decide +kernel) (by decide +kernel) (by decide +kernel) (by decide +kernel)).symm)
  · exact (decB_lit _ 1#1 1#1 0#1 1#1 (by decide +kernel) (by decide +kernel) (by decide +kernel) (by decide +kernel)).trans (Eq.trans (congrArg (Ideal.ofBits .f32 0x00000000#32 - ·) mag_3) (decK_lit _ 1#1 1#1 3 (1) (by decide +kernel) (by decide +kernel) (by decide +kernel) (by decide +kernel)).symm)
  · exact (decB_lit _ 0#1 0#1 1#1 1#1 (by decide +kernel) (by decide +kernel) (by decide +kernel) (by decide +kernel)).trans (Eq.trans (congrArg (Ideal.ofBits .f32 0x00000000#32 - ·) mag_4) (decK_lit _ 0#1 1#1 4 (2) (by decide +kernel) (by decide +kernel) (by decide +kernel) (by decide +kernel)).symm)
  · exact (decB_lit _ 1#1 0#1 1#1 1#1 (by decide +kernel) (by decide +kernel) (by decide +kernel) (by decide +kernel)).trans (Eq.trans (congrArg (Ideal.ofBits .f32 0x00000000#32 - ·) mag_5) (decK_lit _ 0#1 1#1 5 (3) (by decide +kernel) (by decide +kernel) (by decide +kernel) (by decide +kernel)).symm)
  · exact (decB_lit _ 0#1 1#1 1#1 1#1 (by decide +kernel) (by decide +kernel) (by decide +kernel) (by decide +kernel)).trans (Eq.trans (congrArg (Ideal.ofBits .f32 0x00000000#32 - ·) mag_6) (decK_lit _ 0#1 1#1 6 (4) (by decide +kernel) (by decide +kernel) (by decide +kernel) (by decide +kernel)).symm)
  · exact (decB_lit _ 1#1 1#1 1#1 1#1 (by decide +kernel) (by decide +kernel) (by decide +kernel) (by decide +kernel)).trans (Eq.trans (congrArg (Ideal.ofBits .f32 0x00000000#32 - ·) mag_7) (decK_lit _ 0#1 1#1 7 (6) (by decide +kernel) (by decide +kernel) (by decide +kernel) (by decide +kernel)).symm)

theorem byte_lo : ∀ lo hi : BitVec 4, IntOp.andi (IntOp.ori (lo.setWidth 32) (IntOp.shli .vector (hi.setWidth 32) 4#32)) 15#32 = lo.setWidth 32 := by decide +kernel
theorem byte_hi : ∀ lo hi : BitVec 4, IntOp.shrsi .vector (IntOp.ori (lo.setWidth 32) (IntOp.shli .vector (hi.setWidth 32) 4#32)) 4#32 = hi.setWidth 32 := by decide +kernel
theorem byte_all : ∀ lo hi : BitVec 4, (IntOp.ori (lo.setWidth 32) (IntOp.shli .vector (hi.setWidth 32) 4#32)).setWidth 8 = hi ++ lo := by decide +kernel

section Cols
variable (sg : S16.Idx → EReal) (s : S2.Idx → EReal) (A2 : S2880x1152.Idx → EReal) (A3 : S3x384x5760.Idx → EReal) (A4 : S3x384x5760.Idx → BitVec 8) (A5 : S72x5760.Idx → EReal)

/-- The signs of a sign array, one by one. -/
def sgOf (n : Fin 16) : EReal := sg (ix1 n)
/-- The blocks' elements, rotated. -/
def vOf : S72x16x5760.Idx → EReal := vM (qM sg) A3
/-- The random bytes, block by block. -/
def bOf : S72x16x5760.Idx → BitVec 8 := shapeCast S72x16x5760 A4 shapeCasts_S3x384x5760_S72x16x5760

theorem bOf_apply (x : S72x16x5760.Idx) : bOf A4 x = A4 (ix3 (n0 := 3) (n1 := 384) ⟨(x 0).val / 24, by have h : (x 0).val < 72 := (x 0).isLt; omega⟩ ⟨16 * ((x 0).val % 24) + (x 1).val, by have h : (x 1).val < 16 := (x 1).isLt; omega⟩ (x 2)) := by
  unfold bOf
  pointwise
  refine congrArg (fun z => A4 (ix3 _ z _)) (Fin.ext ?_)
  exact congrArg (· + (x 1).val) (Nat.mul_comm _ _)

theorem vOf_apply (x : S72x16x5760.Idx) : vOf sg A3 x = ∑ j : Fin 16, qf (sgOf sg) (x 1) j * A3 (ix3 (n0 := 3) (n1 := 384) ⟨(x 0).val / 24, by have h : (x 0).val < 72 := (x 0).isLt; omega⟩ ⟨16 * ((x 0).val % 24) + j.val, by omega⟩ (x 2)) := by
  unfold vOf
  rw [vM_apply]
  refine Finset.sum_congr rfl fun j _ => ?_
  rw [qM_apply]
  rfl

/-- The word of an element's code. -/
theorem word_eq (t : EReal) (x : S72x8x2x5760.Idx) (i : Fin 16) (hi : i.val = 2 * (x 1).val + (x 2).val) :
    k0_pay8 (F := Ideal) (k0_pay5 (F := Ideal) t A5 (vOf sg A3)) (k0_pay6 (F := Ideal) t A5 (vOf sg A3)) (k0_pay7 (F := Ideal) t A5 (vOf sg A3)) (bOf A4) x
      = ((colA A3 A4 A5 (x 3)).nib (sgOf sg) t (x 0) i).setWidth 32 := by
  have h5 := pay5_apply t A5 (vOf sg A3) (ix3 (n0 := 72) (n1 := 16) (n2 := 5760) (x 0) i (x 3))
  have h6 : (k0_pay6 (F := Ideal) t A5 (vOf sg A3) : S72x16x5760.Idx → EReal) (ix3 (n0 := 72) (n1 := 16) (n2 := 5760) (x 0) i (x 3))
      = min (max ((k0_pay5 (F := Ideal) t A5 (vOf sg A3) : S72x16x5760.Idx → EReal) (ix3 (n0 := 72) (n1 := 16) (n2 := 5760) (x 0) i (x 3))) (-((k0_pay5 (F := Ideal) t A5 (vOf sg A3) : S72x16x5760.Idx → EReal) (ix3 (n0 := 72) (n1 := 16) (n2 := 5760) (x 0) i (x 3))))) (Ideal.ofBits .f32 0x40C00000#32) := rfl
  have h7 : (k0_pay7 (F := Ideal) t A5 (vOf sg A3) : S72x16x5760.Idx → EReal) (ix3 (n0 := 72) (n1 := 16) (n2 := 5760) (x 0) i (x 3))
      = Scalar.select (BitVec.ofBool (decide ((k0_pay6 (F := Ideal) t A5 (vOf sg A3) : S72x16x5760.Idx → EReal) (ix3 (n0 := 72) (n1 := 16) (n2 := 5760) (x 0) i (x 3)) < Ideal.ofBits .f32 0x40000000#32))) (Ideal.ofBits .f32 0x3F000000#32)
        (Scalar.select (BitVec.ofBool (decide ((k0_pay6 (F := Ideal) t A5 (vOf sg A3) : S72x16x5760.Idx → EReal) (ix3 (n0 := 72) (n1 := 16) (n2 := 5760) (x 0) i (x 3)) < Ideal.ofBits .f32 0x40800000#32))) (Ideal.ofBits .f32 0x3F800000#32) (Ideal.ofBits .f32 0x40000000#32)) := rfl
  simp only [sel_dec] at h7
  rw [pay8_apply _ _ _ _ x (ix3 (n0 := 72) (n1 := 16) (n2 := 5760) (x 0) i (x 3)) rfl hi rfl, wordS_eq _ _ _ _ h6 h7, refS_eq, h5, bOf_apply, vOf_apply]
  rfl

/-- A byte of two codes, as a word. -/
theorem GW_eq (z : S72x8x5760.Idx) (lo hi : Fin 16) (hlo : lo.val = 2 * (z 1).val) (hhi : hi.val = 2 * (z 1).val + 1) :
    GW (F := Ideal) (vOf sg A3) s (bOf A4) A5 z
      = IntOp.ori (((colA A3 A4 A5 (z 2)).nib (sgOf sg) (s (word 1)) (z 0) lo).setWidth 32) (IntOp.shli .vector (((colA A3 A4 A5 (z 2)).nib (sgOf sg) (s (word 1)) (z 0) hi).setWidth 32) 4#32) := by
  have e9 := (pay9_apply (k0_pay5 (F := Ideal) (s (word 1)) A5 (vOf sg A3)) (k0_pay6 (F := Ideal) (s (word 1)) A5 (vOf sg A3)) (k0_pay7 (F := Ideal) (s (word 1)) A5 (vOf sg A3)) (bOf A4) z).trans
    (word_eq sg A3 A4 A5 (s (word 1)) _ lo hlo)
  have e10 := (pay10_apply (k0_pay5 (F := Ideal) (s (word 1)) A5 (vOf sg A3)) (k0_pay6 (F := Ideal) (s (word 1)) A5 (vOf sg A3)) (k0_pay7 (F := Ideal) (s (word 1)) A5 (vOf sg A3)) (bOf A4) z).trans
    (word_eq sg A3 A4 A5 (s (word 1)) _ hi hhi)
  refine Eq.trans (b := IntOp.ori (k0_pay9 (F := Ideal) (k0_pay5 (F := Ideal) (s (word 1)) A5 (vOf sg A3)) (k0_pay6 (F := Ideal) (s (word 1)) A5 (vOf sg A3)) (k0_pay7 (F := Ideal) (s (word 1)) A5 (vOf sg A3)) (bOf A4) z) (IntOp.shli .vector (k0_pay10 (F := Ideal) (k0_pay5 (F := Ideal) (s (word 1)) A5 (vOf sg A3)) (k0_pay6 (F := Ideal) (s (word 1)) A5 (vOf sg A3)) (k0_pay7 (F := Ideal) (s (word 1)) A5 (vOf sg A3)) (bOf A4) z) 4#32)) rfl ?_
  rw [e9, e10]
  rfl

theorem G6_eq : G6 (F := Ideal) (vOf sg A3) s (bOf A4) A5 = Q8 (sgOf sg) (s (word 1)) (colA A3 A4 A5) := by
  funext y
  have h0 : (y 0).val < 3 := (y 0).isLt
  have h1 : (y 1).val < 192 := (y 1).isLt
  unfold G6 Q8
  rw [pay2_apply _ y (ix3 (n0 := 72) (n1 := 8) (n2 := 5760) ⟨24 * (y 0).val + (y 1).val / 8, by omega⟩ ⟨(y 1).val % 8, by omega⟩ (y 2)) rfl rfl rfl,
    GW_eq sg s A3 A4 A5 (ix3 (n0 := 72) (n1 := 8) (n2 := 5760) ⟨24 * (y 0).val + (y 1).val / 8, by omega⟩ ⟨(y 1).val % 8, by omega⟩ (y 2)) ⟨2 * ((y 1).val % 8), by omega⟩ ⟨2 * ((y 1).val % 8) + 1, by omega⟩ rfl rfl, byte_all]
  rfl

theorem G7_eq : G7 (F := Ideal) s A5 = Q9 (s (word 1)) (colA A3 A4 A5) := by
  funext y
  have h0 : (y 0).val < 3 := (y 0).isLt
  have h1 : (y 1).val < 24 := (y 1).isLt
  unfold G7 Q9
  rw [pay3_apply _ y (ix2 (n0 := 72) (n1 := 5760) ⟨24 * (y 0).val + (y 1).val, by omega⟩ (y 2)) rfl rfl, pay4_apply]
  rfl

/-- The dequantised elements before their scales. -/
theorem dq_eq (x : S72x16x5760.Idx) :
    (k0_pay14 (F := Ideal) (GW (F := Ideal) (vOf sg A3) s (bOf A4) A5)
      (k0_pay12 (F := Ideal) (k0_pay9 (F := Ideal) (k0_pay5 (F := Ideal) (s (word 1)) A5 (vOf sg A3)) (k0_pay6 (F := Ideal) (s (word 1)) A5 (vOf sg A3)) (k0_pay7 (F := Ideal) (s (word 1)) A5 (vOf sg A3)) (bOf A4))
        (k0_pay10 (F := Ideal) (k0_pay5 (F := Ideal) (s (word 1)) A5 (vOf sg A3)) (k0_pay6 (F := Ideal) (s (word 1)) A5 (vOf sg A3)) (k0_pay7 (F := Ideal) (s (word 1)) A5 (vOf sg A3)) (bOf A4)) 4#32) k0_pay13 : S72x16x5760.Idx → EReal) x
      = decK (((colA A3 A4 A5 (x 2)).nib (sgOf sg) (s (word 1)) (x 0) (x 1)).setWidth 32) := by
  have h1 : (x 1).val < 16 := (x 1).isLt
  have hG := GW_eq sg s A3 A4 A5 (ix3 (n0 := 72) (n1 := 8) (n2 := 5760) (x 0) ⟨(x 1).val / 2, by omega⟩ (x 2)) ⟨2 * ((x 1).val / 2), by omega⟩ ⟨2 * ((x 1).val / 2) + 1, by omega⟩ rfl rfl
  rw [pay14_apply _ _ x (ix3 (n0 := 72) (n1 := 8) (n2 := 5760) (x 0) ⟨(x 1).val / 2, by omega⟩ (x 2)) rfl rfl rfl]
  by_cases h : (x 1).val % 2 = 0
  · rw [if_pos h, pay12_apply]
    change decB (IntOp.andi (GW (F := Ideal) (vOf sg A3) s (bOf A4) A5 (ix3 (n0 := 72) (n1 := 8) (n2 := 5760) (x 0) ⟨(x 1).val / 2, by omega⟩ (x 2))) 15#32) = _
    rw [hG, byte_lo, dec_eq]
    have e : (⟨2 * ((x 1).val / 2), by omega⟩ : Fin 16) = x 1 := Fin.ext (show 2 * ((x 1).val / 2) = (x 1).val by omega)
    rw [e]
    rfl
  · rw [if_neg h, hG, byte_hi, dec_eq]
    have e : (⟨2 * ((x 1).val / 2) + 1, by omega⟩ : Fin 16) = x 1 := Fin.ext (show 2 * ((x 1).val / 2) + 1 = (x 1).val by omega)
    rw [e]
    rfl

theorem G5_eq : G5 (F := Ideal) (vOf sg A3) s (bOf A4) A5 A2 = Q7 (sgOf sg) (s (word 0)) (s (word 1)) A2 (colA A3 A4 A5) := by
  funext y
  unfold G5 Q7 rowCol
  rw [pay1_apply]
  congr 1
  refine Finset.sum_congr rfl fun k _ => ?_
  rw [dq_eq, pay15_apply, pay4_apply]
  rfl

end Cols

end Cert.ReferenceIdeal.Hand
-- ==== Proof.RefResults.lean ====
module

public import proofs.«01_k».proof.Proof.RefCol

@[expose] public section

set_option maxRecDepth 65536

noncomputable section

/-! The reference's run: what its three result arrays hold at its end, column by column. -/

namespace Cert.ReferenceIdeal.Hand

open Cert.ReferenceIdeal Cert.ReferenceIdeal.Gen Cert.ReferenceIdeal.Value
open Idealize.ShloMosaic Idealize.ShloMosaic.TcCoe
open Idealize.SL.Sem
open Cert.KernelIdeal.Hand (Col colA Q7 Q8 Q9)

variable (m : (ℓ : Loc nD τ sig) → Buf (Elt Ideal) ℓ) (ρ : Dev nD → PrngReg)

/-- The columns a device is given. -/
def colR (c : Dev nD) : Fin 5760 → Col :=
  colA (m ((c : Thread nD τ).loc main_arg3)) (m ((c : Thread nD τ).loc main_arg4)) (m ((c : Thread nD τ).loc main_arg5))
/-- The signs and the two tensor scales a device is given. -/
def sgR (c : Dev nD) : Fin 16 → EReal := sgOf (m ((c : Thread nD τ).loc main_arg0))
@[inherit_doc sgR] def tsR (c : Dev nD) (k : Fin 2) : EReal := (m ((c : Thread nD τ).loc main_arg1) : S2.Idx → EReal) (word k)

theorem res5 (c : Dev nD) : (dats m 0 c).arrAt 5 cfg0.N = Q7 (sgR m c) (tsR m c 0) (tsR m c 1) (m ((c : Thread nD τ).loc main_arg2)) (colR m c) := by
  rw [final5, V_v, V_b, V_main_arg1, V_main_arg2, V_main_arg5]
  exact G5_eq _ _ _ _ _ _

theorem res6 (c : Dev nD) : (dats m 0 c).arrAt 6 cfg0.N = Q8 (sgR m c) (tsR m c 1) (colR m c) := by
  rw [final6, V_v, V_b, V_main_arg1, V_main_arg5]
  exact G6_eq _ _ _ _ _

theorem res7 (c : Dev nD) : (dats m 0 c).arrAt 7 cfg0.N = Q9 (tsR m c 1) (colR m c) := by
  rw [final7, V_main_arg1, V_main_arg5]
  exact G7_eq _ (m ((c : Thread nD τ).loc main_arg3)) (m ((c : Thread nD τ).loc main_arg4)) _

end Cert.ReferenceIdeal.Hand
-- ==== Proof.Algebraic.lean ====
module

public import proofs.«01_k».proof.Defs
public import proofs.«01_k».proof.Proof.Gen.Pre_positive_scale
public import proofs.«01_k».proof.Proof.Results
public import proofs.«01_k».proof.Proof.RefResults

@[expose] public section

set_option maxRecDepth 65536

noncomputable section

/-! The two programs end with equal results: both results are the same functions of the columns. -/

namespace Cert.Proof

open Idealize.ShloMosaic Idealize.ShloMosaic.TcCoe Idealize.SL.Sem
open Cert.KernelIdeal.Hand (R7 R8 R9 tsM sgM colM colA Q7 Q8 Q9 c_0)
open Cert.ReferenceIdeal.Hand (tsR sgR colR word sgOf)

/-- The precondition: the second tensor scale is positive. -/
theorem scale_pos (m : (ℓ : Loc Cert.KernelIdeal.nD Cert.KernelIdeal.τ Cert.KernelIdeal.sig) → Buf (Elt Ideal) ℓ) (h : Pre_KernelIdeal_positive_scale m) (c : Dev Cert.KernelIdeal.nD) :
    0 < tsM m c 1 := by
  have e := congrFun (h c) (fun a => a.elim0)
  have e' : BitVec.ofBool (decide (Ideal.ofBits .f32 0x00000000#32 < tsM m c 1)) = 1#1 := by
    refine Eq.trans ?_ e
    refine congrArg (fun x : EReal => BitVec.ofBool (decide (Ideal.ofBits .f32 0x00000000#32 < x))) ?_
    unfold tsM
    refine congrArg (m ((c.tc : Thread Cert.KernelIdeal.nD Cert.KernelIdeal.τ).loc Cert.KernelIdeal.main_arg1)) (funext fun a => ?_)
    match a with
    | ⟨0, _⟩ => rfl
  rw [c_0] at e'
  by_contra hn
  rw [decide_eq_false (by simpa using hn)] at e'
  exact absurd e' (by decide)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))

include h0 in
theorem sg_eq : sgR m' c = sgM m c := by
  funext n
  exact congrFun h0 (ix1 n)

include h1 in
theorem ts_eq (k : Fin 2) : tsR m' c k = tsM m c k := by
  refine Eq.trans (congrFun h1 (word k)) ?_
  unfold tsM
  refine congrArg (m ((c.tc : Thread Cert.KernelIdeal.nD Cert.KernelIdeal.τ).loc Cert.KernelIdeal.main_arg1)) (funext fun a => ?_)
  match a with
  | ⟨0, _⟩ => rfl

include h3 h4 h5 in
theorem col_eq : colR m' c = colM m c := by
  unfold colR colM
  rw [h3, h4, h5]

end

theorem algebraic : algebraic_KernelIdeal_ReferenceIdeal_pre_positive_scale := by
  intro m g m' g' hp ha
  have hts := scale_pos m hp
  refine ⟨R7 m, R8 m, R9 m, Cert.KernelIdeal.Hand.kernelRun_value m g hts, ?_⟩
  refine (θ_run Cert.ReferenceIdeal.defs _ _).mono (fun r h c => ?_) (Cert.ReferenceIdeal.Value.run_blocks m' g')
  obtain ⟨a0, a1, a2, a3, a4, a5⟩ := ha c
  have es := sg_eq m m' c a0
  have et := ts_eq m m' c a1
  have ec := col_eq m m' c a3 a4 a5
  obtain ⟨r0, r1, r2, rest⟩ := h c
  refine ⟨r0.trans ?_, r1.trans ?_, r2.trans ?_, rest⟩
  · rw [Cert.ReferenceIdeal.Hand.res5, es, et, et, ec, a2]
    rfl
  · rw [Cert.ReferenceIdeal.Hand.res6, es, et, ec]
    rfl
  · rw [Cert.ReferenceIdeal.Hand.res7, et, ec]
    rfl

end Cert.Proof
-- ==== Proof.lean ====
module
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel.Skeleton
public import proofs.«01_k».proof.Proof.Gen.KernelIdeal.Skeleton
public import proofs.«01_k».proof.Proof.Gen.Kernel.Frame
public import proofs.«01_k».proof.Proof.Gen.KernelIdeal.Frame
public import proofs.«01_k».proof.Proof.Gen.ReferenceIdeal.Value
public import proofs.«01_k».proof.Proof.KFrame
public import proofs.«01_k».proof.Proof.IFrame
public import proofs.«01_k».proof.Proof.Gen.Pre_positive_scale
public import proofs.«01_k».proof.Proof.Algebraic

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_positive_scale.Gen.facts,
    fun m ρ _ => Cert.Kernel.Hand.quiescent m ρ,
    fun m ρ _ => Cert.KernelIdeal.Hand.quiescent m ρ,
    fun m ρ _ => Cert.KernelIdeal.Hand.quiescent m ρ,
    fun m ρ _ => Cert.ReferenceIdeal.Gen.frame m ρ,
    fun m ρ _ => Cert.ReferenceIdeal.Gen.frame m ρ,
    trivial,
    algebraic⟩

end Cert.Proof

end
